-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_logits_finite [hPre_logits_finite : Cert.Pre_logits_finite.Facts] (m : (ℓ : Loc Cert.KernelIdeal.nD Cert.KernelIdeal.τ Cert.KernelIdeal.sig) → Buf (Elt Ideal) ℓ) : Prop :=
  ∀ c : Dev Cert.KernelIdeal.nD,
    (Cert.Pre_logits_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_logits_finite [hPre_logits_finite : Cert.Pre_logits_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_logits_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_forget_below_inf [hPre_forget_below_inf : Cert.Pre_forget_below_inf.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_forget_below_inf.fn (F := Ideal) (m ((c.tc : Thread Cert.Kernel5Ideal.nD Cert.Kernel5Ideal.τ).loc Cert.Kernel5Ideal.main_arg0))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_forget_below_inf [hPre_forget_below_inf : Cert.Pre_forget_below_inf.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_forget_below_inf.fn (F := Ideal) (m ((c.tc : Thread Cert.Reference5Ideal.nD Cert.Reference5Ideal.τ).loc Cert.Reference5Ideal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_logits_finite [hKernelIdeal : Cert.KernelIdeal.Facts] [hPre_logits_finite : Cert.Pre_logits_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_logits_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_logits_finite [hReferenceIdeal : Cert.ReferenceIdeal.Facts] [hPre_logits_finite : Cert.Pre_logits_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_logits_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ r.2.sem = fun _ => 0)

def quiescent_Kernel5Ideal_pre_forget_below_inf [hKernel5Ideal : Cert.Kernel5Ideal.Facts] [hPre_forget_below_inf : Cert.Pre_forget_below_inf.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_forget_below_inf m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0))
      ∧ r.2.sem = fun _ => 0)

def quiescent_Reference5Ideal_pre_forget_below_inf [hReference5Ideal : Cert.Reference5Ideal.Facts] [hPre_forget_below_inf : Cert.Pre_forget_below_inf.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_forget_below_inf m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0))
      ∧ r.2.sem = fun _ => 0)

def preserves_Kernel_KernelIdeal : Prop :=
  True

def algebraic_KernelIdeal_ReferenceIdeal_pre_logits_finite [hKernelIdeal : Cert.KernelIdeal.Facts] [hReferenceIdeal : Cert.ReferenceIdeal.Facts] [hPre_logits_finite : Cert.Pre_logits_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_logits_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v24) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_on_head_lanes [hKernel3Ideal : Cert.Kernel3Ideal.Facts] [hReference3Ideal : Cert.Reference3Ideal.Facts] [hOn_head_lanes : Cert.On_head_lanes.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v42_0)) (v1 : (c : Dev Cert.Kernel3Ideal.nD) → Buf (Elt Ideal) ((c.tc : Thread Cert.Kernel3Ideal.nD Cert.Kernel3Ideal.τ).loc Cert.Kernel3Ideal.main_v42_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          (∀ i : (⟨3, ![10, 8448, 1024]⟩ : Shape).Idx, (Cert.On_head_lanes.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).1 i = 1#1 → r.2.mem ((c.tc : Thread Cert.Kernel3Ideal.nD Cert.Kernel3Ideal.τ).loc Cert.Kernel3Ideal.main_v42_0) i = v0 c i)
          ∧ (∀ i : (⟨2, ![8448, 128]⟩ : Shape).Idx, (Cert.On_head_lanes.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2 i = 1#1 → r.2.mem ((c.tc : Thread Cert.Kernel3Ideal.nD Cert.Kernel3Ideal.τ).loc Cert.Kernel3Ideal.main_v42_1) i = v1 c i)
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          (∀ i : (⟨3, ![10, 8448, 1024]⟩ : Shape).Idx, (Cert.On_head_lanes.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).1 i = 1#1 → r.2.mem ((c.tc : Thread Cert.Reference3Ideal.nD Cert.Reference3Ideal.τ).loc Cert.Reference3Ideal.main_v120) i = v0 c i)
          ∧ (∀ i : (⟨2, ![8448, 128]⟩ : Shape).Idx, (Cert.On_head_lanes.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2 i = 1#1 → r.2.mem ((c.tc : Thread Cert.Reference3Ideal.nD Cert.Reference3Ideal.τ).loc Cert.Reference3Ideal.main_v121) i = v1 c i)
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v21) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal_pre_forget_below_inf [hKernel5Ideal : Cert.Kernel5Ideal.Facts] [hReference5Ideal : Cert.Reference5Ideal.Facts] [hPre_forget_below_inf : Cert.Pre_forget_below_inf.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_forget_below_inf m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)) →
    ∃ (v0 : (c : Dev Cert.Kernel5Ideal.nD) → Buf (Elt Ideal) ((c.tc : Thread Cert.Kernel5Ideal.nD Cert.Kernel5Ideal.τ).loc Cert.Kernel5Ideal.main_v31)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v31) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v15) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_logits_finite : Cert.Pre_logits_finite.Facts) (hPre_forget_below_inf : Cert.Pre_forget_below_inf.Facts) (hOn_head_lanes : Cert.On_head_lanes.Facts),
    quiescent_Kernel (hKernel := hKernel)
    ∧ quiescent_KernelIdeal (hKernelIdeal := hKernelIdeal)
    ∧ quiescent_KernelIdeal_pre_logits_finite (hKernelIdeal := hKernelIdeal) (hPre_logits_finite := hPre_logits_finite)
    ∧ quiescent_ReferenceIdeal (hReferenceIdeal := hReferenceIdeal)
    ∧ quiescent_ReferenceIdeal_pre_logits_finite (hReferenceIdeal := hReferenceIdeal) (hPre_logits_finite := hPre_logits_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_forget_below_inf (hKernel5Ideal := hKernel5Ideal) (hPre_forget_below_inf := hPre_forget_below_inf)
    ∧ quiescent_Reference5Ideal (hReference5Ideal := hReference5Ideal)
    ∧ quiescent_Reference5Ideal_pre_forget_below_inf (hReference5Ideal := hReference5Ideal) (hPre_forget_below_inf := hPre_forget_below_inf)
    ∧ preserves_Kernel_KernelIdeal
    ∧ algebraic_KernelIdeal_ReferenceIdeal_pre_logits_finite (hKernelIdeal := hKernelIdeal) (hReferenceIdeal := hReferenceIdeal) (hPre_logits_finite := hPre_logits_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_on_head_lanes (hKernel3Ideal := hKernel3Ideal) (hReference3Ideal := hReference3Ideal) (hOn_head_lanes := hOn_head_lanes)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_forget_below_inf (hKernel5Ideal := hKernel5Ideal) (hReference5Ideal := hReference5Ideal) (hPre_forget_below_inf := hPre_forget_below_inf)
-- ==== On_head_lanes.lean ====
abbrev S8448x2048 : Shape := ⟨2, ![8448, 2048]⟩
abbrev S1x2048 : Shape := ⟨2, ![1, 2048]⟩
abbrev S1x2048x10248 : Shape := ⟨3, ![1, 2048, 10248]⟩
abbrev S1x8 : Shape := ⟨2, ![1, 8]⟩
abbrev S1x128 : Shape := ⟨2, ![1, 128]⟩
abbrev S8448x128 : Shape := ⟨2, ![8448, 128]⟩
abbrev S_ : Shape := ⟨0, ![]⟩
abbrev S10x8448x1024 : Shape := ⟨3, ![10, 8448, 1024]⟩

class Facts : Prop where
  bcast_S_S10x8448x1024 : S_.BroadcastsInDim S10x8448x1024 (![] : Fin 0 → Fin S10x8448x1024.rank)
  bcast_S_S8448x128 : S_.BroadcastsInDim S8448x128 (![] : Fin 0 → Fin S8448x128.rank)

variable [Facts]

def fn {F : FTy → Type} [FloatOps F] (main_arg0 : FVec F S8448x2048 .f32) (main_arg1 : FVec F S1x2048 .f32) (main_arg2 : FVec F S1x2048x10248 .f32) (main_arg3 : FVec F S1x8 .f32) (main_arg4 : FVec F S1x128 .f32) (main_arg5 : FVec F S1x128 .f32) (main_arg6 : FVec F S1x128 .f32) (main_arg7 : FVec F S1x128 .f32) : IVec S10x8448x1024 1 × IVec S8448x128 1 :=
  let main_v0 : IVec S8448x128 32 := iotaInDim S8448x128 32 1
  let main_c : IVec S_ 1 := constantI S_ 1 1#1
  let main_v1 : IVec S10x8448x1024 1 := broadcastInDim S10x8448x1024 ![] bcast_S_S10x8448x1024 main_c
  let main_c_0 : IVec S_ 32 := constantI S_ 32 8#32
  let main_v2 : IVec S8448x128 32 := broadcastInDim S8448x128 ![] bcast_S_S8448x128 main_c_0
  let main_v3 : IVec S8448x128 1 := cmpi .slt main_v0 main_v2
  (main_v1, main_v3)
-- ==== Pre_forget_below_inf.lean ====
abbrev S8448x128 : Shape := ⟨2, ![8448, 128]⟩
abbrev S8192x8 : Shape := ⟨2, ![8192, 8]⟩
abbrev S_ : Shape := ⟨0, ![]⟩

class Facts : Prop where
  slices_S8448x128_S8192x8_0_0 : S8448x128.Slices ![0, 0] S8192x8
  bcast_S_S8192x8 : S_.BroadcastsInDim S8192x8 (![] : Fin 0 → Fin S8192x8.rank)
  reducesTo_S8192x8_S_d0_1 : S8192x8.ReducesTo [0, 1] S_
  h_S_ : 0 < S_.numel

variable [Facts]

def fn {F : FTy → Type} [FloatOps F] (main_arg0 : FVec F S8448x128 .f32) : IVec S_ 1 :=
  let main_v0 : FVec F S8192x8 .f32 := (extractStridedSlice S8192x8 ![0, 0] · slices_S8448x128_S8192x8_0_0) main_arg0
  let main_cst : FVec F S_ .f32 := constant S_ .f32 0x7F800000#32
  let main_v1 : FVec F S8192x8 .f32 := broadcastInDim S8192x8 ![] bcast_S_S8192x8 main_cst
  let main_v2 : IVec S8192x8 1 := cmpf .olt main_v0 main_v1
  let main_c : IVec S_ 1 := constantI S_ 1 1#1
  let main_v3 : IVec S_ 1 := (fun x v => Host.reduce IntOp.andi x v reducesTo_S8192x8_S_d0_1 h_S_) main_v2 main_c
  main_v3
-- ==== Pre_logits_finite.lean ====
abbrev S10x8448x1024 : Shape := ⟨3, ![10, 8448, 1024]⟩
abbrev S2x8x16x1x256 : Shape := ⟨5, ![2, 8, 16, 1, 256]⟩
abbrev S1x8192x1024 : Shape := ⟨3, ![1, 8192, 1024]⟩
abbrev S8192x1024 : Shape := ⟨2, ![8192, 1024]⟩
abbrev S_ : Shape := ⟨0, ![]⟩

class Facts : Prop where
  slices_S10x8448x1024_S1x8192x1024_3_0_0 : S10x8448x1024.Slices ![3, 0, 0] S1x8192x1024
  shapeCasts_S1x8192x1024_S8192x1024 : S1x8192x1024.ShapeCasts S8192x1024
  bcast_S_S8192x1024 : S_.BroadcastsInDim S8192x1024 (![] : Fin 0 → Fin S8192x1024.rank)
  reducesTo_S8192x1024_S_d0_1 : S8192x1024.ReducesTo [0, 1] S_
  h_S_ : 0 < S_.numel
  slices_S10x8448x1024_S1x8192x1024_4_0_0 : S10x8448x1024.Slices ![4, 0, 0] S1x8192x1024
  bcast_S_S2x8x16x1x256 : S_.BroadcastsInDim S2x8x16x1x256 (![] : Fin 0 → Fin S2x8x16x1x256.rank)
  reducesTo_S2x8x16x1x256_S_d0_1_2_3_4 : S2x8x16x1x256.ReducesTo [0, 1, 2, 3, 4] S_

variable [Facts]

def fn {F : FTy → Type} [FloatOps F] (main_arg0 : FVec F S10x8448x1024 .f32) (main_arg1 : FVec F S2x8x16x1x256 .f32) : IVec S_ 1 :=
  let main_v0 : FVec F S1x8192x1024 .f32 := (extractStridedSlice S1x8192x1024 ![3, 0, 0] · slices_S10x8448x1024_S1x8192x1024_3_0_0) main_arg0
  let main_v1 : FVec F S8192x1024 .f32 := shapeCast S8192x1024 main_v0 shapeCasts_S1x8192x1024_S8192x1024
  let main_v2 : FVec F S8192x1024 .f32 := Host.absf main_v1
  let main_cst : FVec F S_ .f32 := constant S_ .f32 0x7F800000#32
  let main_v3 : FVec F S8192x1024 .f32 := broadcastInDim S8192x1024 ![] bcast_S_S8192x1024 main_cst
  let main_v4 : IVec S8192x1024 1 := cmpf .olt main_v2 main_v3
  let main_c : IVec S_ 1 := constantI S_ 1 1#1
  let main_v5 : IVec S_ 1 := (fun x v => Host.reduce IntOp.andi x v reducesTo_S8192x1024_S_d0_1 h_S_) main_v4 main_c
  let main_v6 : FVec F S1x8192x1024 .f32 := (extractStridedSlice S1x8192x1024 ![4, 0, 0] · slices_S10x8448x1024_S1x8192x1024_4_0_0) main_arg0
  let main_v7 : FVec F S8192x1024 .f32 := shapeCast S8192x1024 main_v6 shapeCasts_S1x8192x1024_S8192x1024
  let main_v8 : FVec F S8192x1024 .f32 := Host.absf main_v7
  let main_cst_0 : FVec F S_ .f32 := constant S_ .f32 0x7F800000#32
  let main_v9 : FVec F S8192x1024 .f32 := broadcastInDim S8192x1024 ![] bcast_S_S8192x1024 main_cst_0
  let main_v10 : IVec S8192x1024 1 := cmpf .olt main_v8 main_v9
  let main_c_1 : IVec S_ 1 := constantI S_ 1 1#1
  let main_v11 : IVec S_ 1 := (fun x v => Host.reduce IntOp.andi x v reducesTo_S8192x1024_S_d0_1 h_S_) main_v10 main_c_1
  let main_v12 : IVec S_ 1 := andi main_v5 main_v11
  let main_v13 : FVec F S2x8x16x1x256 .f32 := Host.absf main_arg1
  let main_cst_2 : FVec F S_ .f32 := constant S_ .f32 0x7F800000#32
  let main_v14 : FVec F S2x8x16x1x256 .f32 := broadcastInDim S2x8x16x1x256 ![] bcast_S_S2x8x16x1x256 main_cst_2
  let main_v15 : IVec S2x8x16x1x256 1 := cmpf .olt main_v13 main_v14
  let main_c_3 : IVec S_ 1 := constantI S_ 1 1#1
  let main_v16 : IVec S_ 1 := (fun x v => Host.reduce IntOp.andi x v reducesTo_S2x8x16x1x256_S_d0_1_2_3_4 h_S_) main_v15 main_c_3
  let main_v17 : IVec S_ 1 := andi main_v12 main_v16
  main_v17
-- ==== Kernel.lean ====
abbrev S10x8448x1024 : Shape := ⟨3, ![10, 8448, 1024]⟩
abbrev S2x8x16x1x256 : Shape := ⟨5, ![2, 8, 16, 1, 256]⟩
abbrev S8192x1024 : Shape := ⟨2, ![8192, 1024]⟩
abbrev S1x1024x128 : Shape := ⟨3, ![1, 1024, 128]⟩
abbrev S1x4096x128 : Shape := ⟨3, ![1, 4096, 128]⟩
abbrev S1x1x16x1x256 : Shape := ⟨5, ![1, 1, 16, 1, 256]⟩
abbrev S1024x128 : Shape := ⟨2, ![1024, 128]⟩
abbrev S4096x128 : Shape := ⟨2, ![4096, 128]⟩
abbrev S256x256 : Shape := ⟨2, ![256, 256]⟩
abbrev S256x128 : Shape := ⟨2, ![256, 128]⟩
abbrev S1x1x1x1x256 : Shape := ⟨5, ![1, 1, 1, 1, 256]⟩
abbrev S1x256 : Shape := ⟨2, ![1, 256]⟩
abbrev S256x1 : Shape := ⟨2, ![256, 1]⟩
abbrev S256 : Shape := ⟨1, ![256]⟩
abbrev S512x128 : Shape := ⟨2, ![512, 128]⟩
abbrev S256x512 : Shape := ⟨2, ![256, 512]⟩
abbrev S1x512 : Shape := ⟨2, ![1, 512]⟩
abbrev S768x128 : Shape := ⟨2, ![768, 128]⟩
abbrev S256x768 : Shape := ⟨2, ![256, 768]⟩
abbrev S1x768 : Shape := ⟨2, ![1, 768]⟩
abbrev S1x1024 : Shape := ⟨2, ![1, 1024]⟩
abbrev S256x1024 : Shape := ⟨2, ![256, 1024]⟩

abbrev nBuf : Space → Nat
  | .hbm => 3
  | .vmem => 12
  | .smem => 0
  | _ => 0

abbrev bufTy : (tb : Table) → Fin (tcTables nBuf tb) → BufTy
  | .hbm, ⟨0, _⟩ => ⟨S10x8448x1024, .f32⟩
  | .hbm, ⟨1, _⟩ => ⟨S2x8x16x1x256, .f32⟩
  | .hbm, ⟨2, _⟩ => ⟨S8192x1024, .f32⟩
  | .local _ .vmem, ⟨0, _⟩ => ⟨S1x1024x128, .f32⟩
  | .local _ .vmem, ⟨1, _⟩ => ⟨S1x1024x128, .f32⟩
  | .local _ .vmem, ⟨2, _⟩ => ⟨S1x4096x128, .f32⟩
  | .local _ .vmem, ⟨3, _⟩ => ⟨S1x4096x128, .f32⟩
  | .local _ .vmem, ⟨4, _⟩ => ⟨S1x4096x128, .f32⟩
  | .local _ .vmem, ⟨5, _⟩ => ⟨S1x4096x128, .f32⟩
  | .local _ .vmem, ⟨6, _⟩ => ⟨S1x1x16x1x256, .f32⟩
  | .local _ .vmem, ⟨7, _⟩ => ⟨S1x1x16x1x256, .f32⟩
  | .local _ .vmem, ⟨8, _⟩ => ⟨S1024x128, .f32⟩
  | .local _ .vmem, ⟨9, _⟩ => ⟨S1024x128, .f32⟩
  | .local _ .vmem, ⟨10, _⟩ => ⟨S4096x128, .bf16⟩
  | .local _ .vmem, ⟨11, _⟩ => ⟨S4096x128, .bf16⟩
  | _, _ => ⟨S10x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 8, 4], ![false, false, false]⟩

def k0_mult1 (i : grid0.Coords) : BitVec 32 :=
  let arg2 : BitVec 32 := BitVec.ofNat 32 (i 2).val
  let c4_i32 : BitVec 32 := 4#32
  let v3 : BitVec 32 := Scalar.muli arg2 c4_i32
  let c256_i32 : BitVec 32 := 256#32
  let v11 : BitVec 32 := Scalar.muli v3 c256_i32
  v11
def k0_mult2 (i : grid0.Coords) : BitVec 32 :=
  let arg2 : BitVec 32 := BitVec.ofNat 32 (i 2).val
  let c4_i32 : BitVec 32 := 4#32
  let v3 : BitVec 32 := Scalar.muli arg2 c4_i32
  let c0_i32_3 : BitVec 32 := 0#32
  let v13 : BitVec 32 := Scalar.addi v3 c0_i32_3
  let c256_i32_4 : BitVec 32 := 256#32
  let v14 : BitVec 32 := Scalar.muli v13 c256_i32_4
  v14
def k0_off1 (i : grid0.Coords) (c0_i32_3 : BitVec 32) : Fin 2 → Nat :=
  let arg2 : BitVec 32 := BitVec.ofNat 32 (i 2).val
  let c4_i32 : BitVec 32 := 4#32
  let v3 : BitVec 32 := Scalar.muli arg2 c4_i32
  let v13 : BitVec 32 := Scalar.addi v3 c0_i32_3
  let c256_i32_4 : BitVec 32 := 256#32
  let v14 : BitVec 32 := Scalar.muli v13 c256_i32_4
  let v15 : BitVec 32 := v14
  let v17 : Index := Scalar.indexCast v15
  let c0_5 : Index := 0#32
  ![v17.toNat, 0]
def k0_off2 (i : grid0.Coords) (c0_i32_7 : BitVec 32) : Fin 5 → Nat :=
  let c0_8 : Index := 0#32
  let c0_9 : Index := 0#32
  let arg2 : BitVec 32 := BitVec.ofNat 32 (i 2).val
  let c4_i32 : BitVec 32 := 4#32
  let v3 : BitVec 32 := Scalar.muli arg2 c4_i32
  let v20 : BitVec 32 := Scalar.addi v3 c0_i32_7
  let v21 : Index := Scalar.indexCast v20
  let c0_10 : Index := 0#32
  let c0_11 : Index := 0#32
  ![0, 0, v21.toNat, 0, 0]
def k0_mult3 (i : grid0.Coords) : BitVec 32 :=
  let arg2 : BitVec 32 := BitVec.ofNat 32 (i 2).val
  let c4_i32 : BitVec 32 := 4#32
  let v3 : BitVec 32 := Scalar.muli arg2 c4_i32
  let c1_i32 : BitVec 32 := 1#32
  let v51 : BitVec 32 := Scalar.addi v3 c1_i32
  let c256_i32_20 : BitVec 32 := 256#32
  let v52 : BitVec 32 := Scalar.muli v51 c256_i32_20
  v52
def k0_off3 (i : grid0.Coords) : Fin 2 → Nat :=
  let arg2 : BitVec 32 := BitVec.ofNat 32 (i 2).val
  let c4_i32 : BitVec 32 := 4#32
  let v3 : BitVec 32 := Scalar.muli arg2 c4_i32
  let c256_i32 : BitVec 32 := 256#32
  let v11 : BitVec 32 := Scalar.muli v3 c256_i32
  let v12 : BitVec 32 := v11
  let v90 : Index := Scalar.indexCast v12
  let c0_36 : Index := 0#32
  ![v90.toNat, 0]
def k0_mult4 (i : grid0.Coords) : BitVec 32 :=
  let arg2 : BitVec 32 := BitVec.ofNat 32 (i 2).val
  let c4_i32 : BitVec 32 := 4#32
  let v3 : BitVec 32 := Scalar.muli arg2 c4_i32
  let c2_i32 : BitVec 32 := 2#32
  let v118 : BitVec 32 := Scalar.addi v3 c2_i32
  let c256_i32_47 : BitVec 32 := 256#32
  let v119 : BitVec 32 := Scalar.muli v118 c256_i32_47
  v119
def k0_off4 (i : grid0.Coords) : Fin 2 → Nat :=
  let arg2 : BitVec 32 := BitVec.ofNat 32 (i 2).val
  let c4_i32 : BitVec 32 := 4#32
  let v3 : BitVec 32 := Scalar.muli arg2 c4_i32
  let c256_i32 : BitVec 32 := 256#32
  let v11 : BitVec 32 := Scalar.muli v3 c256_i32
  let v12 : BitVec 32 := v11
  let v157 : Index := Scalar.indexCast v12
  let c0_63 : Index := 0#32
  ![v157.toNat, 0]
def k0_mult5 (i : grid0.Coords) : BitVec 32 :=
  let arg2 : BitVec 32 := BitVec.ofNat 32 (i 2).val
  let c4_i32 : BitVec 32 := 4#32
  let v3 : BitVec 32 := Scalar.muli arg2 c4_i32
  let c3_i32 : BitVec 32 := 3#32
  let v190 : BitVec 32 := Scalar.addi v3 c3_i32
  let c256_i32_79 : BitVec 32 := 256#32
  let v191 : BitVec 32 := Scalar.muli v190 c256_i32_79
  v191
def k0_off5 (i : grid0.Coords) : Fin 2 → Nat :=
  let arg2 : BitVec 32 := BitVec.ofNat 32 (i 2).val
  let c4_i32 : BitVec 32 := 4#32
  let v3 : BitVec 32 := Scalar.muli arg2 c4_i32
  let c256_i32 : BitVec 32 := 256#32
  let v11 : BitVec 32 := Scalar.muli v3 c256_i32
  let v12 : BitVec 32 := v11
  let v229 : Index := Scalar.indexCast v12
  let c0_95 : Index := 0#32
  ![v229.toNat, 0]
@[reducible] def k0_t1_loop (i : grid0.Coords) : Scf.Loop 32 :=
  let c0_i32_123 : BitVec 32 := 0#32
  let arg2 : BitVec 32 := BitVec.ofNat 32 (i 2).val
  let c4_i32 : BitVec 32 := 4#32
  let v3 : BitVec 32 := Scalar.muli arg2 c4_i32
  let c0_i32_117 : BitVec 32 := 0#32
  let v267 : BitVec 1 := Scalar.cmpi .sgt v3 c0_i32_117
  let v268 : BitVec 32 := Scalar.extui v267
  let c0_i32_118 : BitVec 32 := 0#32
  let v269 : BitVec 1 := Scalar.cmpi .slt v3 c0_i32_118
  let v270 : BitVec 32 := Scalar.extui v269
  let v271 : BitVec 32 := Scalar.subi v268 v270
  let c4_i32_116 : BitVec 32 := 4#32
  let c0_i32_119 : BitVec 32 := 0#32
  let v272 : BitVec 1 := Scalar.cmpi .sgt c4_i32_116 c0_i32_119
  let v273 : BitVec 32 := Scalar.extui v272
  let c0_i32_120 : BitVec 32 := 0#32
  let v274 : BitVec 1 := Scalar.cmpi .slt c4_i32_116 c0_i32_120
  let v275 : BitVec 32 := Scalar.extui v274
  let v276 : BitVec 32 := Scalar.subi v273 v275
  let v277 : BitVec 1 := Scalar.cmpi .ne v271 v276
  let v278 : BitVec 32 := Scalar.remsi v3 c4_i32_116
  let c0_i32_121 : BitVec 32 := 0#32
  let v279 : BitVec 1 := Scalar.cmpi .ne v278 c0_i32_121
  let v280 : BitVec 1 := Scalar.andi v277 v279
  let v266 : BitVec 32 := Scalar.divsi v3 c4_i32_116
  let c1_i32_122 : BitVec 32 := 1#32
  let v281 : BitVec 32 := Scalar.subi v266 c1_i32_122
  let v282 : BitVec 32 := Scalar.select v280 v281 v266
  let v283 : BitVec 32 := Scalar.subi v282 c0_i32_123
  let c1_i32_124 : BitVec 32 := 1#32
  let v285 : BitVec 32 := Scalar.divsi v283 c1_i32_124
  let v286 : BitVec 32 := Scalar.muli v285 c1_i32_124
  let v287 : BitVec 32 := Scalar.addi c0_i32_123 v286
  let c1_i32_125 : BitVec 32 := 1#32
  ⟨c0_i32_123, v287, c1_i32_125⟩
def k0_mult6 (i : grid0.Coords) (k0_t1 : Fin (k0_t1_loop i).trips) : BitVec 32 :=
  let c0_i32_123 : BitVec 32 := 0#32
  let c1_i32_125 : BitVec 32 := 1#32
  let arg10 : BitVec 32 := Scf.iv c0_i32_123 c1_i32_125 k0_t1
  let c4_i32_132 : BitVec 32 := 4#32
  let v302 : BitVec 32 := Scalar.muli arg10 c4_i32_132
  let c256_i32_133 : BitVec 32 := 256#32
  let v303 : BitVec 32 := Scalar.muli v302 c256_i32_133
  v303
def k0_off6 (i : grid0.Coords) (k0_t1 : Fin (k0_t1_loop i).trips) : Fin 2 → Nat :=
  let c0_i32_123 : BitVec 32 := 0#32
  let c1_i32_125 : BitVec 32 := 1#32
  let arg10 : BitVec 32 := Scf.iv c0_i32_123 c1_i32_125 k0_t1
  let c4_i32_132 : BitVec 32 := 4#32
  let v302 : BitVec 32 := Scalar.muli arg10 c4_i32_132
  let c256_i32_133 : BitVec 32 := 256#32
  let v303 : BitVec 32 := Scalar.muli v302 c256_i32_133
  let v304 : BitVec 32 := v303
  let v305 : Index := Scalar.indexCast v304
  let c0_134 : Index := 0#32
  ![v305.toNat, 0]
def k0_off7 (i : grid0.Coords) (k0_t1 : Fin (k0_t1_loop i).trips) (c0_i32_137 : BitVec 32) : Fin 5 → Nat :=
  let c0_138 : Index := 0#32
  let c0_139 : Index := 0#32
  let c4_i32_136 : BitVec 32 := 4#32
  let c0_i32_123 : BitVec 32 := 0#32
  let c1_i32_125 : BitVec 32 := 1#32
  let arg10 : BitVec 32 := Scf.iv c0_i32_123 c1_i32_125 k0_t1
  let v309 : BitVec 32 := Scalar.muli c4_i32_136 arg10
  let v310 : BitVec 32 := Scalar.addi v309 c0_i32_137
  let v311 : Index := Scalar.indexCast v310
  let c0_140 : Index := 0#32
  let c0_141 : Index := 0#32
  ![0, 0, v311.toNat, 0, 0]
@[reducible] def k0_t2_loop (i : grid0.Coords) : Scf.Loop 32 :=
  let c0_i32_123 : BitVec 32 := 0#32
  let arg2 : BitVec 32 := BitVec.ofNat 32 (i 2).val
  let c4_i32 : BitVec 32 := 4#32
  let v3 : BitVec 32 := Scalar.muli arg2 c4_i32
  let c0_i32_117 : BitVec 32 := 0#32
  let v267 : BitVec 1 := Scalar.cmpi .sgt v3 c0_i32_117
  let v268 : BitVec 32 := Scalar.extui v267
  let c0_i32_118 : BitVec 32 := 0#32
  let v269 : BitVec 1 := Scalar.cmpi .slt v3 c0_i32_118
  let v270 : BitVec 32 := Scalar.extui v269
  let v271 : BitVec 32 := Scalar.subi v268 v270
  let c4_i32_116 : BitVec 32 := 4#32
  let c0_i32_119 : BitVec 32 := 0#32
  let v272 : BitVec 1 := Scalar.cmpi .sgt c4_i32_116 c0_i32_119
  let v273 : BitVec 32 := Scalar.extui v272
  let c0_i32_120 : BitVec 32 := 0#32
  let v274 : BitVec 1 := Scalar.cmpi .slt c4_i32_116 c0_i32_120
  let v275 : BitVec 32 := Scalar.extui v274
  let v276 : BitVec 32 := Scalar.subi v273 v275
  let v277 : BitVec 1 := Scalar.cmpi .ne v271 v276
  let v278 : BitVec 32 := Scalar.remsi v3 c4_i32_116
  let c0_i32_121 : BitVec 32 := 0#32
  let v279 : BitVec 1 := Scalar.cmpi .ne v278 c0_i32_121
  let v280 : BitVec 1 := Scalar.andi v277 v279
  let v266 : BitVec 32 := Scalar.divsi v3 c4_i32_116
  let c1_i32_122 : BitVec 32 := 1#32
  let v281 : BitVec 32 := Scalar.subi v266 c1_i32_122
  let v282 : BitVec 32 := Scalar.select v280 v281 v266
  let v283 : BitVec 32 := Scalar.subi v282 c0_i32_123
  let c1_i32_124 : BitVec 32 := 1#32
  let v285 : BitVec 32 := Scalar.divsi v283 c1_i32_124
  let v286 : BitVec 32 := Scalar.muli v285 c1_i32_124
  let v287 : BitVec 32 := Scalar.addi c0_i32_123 v286
  let v284 : BitVec 32 := Scalar.addi c0_i32_123 v283
  let c1_i32_126 : BitVec 32 := 1#32
  ⟨v287, v284, c1_i32_126⟩
def k0_mult7 (i : grid0.Coords) (k0_t2 : Fin (k0_t2_loop i).trips) : BitVec 32 :=
  let c0_i32_123 : BitVec 32 := 0#32
  let arg2 : BitVec 32 := BitVec.ofNat 32 (i 2).val
  let c4_i32 : BitVec 32 := 4#32
  let v3 : BitVec 32 := Scalar.muli arg2 c4_i32
  let c0_i32_117 : BitVec 32 := 0#32
  let v267 : BitVec 1 := Scalar.cmpi .sgt v3 c0_i32_117
  let v268 : BitVec 32 := Scalar.extui v267
  let c0_i32_118 : BitVec 32 := 0#32
  let v269 : BitVec 1 := Scalar.cmpi .slt v3 c0_i32_118
  let v270 : BitVec 32 := Scalar.extui v269
  let v271 : BitVec 32 := Scalar.subi v268 v270
  let c4_i32_116 : BitVec 32 := 4#32
  let c0_i32_119 : BitVec 32 := 0#32
  let v272 : BitVec 1 := Scalar.cmpi .sgt c4_i32_116 c0_i32_119
  let v273 : BitVec 32 := Scalar.extui v272
  let c0_i32_120 : BitVec 32 := 0#32
  let v274 : BitVec 1 := Scalar.cmpi .slt c4_i32_116 c0_i32_120
  let v275 : BitVec 32 := Scalar.extui v274
  let v276 : BitVec 32 := Scalar.subi v273 v275
  let v277 : BitVec 1 := Scalar.cmpi .ne v271 v276
  let v278 : BitVec 32 := Scalar.remsi v3 c4_i32_116
  let c0_i32_121 : BitVec 32 := 0#32
  let v279 : BitVec 1 := Scalar.cmpi .ne v278 c0_i32_121
  let v280 : BitVec 1 := Scalar.andi v277 v279
  let v266 : BitVec 32 := Scalar.divsi v3 c4_i32_116
  let c1_i32_122 : BitVec 32 := 1#32
  let v281 : BitVec 32 := Scalar.subi v266 c1_i32_122
  let v282 : BitVec 32 := Scalar.select v280 v281 v266
  let v283 : BitVec 32 := Scalar.subi v282 c0_i32_123
  let c1_i32_124 : BitVec 32 := 1#32
  let v285 : BitVec 32 := Scalar.divsi v283 c1_i32_124
  let v286 : BitVec 32 := Scalar.muli v285 c1_i32_124
  let v287 : BitVec 32 := Scalar.addi c0_i32_123 v286
  let c1_i32_126 : BitVec 32 := 1#32
  let arg10 : BitVec 32 := Scf.iv v287 c1_i32_126 k0_t2
  let c4_i32_132 : BitVec 32 := 4#32
  let v302 : BitVec 32 := Scalar.muli arg10 c4_i32_132
  let c256_i32_133 : BitVec 32 := 256#32
  let v303 : BitVec 32 := Scalar.muli v302 c256_i32_133
  v303
def k0_off8 (i : grid0.Coords) (k0_t2 : Fin (k0_t2_loop i).trips) : Fin 2 → Nat :=
  let c0_i32_123 : BitVec 32 := 0#32
  let arg2 : BitVec 32 := BitVec.ofNat 32 (i 2).val
  let c4_i32 : BitVec 32 := 4#32
  let v3 : BitVec 32 := Scalar.muli arg2 c4_i32
  let c0_i32_117 : BitVec 32 := 0#32
  let v267 : BitVec 1 := Scalar.cmpi .sgt v3 c0_i32_117
  let v268 : BitVec 32 := Scalar.extui v267
  let c0_i32_118 : BitVec 32 := 0#32
  let v269 : BitVec 1 := Scalar.cmpi .slt v3 c0_i32_118
  let v270 : BitVec 32 := Scalar.extui v269
  let v271 : BitVec 32 := Scalar.subi v268 v270
  let c4_i32_116 : BitVec 32 := 4#32
  let c0_i32_119 : BitVec 32 := 0#32
  let v272 : BitVec 1 := Scalar.cmpi .sgt c4_i32_116 c0_i32_119
  let v273 : BitVec 32 := Scalar.extui v272
  let c0_i32_120 : BitVec 32 := 0#32
  let v274 : BitVec 1 := Scalar.cmpi .slt c4_i32_116 c0_i32_120
  let v275 : BitVec 32 := Scalar.extui v274
  let v276 : BitVec 32 := Scalar.subi v273 v275
  let v277 : BitVec 1 := Scalar.cmpi .ne v271 v276
  let v278 : BitVec 32 := Scalar.remsi v3 c4_i32_116
  let c0_i32_121 : BitVec 32 := 0#32
  let v279 : BitVec 1 := Scalar.cmpi .ne v278 c0_i32_121
  let v280 : BitVec 1 := Scalar.andi v277 v279
  let v266 : BitVec 32 := Scalar.divsi v3 c4_i32_116
  let c1_i32_122 : BitVec 32 := 1#32
  let v281 : BitVec 32 := Scalar.subi v266 c1_i32_122
  let v282 : BitVec 32 := Scalar.select v280 v281 v266
  let v283 : BitVec 32 := Scalar.subi v282 c0_i32_123
  let c1_i32_124 : BitVec 32 := 1#32
  let v285 : BitVec 32 := Scalar.divsi v283 c1_i32_124
  let v286 : BitVec 32 := Scalar.muli v285 c1_i32_124
  let v287 : BitVec 32 := Scalar.addi c0_i32_123 v286
  let c1_i32_126 : BitVec 32 := 1#32
  let arg10 : BitVec 32 := Scf.iv v287 c1_i32_126 k0_t2
  let c4_i32_132 : BitVec 32 := 4#32
  let v302 : BitVec 32 := Scalar.muli arg10 c4_i32_132
  let c256_i32_133 : BitVec 32 := 256#32
  let v303 : BitVec 32 := Scalar.muli v302 c256_i32_133
  let v304 : BitVec 32 := v303
  let v305 : Index := Scalar.indexCast v304
  let c0_134 : Index := 0#32
  ![v305.toNat, 0]
def k0_off9 (i : grid0.Coords) (k0_t2 : Fin (k0_t2_loop i).trips) (c0_i32_137 : BitVec 32) : Fin 5 → Nat :=
  let c0_138 : Index := 0#32
  let c0_139 : Index := 0#32
  let c4_i32_136 : BitVec 32 := 4#32
  let c0_i32_123 : BitVec 32 := 0#32
  let arg2 : BitVec 32 := BitVec.ofNat 32 (i 2).val
  let c4_i32 : BitVec 32 := 4#32
  let v3 : BitVec 32 := Scalar.muli arg2 c4_i32
  let c0_i32_117 : BitVec 32 := 0#32
  let v267 : BitVec 1 := Scalar.cmpi .sgt v3 c0_i32_117
  let v268 : BitVec 32 := Scalar.extui v267
  let c0_i32_118 : BitVec 32 := 0#32
  let v269 : BitVec 1 := Scalar.cmpi .slt v3 c0_i32_118
  let v270 : BitVec 32 := Scalar.extui v269
  let v271 : BitVec 32 := Scalar.subi v268 v270
  let c4_i32_116 : BitVec 32 := 4#32
  let c0_i32_119 : BitVec 32 := 0#32
  let v272 : BitVec 1 := Scalar.cmpi .sgt c4_i32_116 c0_i32_119
  let v273 : BitVec 32 := Scalar.extui v272
  let c0_i32_120 : BitVec 32 := 0#32
  let v274 : BitVec 1 := Scalar.cmpi .slt c4_i32_116 c0_i32_120
  let v275 : BitVec 32 := Scalar.extui v274
  let v276 : BitVec 32 := Scalar.subi v273 v275
  let v277 : BitVec 1 := Scalar.cmpi .ne v271 v276
  let v278 : BitVec 32 := Scalar.remsi v3 c4_i32_116
  let c0_i32_121 : BitVec 32 := 0#32
  let v279 : BitVec 1 := Scalar.cmpi .ne v278 c0_i32_121
  let v280 : BitVec 1 := Scalar.andi v277 v279
  let v266 : BitVec 32 := Scalar.divsi v3 c4_i32_116
  let c1_i32_122 : BitVec 32 := 1#32
  let v281 : BitVec 32 := Scalar.subi v266 c1_i32_122
  let v282 : BitVec 32 := Scalar.select v280 v281 v266
  let v283 : BitVec 32 := Scalar.subi v282 c0_i32_123
  let c1_i32_124 : BitVec 32 := 1#32
  let v285 : BitVec 32 := Scalar.divsi v283 c1_i32_124
  let v286 : BitVec 32 := Scalar.muli v285 c1_i32_124
  let v287 : BitVec 32 := Scalar.addi c0_i32_123 v286
  let c1_i32_126 : BitVec 32 := 1#32
  let arg10 : BitVec 32 := Scf.iv v287 c1_i32_126 k0_t2
  let v309 : BitVec 32 := Scalar.muli c4_i32_136 arg10
  let v310 : BitVec 32 := Scalar.addi v309 c0_i32_137
  let v311 : Index := Scalar.indexCast v310
  let c0_140 : Index := 0#32
  let c0_141 : Index := 0#32
  ![0, 0, v311.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c3_i32 : BitVec 32 := 3#32
  let c0_i32 : BitVec 32 := 0#32
  ![c3_i32.toNat, v1.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let c0_i32 : BitVec 32 := 0#32
  ![c4_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let c0_i32 : BitVec 32 := 0#32
  ![c5_i32.toNat, arg0.toNat, arg1.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x16x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S10x8448x1024 : Shape := ⟨3, ![10, 8448, 1024]⟩
abbrev S2x8x16x1x256 : Shape := ⟨5, ![2, 8, 16, 1, 256]⟩
abbrev S1x8192x1024 : Shape := ⟨3, ![1, 8192, 1024]⟩
abbrev S8192x1024 : Shape := ⟨2, ![8192, 1024]⟩
abbrev S2x4096x8x128 : Shape := ⟨4, ![2, 4096, 8, 128]⟩
abbrev S2x8x4096 : Shape := ⟨3, ![2, 8, 4096]⟩
abbrev S4096 : Shape := ⟨1, ![4096]⟩
abbrev S2x8x4096x4096 : Shape := ⟨4, ![2, 8, 4096, 4096]⟩
abbrev S_ : Shape := ⟨0, ![]⟩
abbrev S2x8x1x4096 : Shape := ⟨4, ![2, 8, 1, 4096]⟩
abbrev S1x4096 : Shape := ⟨2, ![1, 4096]⟩
abbrev S4096x1 : Shape := ⟨2, ![4096, 1]⟩
abbrev S4096x4096 : Shape := ⟨2, ![4096, 4096]⟩
abbrev S2x8x4096x1 : Shape := ⟨4, ![2, 8, 4096, 1]⟩
abbrev S2x8x128x4096 : Shape := ⟨4, ![2, 8, 128, 4096]⟩

abbrev nBuf : Space → Nat
  | .hbm => 47
  | .vmem => 0
  | .smem => 0
  | _ => 0

abbrev bufTy : (tb : Table) → Fin (tcTables nBuf tb) → BufTy
  | .hbm, ⟨0, _⟩ => ⟨S10x8448x1024, .f32⟩
  | .hbm, ⟨1, _⟩ => ⟨S2x8x16x1x256, .f32⟩
  | .hbm, ⟨2, _⟩ => ⟨S1x8192x1024, .f32⟩
  | .hbm, ⟨3, _⟩ => ⟨S8192x1024, .f32⟩
  | .hbm, ⟨4, _⟩ => ⟨S2x4096x8x128, .f32⟩
  | .hbm, ⟨5, _⟩ => ⟨S1x8192x1024, .f32⟩
  | .hbm, ⟨6, _⟩ => ⟨S8192x1024, .f32⟩
  | .hbm, ⟨7, _⟩ => ⟨S2x4096x8x128, .f32⟩
  | .hbm, ⟨8, _⟩ => ⟨S1x8192x1024, .f32⟩
  | .hbm, ⟨9, _⟩ => ⟨S8192x1024, .f32⟩
  | .hbm, ⟨10, _⟩ => ⟨S2x4096x8x128, .f32⟩
  | .hbm, ⟨11, _⟩ => ⟨S2x8x4096, .f32⟩
  | .hbm, ⟨12, _⟩ => ⟨S4096, .i32⟩
  | .hbm, ⟨13, _⟩ => ⟨S2x8x4096x4096, .f32⟩
  | .hbm, ⟨14, _⟩ => ⟨S_, .f32⟩
  | .hbm, ⟨15, _⟩ => ⟨S2x8x4096x4096, .f32⟩
  | .hbm, ⟨16, _⟩ => ⟨S2x8x4096x4096, .f32⟩
  | .hbm, ⟨17, _⟩ => ⟨S2x8x1x4096, .f32⟩
  | .hbm, ⟨18, _⟩ => ⟨S2x8x4096x4096, .f32⟩
  | .hbm, ⟨19, _⟩ => ⟨S2x8x4096x4096, .f32⟩
  | .hbm, ⟨20, _⟩ => ⟨S1x4096, .i32⟩
  | .hbm, ⟨21, _⟩ => ⟨S4096x1, .i32⟩
  | .hbm, ⟨22, _⟩ => ⟨S4096x4096, .i32⟩
  | .hbm, ⟨23, _⟩ => ⟨S4096x4096, .i32⟩
  | .hbm, ⟨24, _⟩ => ⟨S4096x4096, .i1⟩
  | .hbm, ⟨25, _⟩ => ⟨S_, .f32⟩
  | .hbm, ⟨26, _⟩ => ⟨S_, .f32⟩
  | .hbm, ⟨27, _⟩ => ⟨S2x8x4096x4096, .i1⟩
  | .hbm, ⟨28, _⟩ => ⟨S2x8x4096x4096, .f32⟩
  | .hbm, ⟨29, _⟩ => ⟨S2x8x4096x4096, .f32⟩
  | .hbm, ⟨30, _⟩ => ⟨S_, .f32⟩
  | .hbm, ⟨31, _⟩ => ⟨S2x8x4096, .f32⟩
  | .hbm, ⟨32, _⟩ => ⟨S_, .f32⟩
  | .hbm, ⟨33, _⟩ => ⟨S2x8x4096, .f32⟩
  | .hbm, ⟨34, _⟩ => ⟨S2x8x4096, .f32⟩
  | .hbm, ⟨35, _⟩ => ⟨S2x8x4096x1, .f32⟩
  | .hbm, ⟨36, _⟩ => ⟨S2x8x4096x4096, .f32⟩
  | .hbm, ⟨37, _⟩ => ⟨S2x8x4096x4096, .f32⟩
  | .hbm, ⟨38, _⟩ => ⟨S2x8x4096x4096, .f32⟩
  | .hbm, ⟨39, _⟩ => ⟨S_, .f32⟩
  | .hbm, ⟨40, _⟩ => ⟨S2x8x4096, .f32⟩
  | .hbm, ⟨41, _⟩ => ⟨S2x8x4096x1, .f32⟩
  | .hbm, ⟨42, _⟩ => ⟨S2x8x4096x4096, .f32⟩
  | .hbm, ⟨43, _⟩ => ⟨S2x8x4096x4096, .f32⟩
  | .hbm, ⟨44, _⟩ => ⟨S2x8x128x4096, .f32⟩
  | .hbm, ⟨45, _⟩ => ⟨S2x4096x8x128, .f32⟩
  | .hbm, ⟨46, _⟩ => ⟨S8192x1024, .f32⟩
  | _, _ => ⟨S10x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== Kernel2.lean ====
abbrev S8448x2048 : Shape := ⟨2, ![8448, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S2048x5632 : Shape := ⟨2, ![2048, 5632]⟩
abbrev S5632x2048 : Shape := ⟨2, ![5632, 2048]⟩
abbrev S768x2048 : Shape := ⟨2, ![768, 2048]⟩
abbrev S2048x512 : Shape := ⟨2, ![2048, 512]⟩
abbrev S512x2048 : Shape := ⟨2, ![512, 2048]⟩
abbrev S768 : Shape := ⟨1, ![768]⟩
abbrev S768x1 : Shape := ⟨2, ![768, 1]⟩
abbrev S768x512 : Shape := ⟨2, ![768, 512]⟩

abbrev nBuf : Space → Nat
  | .hbm => 14
  | .vmem => 13
  | .smem => 0
  | _ => 0

abbrev bufTy : (tb : Table) → Fin (tcTables nBuf tb) → BufTy
  | .hbm, ⟨0, _⟩ => ⟨S8448x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S2048, .f32⟩
  | .hbm, ⟨6, _⟩ => ⟨S2048x5632, .f32⟩
  | .hbm, ⟨7, _⟩ => ⟨S2048x5632, .bf16⟩
  | .hbm, ⟨8, _⟩ => ⟨S2048x5632, .f32⟩
  | .hbm, ⟨9, _⟩ => ⟨S2048x5632, .bf16⟩
  | .hbm, ⟨10, _⟩ => ⟨S5632x2048, .f32⟩
  | .hbm, ⟨11, _⟩ => ⟨S5632x2048, .bf16⟩
  | .hbm, ⟨12, _⟩ => ⟨S1x2048, .f32⟩
  | .hbm, ⟨13, _⟩ => ⟨S8448x2048, .f32⟩
  | .local _ .vmem, ⟨0, _⟩ => ⟨S768x2048, .f32⟩
  | .local _ .vmem, ⟨1, _⟩ => ⟨S768x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S768x2048, .f32⟩
  | .local _ .vmem, ⟨10, _⟩ => ⟨S768x2048, .f32⟩
  | .local _ .vmem, ⟨11, _⟩ => ⟨S768x2048, .bf16⟩
  | .local _ .vmem, ⟨12, _⟩ => ⟨S768x2048, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![11, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S768x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S8448x2048 : Shape := ⟨2, ![8448, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S_ : Shape := ⟨0, ![]⟩
abbrev S8448 : Shape := ⟨1, ![8448]⟩
abbrev S8448x1 : Shape := ⟨2, ![8448, 1]⟩
abbrev S2048x5632 : Shape := ⟨2, ![2048, 5632]⟩
abbrev S5632x2048 : Shape := ⟨2, ![5632, 2048]⟩
abbrev S8448x5632 : Shape := ⟨2, ![8448, 5632]⟩

abbrev nBuf : Space → Nat
  | .hbm => 42
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S2048, .f32⟩
  | .hbm, ⟨6, _⟩ => ⟨S8448x2048, .f32⟩
  | .hbm, ⟨7, _⟩ => ⟨S_, .f32⟩
  | .hbm, ⟨8, _⟩ => ⟨S8448, .f32⟩
  | .hbm, ⟨9, _⟩ => ⟨S8448x1, .f32⟩
  | .hbm, ⟨10, _⟩ => ⟨S_, .f32⟩
  | .hbm, ⟨11, _⟩ => ⟨S8448x1, .f32⟩
  | .hbm, ⟨12, _⟩ => ⟨S8448x1, .f32⟩
  | .hbm, ⟨13, _⟩ => ⟨S_, .f32⟩
  | .hbm, ⟨14, _⟩ => ⟨S8448x1, .f32⟩
  | .hbm, ⟨15, _⟩ => ⟨S8448x1, .f32⟩
  | .hbm, ⟨16, _⟩ => ⟨S8448x1, .f32⟩
  | .hbm, ⟨17, _⟩ => ⟨S8448x2048, .f32⟩
  | .hbm, ⟨18, _⟩ => ⟨S8448x2048, .f32⟩
  | .hbm, ⟨19, _⟩ => ⟨S1x2048, .f32⟩
  | .hbm, ⟨20, _⟩ => ⟨S8448x2048, .f32⟩
  | .hbm, ⟨21, _⟩ => ⟨S8448x2048, .f32⟩
  | .hbm, ⟨22, _⟩ => ⟨S2048x5632, .f32⟩
  | .hbm, ⟨23, _⟩ => ⟨S2048x5632, .f32⟩
  | .hbm, ⟨24, _⟩ => ⟨S5632x2048, .f32⟩
  | .hbm, ⟨25, _⟩ => ⟨S8448x5632, .f32⟩
  | .hbm, ⟨26, _⟩ => ⟨S8448x5632, .f32⟩
  | .hbm, ⟨27, _⟩ => ⟨S8448x5632, .f32⟩
  | .hbm, ⟨28, _⟩ => ⟨S_, .f32⟩
  | .hbm, ⟨29, _⟩ => ⟨S8448x5632, .f32⟩
  | .hbm, ⟨30, _⟩ => ⟨S8448x5632, .f32⟩
  | .hbm, ⟨31, _⟩ => ⟨S_, .f32⟩
  | .hbm, ⟨32, _⟩ => ⟨S8448x5632, .f32⟩
  | .hbm, ⟨33, _⟩ => ⟨S8448x5632, .f32⟩
  | .hbm, ⟨34, _⟩ => ⟨S8448x5632, .f32⟩
  | .hbm, ⟨35, _⟩ => ⟨S8448x5632, .f32⟩
  | .hbm, ⟨36, _⟩ => ⟨S8448x5632, .f32⟩
  | .hbm, ⟨37, _⟩ => ⟨S8448x2048, .f32⟩
  | .hbm, ⟨38, _⟩ => ⟨S_, .f32⟩
  | .hbm, ⟨39, _⟩ => ⟨S8448x2048, .f32⟩
  | .hbm, ⟨40, _⟩ => ⟨S8448x2048, .f32⟩
  | .hbm, ⟨41, _⟩ => ⟨S8448x2048, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩

abbrev nD : Nat := 1
abbrev τ : Topo := Topo.v7x

variable {F : FTy → Type} [FloatOps F]
-- ==== Kernel3.lean ====
abbrev S8448x2048 : Shape := ⟨2, ![8448, 2048]⟩
abbrev S1x2048 : Shape := ⟨2, ![1, 2048]⟩
abbrev S1x2048x10248 : Shape := ⟨3, ![1, 2048, 10248]⟩
abbrev S1x8 : Shape := ⟨2, ![1, 8]⟩
abbrev S1x128 : Shape := ⟨2, ![1, 128]⟩
abbrev S2048x10248 : Shape := ⟨2, ![2048, 10248]⟩
abbrev S2048x6144 : Shape := ⟨2, ![2048, 6144]⟩
abbrev S2048x4096 : Shape := ⟨2, ![2048, 4096]⟩
abbrev S2048x10240 : Shape := ⟨2, ![2048, 10240]⟩
abbrev S2048x8 : Shape := ⟨2, ![2048, 8]⟩
abbrev S_ : Shape := ⟨0, ![]⟩
abbrev S2048x128 : Shape := ⟨2, ![2048, 128]⟩
abbrev S8 : Shape := ⟨1, ![8]⟩
abbrev S128 : Shape := ⟨1, ![128]⟩
abbrev S1024 : Shape := ⟨1, ![1024]⟩
abbrev S8x128 : Shape := ⟨2, ![8, 128]⟩
abbrev S1x1024 : Shape := ⟨2, ![1, 1024]⟩
abbrev S10x1024 : Shape := ⟨2, ![10, 1024]⟩
abbrev S10x1x1024 : Shape := ⟨3, ![10, 1, 1024]⟩
abbrev S2048 : Shape := ⟨1, ![2048]⟩
abbrev S10x8448x1024 : Shape := ⟨3, ![10, 8448, 1024]⟩
abbrev S8448x128 : Shape := ⟨2, ![8448, 128]⟩
abbrev S768x2048 : Shape := ⟨2, ![768, 2048]⟩
abbrev S2048x1024 : Shape := ⟨2, ![2048, 1024]⟩
abbrev S1x1x1024 : Shape := ⟨3, ![1, 1, 1024]⟩
abbrev S1x768x1024 : Shape := ⟨3, ![1, 768, 1024]⟩
abbrev S768x128 : Shape := ⟨2, ![768, 128]⟩
abbrev S768 : Shape := ⟨1, ![768]⟩
abbrev S768x1 : Shape := ⟨2, ![768, 1]⟩
abbrev S768x1024 : Shape := ⟨2, ![768, 1024]⟩
abbrev S1x1x128 : Shape := ⟨3, ![1, 1, 128]⟩
abbrev S1x768x128 : Shape := ⟨3, ![1, 768, 128]⟩

abbrev nBuf : Space → Nat
  | .hbm => 57
  | .vmem => 14
  | .smem => 0
  | _ => 0

abbrev bufTy : (tb : Table) → Fin (tcTables nBuf tb) → BufTy
  | .hbm, ⟨0, _⟩ => ⟨S8448x2048, .f32⟩
  | .hbm, ⟨1, _⟩ => ⟨S1x2048, .f32⟩
  | .hbm, ⟨2, _⟩ => ⟨S1x2048x10248, .f32⟩
  | .hbm, ⟨3, _⟩ => ⟨S1x8, .f32⟩
  | .hbm, ⟨4, _⟩ => ⟨S1x128, .f32⟩
  | .hbm, ⟨5, _⟩ => ⟨S1x128, .f32⟩
  | .hbm, ⟨6, _⟩ => ⟨S1x128, .f32⟩
  | .hbm, ⟨7, _⟩ => ⟨S1x128, .f32⟩
  | .hbm, ⟨8, _⟩ => ⟨S2048x10248, .f32⟩
  | .hbm, ⟨9, _⟩ => ⟨S2048x6144, .f32⟩
  | .hbm, ⟨10, _⟩ => ⟨S2048x4096, .f32⟩
  | .hbm, ⟨11, _⟩ => ⟨S2048x10240, .f32⟩
  | .hbm, ⟨12, _⟩ => ⟨S2048x10240, .bf16⟩
  | .hbm, ⟨13, _⟩ => ⟨S2048x8, .f32⟩
  | .hbm, ⟨14, _⟩ => ⟨S_, .i32⟩
  | .hbm, ⟨15, _⟩ => ⟨S_, .f32⟩
  | .hbm, ⟨16, _⟩ => ⟨S2048x128, .f32⟩
  | .hbm, ⟨17, _⟩ => ⟨S2048x128, .bf16⟩
  | .hbm, ⟨18, _⟩ => ⟨S8, .f32⟩
  | .hbm, ⟨19, _⟩ => ⟨S_, .i32⟩
  | .hbm, ⟨20, _⟩ => ⟨S_, .f32⟩
  | .hbm, ⟨21, _⟩ => ⟨S128, .f32⟩
  | .hbm, ⟨22, _⟩ => ⟨S1x128, .f32⟩
  | .hbm, ⟨23, _⟩ => ⟨S_, .f32⟩
  | .hbm, ⟨24, _⟩ => ⟨S1024, .f32⟩
  | .hbm, ⟨25, _⟩ => ⟨S128, .f32⟩
  | .hbm, ⟨26, _⟩ => ⟨S1x128, .f32⟩
  | .hbm, ⟨27, _⟩ => ⟨S8x128, .f32⟩
  | .hbm, ⟨28, _⟩ => ⟨S1024, .f32⟩
  | .hbm, ⟨29, _⟩ => ⟨S128, .f32⟩
  | .hbm, ⟨30, _⟩ => ⟨S1x128, .f32⟩
  | .hbm, ⟨31, _⟩ => ⟨S8x128, .f32⟩
  | .hbm, ⟨32, _⟩ => ⟨S1024, .f32⟩
  | .hbm, ⟨33, _⟩ => ⟨S128, .f32⟩
  | .hbm, ⟨34, _⟩ => ⟨S1x128, .f32⟩
  | .hbm, ⟨35, _⟩ => ⟨S8x128, .f32⟩
  | .hbm, ⟨36, _⟩ => ⟨S1024, .f32⟩
  | .hbm, ⟨37, _⟩ => ⟨S128, .f32⟩
  | .hbm, ⟨38, _⟩ => ⟨S1x128, .f32⟩
  | .hbm, ⟨39, _⟩ => ⟨S8x128, .f32⟩
  | .hbm, ⟨40, _⟩ => ⟨S1024, .f32⟩
  | .hbm, ⟨41, _⟩ => ⟨S1x1024, .f32⟩
  | .hbm, ⟨42, _⟩ => ⟨S1x1024, .f32⟩
  | .hbm, ⟨43, _⟩ => ⟨S1x1024, .f32⟩
  | .hbm, ⟨44, _⟩ => ⟨S1x1024, .f32⟩
  | .hbm, ⟨45, _⟩ => ⟨S1x1024, .f32⟩
  | .hbm, ⟨46, _⟩ => ⟨S1x1024, .f32⟩
  | .hbm, ⟨47, _⟩ => ⟨S1x1024, .f32⟩
  | .hbm, ⟨48, _⟩ => ⟨S1x1024, .f32⟩
  | .hbm, ⟨49, _⟩ => ⟨S1x1024, .f32⟩
  | .hbm, ⟨50, _⟩ => ⟨S1x1024, .f32⟩
  | .hbm, ⟨51, _⟩ => ⟨S10x1024, .f32⟩
  | .hbm, ⟨52, _⟩ => ⟨S10x1x1024, .f32⟩
  | .hbm, ⟨53, _⟩ => ⟨S2048, .f32⟩
  | .hbm, ⟨54, _⟩ => ⟨S1x2048, .f32⟩
  | .hbm, ⟨55, _⟩ => ⟨S10x8448x1024, .f32⟩
  | .hbm, ⟨56, _⟩ => ⟨S8448x128, .f32⟩
  | .local _ .vmem, ⟨0, _⟩ => ⟨S768x2048, .f32⟩
  | .local _ .vmem, ⟨1, _⟩ => ⟨S768x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S2048x128, .bf16⟩
  | .local _ .vmem, ⟨6, _⟩ => ⟨S1x128, .f32⟩
  | .local _ .vmem, ⟨7, _⟩ => ⟨S1x1x1024, .f32⟩
  | .local _ .vmem, ⟨8, _⟩ => ⟨S1x1x1024, .f32⟩
  | .local _ .vmem, ⟨9, _⟩ => ⟨S1x768x1024, .f32⟩
  | .local _ .vmem, ⟨10, _⟩ => ⟨S1x768x1024, .f32⟩
  | .local _ .vmem, ⟨11, _⟩ => ⟨S768x128, .f32⟩
  | .local _ .vmem, ⟨12, _⟩ => ⟨S768x128, .f32⟩
  | .local _ .vmem, ⟨13, _⟩ => ⟨S768x2048, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_call0_v0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_0 : Ref sig .tc := ⟨.hbm, 19, rfl⟩
abbrev main_call1_v0 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42_0 : Ref sig .tc := ⟨.hbm, 55, rfl⟩
abbrev main_v42_1 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![11, 10], ![false, false]⟩

def k0_cond2 (i : grid0.Coords) : BitVec 1 :=
  let arg1 : BitVec 32 := BitVec.ofNat 32 (i 1).val
  let c0_i32_4 : BitVec 32 := 0#32
  let v7 : BitVec 1 := Scalar.cmpi .eq arg1 c0_i32_4
  let c1_i32 : BitVec 32 := 1#32
  let v8 : BitVec 1 := Scalar.cmpi .eq arg1 c1_i32
  let v9 : BitVec 1 := Scalar.ori v7 v8
  let c3_i32 : BitVec 32 := 3#32
  let v10 : BitVec 1 := Scalar.cmpi .eq arg1 c3_i32
  let v11 : BitVec 1 := Scalar.ori v9 v10
  let c4_i32 : BitVec 32 := 4#32
  let v12 : BitVec 1 := Scalar.cmpi .eq arg1 c4_i32
  let v13 : BitVec 1 := Scalar.ori v11 v12
  let v17 : BitVec 32 := Scalar.extui v13
  let c0_i32_5 : BitVec 32 := 0#32
  let v18 : BitVec 1 := Scalar.cmpi .ne v17 c0_i32_5
  v18

def k0_cond3 (i : grid0.Coords) : BitVec 1 :=
  let arg1 : BitVec 32 := BitVec.ofNat 32 (i 1).val
  let c2_i32 : BitVec 32 := 2#32
  let v14 : BitVec 1 := Scalar.cmpi .eq arg1 c2_i32
  let c5_i32 : BitVec 32 := 5#32
  let v15 : BitVec 1 := Scalar.cmpi .eq arg1 c5_i32
  let v16 : BitVec 1 := Scalar.ori v14 v15
  let v19 : BitVec 32 := Scalar.extui v16
  let c0_i32_6 : BitVec 32 := 0#32
  let v20 : BitVec 1 := Scalar.cmpi .ne v19 c0_i32_6
  v20

def k0_cond4 (i : grid0.Coords) : BitVec 1 :=
  let arg1 : BitVec 32 := BitVec.ofNat 32 (i 1).val
  let c6_i32 : BitVec 32 := 6#32
  let v21 : BitVec 1 := Scalar.cmpi .sge arg1 c6_i32
  let v22 : BitVec 32 := Scalar.extui v21
  let c0_i32_7 : BitVec 32 := 0#32
  let v23 : BitVec 1 := Scalar.cmpi .ne v22 c0_i32_7
  v23

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x768x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S768x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference3Ideal.lean ====
abbrev S8448x2048 : Shape := ⟨2, ![8448, 2048]⟩
abbrev S1x2048 : Shape := ⟨2, ![1, 2048]⟩
abbrev S1x2048x10248 : Shape := ⟨3, ![1, 2048, 10248]⟩
abbrev S1x8 : Shape := ⟨2, ![1, 8]⟩
abbrev S1x128 : Shape := ⟨2, ![1, 128]⟩
abbrev S2048 : Shape := ⟨1, ![2048]⟩
abbrev S_ : Shape := ⟨0, ![]⟩
abbrev S8448 : Shape := ⟨1, ![8448]⟩
abbrev S8448x1 : Shape := ⟨2, ![8448, 1]⟩
abbrev S2048x10248 : Shape := ⟨2, ![2048, 10248]⟩
abbrev S8448x10248 : Shape := ⟨2, ![8448, 10248]⟩
abbrev S8448x8 : Shape := ⟨2, ![8448, 8]⟩
abbrev S8 : Shape := ⟨1, ![8]⟩
abbrev S128 : Shape := ⟨1, ![128]⟩
abbrev S8448x1024 : Shape := ⟨2, ![8448, 1024]⟩
abbrev S8448x8x128 : Shape := ⟨3, ![8448, 8, 128]⟩
abbrev S8448x8x1 : Shape := ⟨3, ![8448, 8, 1]⟩
abbrev S1x1x128 : Shape := ⟨3, ![1, 1, 128]⟩
abbrev S1x8448x1024 : Shape := ⟨3, ![1, 8448, 1024]⟩
abbrev S10x8448x1024 : Shape := ⟨3, ![10, 8448, 1024]⟩
abbrev S8448x128 : Shape := ⟨2, ![8448, 128]⟩

abbrev nBuf : Space → Nat
  | .hbm => 166
  | .vmem => 0
  | .smem => 0
  | _ => 0

abbrev hbmTy0_0 (i : Nat) : BufTy := match i % 128 with
  | 0 => ⟨S8448x2048, .f32⟩
  | 1 => ⟨S1x2048, .f32⟩
  | 2 => ⟨S1x2048x10248, .f32⟩
  | 3 => ⟨S1x8, .f32⟩
  | 4 => ⟨S1x128, .f32⟩
  | 5 => ⟨S1x128, .f32⟩
  | 6 => ⟨S1x128, .f32⟩
  | 7 => ⟨S1x128, .f32⟩
  | 8 => ⟨S2048, .f32⟩
  | 9 => ⟨S8448x2048, .f32⟩
  | 10 => ⟨S_, .f32⟩
  | 11 => ⟨S8448, .f32⟩
  | 12 => ⟨S8448x1, .f32⟩
  | 13 => ⟨S_, .f32⟩
  | 14 => ⟨S8448x1, .f32⟩
  | 15 => ⟨S8448x1, .f32⟩
  | 16 => ⟨S_, .f32⟩
  | 17 => ⟨S8448x1, .f32⟩
  | 18 => ⟨S8448x1, .f32⟩
  | 19 => ⟨S8448x1, .f32⟩
  | 20 => ⟨S8448x2048, .f32⟩
  | 21 => ⟨S8448x2048, .f32⟩
  | 22 => ⟨S1x2048, .f32⟩
  | 23 => ⟨S8448x2048, .f32⟩
  | 24 => ⟨S8448x2048, .f32⟩
  | 25 => ⟨S2048x10248, .f32⟩
  | 26 => ⟨S8448x10248, .f32⟩
  | 27 => ⟨S8448x8, .f32⟩
  | 28 => ⟨S8, .f32⟩
  | 29 => ⟨S1x8, .f32⟩
  | 30 => ⟨S8448x8, .f32⟩
  | 31 => ⟨S8448x8, .f32⟩
  | 32 => ⟨S8448x8, .f32⟩
  | 33 => ⟨S_, .f32⟩
  | 34 => ⟨S8448x8, .f32⟩
  | 35 => ⟨S8448x8, .f32⟩
  | 36 => ⟨S8448x8, .f32⟩
  | 37 => ⟨S8448x8, .f32⟩
  | 38 => ⟨S8448x8, .i1⟩
  | 39 => ⟨S8448x8, .f32⟩
  | 40 => ⟨S8448x8, .f32⟩
  | 41 => ⟨S8448x8, .f32⟩
  | 42 => ⟨S8448x8, .f32⟩
  | 43 => ⟨S8448x8, .f32⟩
  | 44 => ⟨S8448x8, .f32⟩
  | 45 => ⟨S8448x8, .f32⟩
  | 46 => ⟨S8448x8, .f32⟩
  | 47 => ⟨S8448x8, .f32⟩
  | 48 => ⟨S8448x2048, .f32⟩
  | 49 => ⟨S8448x2048, .f32⟩
  | 50 => ⟨S8448x2048, .f32⟩
  | 51 => ⟨S_, .f32⟩
  | 52 => ⟨S8448x2048, .f32⟩
  | 53 => ⟨S8448x2048, .f32⟩
  | 54 => ⟨S_, .f32⟩
  | 55 => ⟨S8448x2048, .f32⟩
  | 56 => ⟨S8448x2048, .f32⟩
  | 57 => ⟨S8448x2048, .f32⟩
  | 58 => ⟨S8448x2048, .f32⟩
  | 59 => ⟨S8448x2048, .f32⟩
  | 60 => ⟨S_, .f32⟩
  | 61 => ⟨S8448x2048, .f32⟩
  | 62 => ⟨S8448x2048, .f32⟩
  | 63 => ⟨S_, .f32⟩
  | 64 => ⟨S8448x2048, .f32⟩
  | 65 => ⟨S8448x2048, .f32⟩
  | 66 => ⟨S128, .f32⟩
  | 67 => ⟨S8448x1024, .f32⟩
  | 68 => ⟨S8448x8x128, .f32⟩
  | 69 => ⟨S8448x8x128, .f32⟩
  | 70 => ⟨S_, .f32⟩
  | 71 => ⟨S8448x8, .f32⟩
  | 72 => ⟨S8448x8x1, .f32⟩
  | 73 => ⟨S_, .f32⟩
  | 74 => ⟨S8448x8x1, .f32⟩
  | 75 => ⟨S8448x8x1, .f32⟩
  | 76 => ⟨S_, .f32⟩
  | 77 => ⟨S8448x8x1, .f32⟩
  | 78 => ⟨S8448x8x1, .f32⟩
  | 79 => ⟨S8448x8x1, .f32⟩
  | 80 => ⟨S8448x8x128, .f32⟩
  | 81 => ⟨S8448x8x128, .f32⟩
  | 82 => ⟨S1x1x128, .f32⟩
  | 83 => ⟨S8448x8x128, .f32⟩
  | 84 => ⟨S8448x8x128, .f32⟩
  | 85 => ⟨S8448x1024, .f32⟩
  | 86 => ⟨S128, .f32⟩
  | 87 => ⟨S8448x1024, .f32⟩
  | 88 => ⟨S8448x8x128, .f32⟩
  | 89 => ⟨S8448x8x128, .f32⟩
  | 90 => ⟨S_, .f32⟩
  | 91 => ⟨S8448x8, .f32⟩
  | 92 => ⟨S8448x8x1, .f32⟩
  | 93 => ⟨S_, .f32⟩
  | 94 => ⟨S8448x8x1, .f32⟩
  | 95 => ⟨S8448x8x1, .f32⟩
  | 96 => ⟨S_, .f32⟩
  | 97 => ⟨S8448x8x1, .f32⟩
  | 98 => ⟨S8448x8x1, .f32⟩
  | 99 => ⟨S8448x8x1, .f32⟩
  | 100 => ⟨S8448x8x128, .f32⟩
  | 101 => ⟨S8448x8x128, .f32⟩
  | 102 => ⟨S1x1x128, .f32⟩
  | 103 => ⟨S8448x8x128, .f32⟩
  | 104 => ⟨S8448x8x128, .f32⟩
  | 105 => ⟨S8448x1024, .f32⟩
  | 106 => ⟨S8448x1024, .f32⟩
  | 107 => ⟨S128, .f32⟩
  | 108 => ⟨S8448x1024, .f32⟩
  | 109 => ⟨S8448x8x128, .f32⟩
  | 110 => ⟨S8448x8x128, .f32⟩
  | 111 => ⟨S_, .f32⟩
  | 112 => ⟨S8448x8, .f32⟩
  | 113 => ⟨S8448x8x1, .f32⟩
  | 114 => ⟨S_, .f32⟩
  | 115 => ⟨S8448x8x1, .f32⟩
  | 116 => ⟨S8448x8x1, .f32⟩
  | 117 => ⟨S_, .f32⟩
  | 118 => ⟨S8448x8x1, .f32⟩
  | 119 => ⟨S8448x8x1, .f32⟩
  | 120 => ⟨S8448x8x1, .f32⟩
  | 121 => ⟨S8448x8x128, .f32⟩
  | 122 => ⟨S8448x8x128, .f32⟩
  | 123 => ⟨S1x1x128, .f32⟩
  | 124 => ⟨S8448x8x128, .f32⟩
  | 125 => ⟨S8448x8x128, .f32⟩
  | 126 => ⟨S8448x1024, .f32⟩
  | 127 => ⟨S128, .f32⟩
  | _ => ⟨S8448x2048, .f32⟩

abbrev hbmTy0_1 (i : Nat) : BufTy := match i % 128 with
  | 0 => ⟨S8448x1024, .f32⟩
  | 1 => ⟨S8448x8x128, .f32⟩
  | 2 => ⟨S8448x8x128, .f32⟩
  | 3 => ⟨S_, .f32⟩
  | 4 => ⟨S8448x8, .f32⟩
  | 5 => ⟨S8448x8x1, .f32⟩
  | 6 => ⟨S_, .f32⟩
  | 7 => ⟨S8448x8x1, .f32⟩
  | 8 => ⟨S8448x8x1, .f32⟩
  | 9 => ⟨S_, .f32⟩
  | 10 => ⟨S8448x8x1, .f32⟩
  | 11 => ⟨S8448x8x1, .f32⟩
  | 12 => ⟨S8448x8x1, .f32⟩
  | 13 => ⟨S8448x8x128, .f32⟩
  | 14 => ⟨S8448x8x128, .f32⟩
  | 15 => ⟨S1x1x128, .f32⟩
  | 16 => ⟨S8448x8x128, .f32⟩
  | 17 => ⟨S8448x8x128, .f32⟩
  | 18 => ⟨S8448x1024, .f32⟩
  | 19 => ⟨S8448x1024, .f32⟩
  | 20 => ⟨S8448x1024, .f32⟩
  | 21 => ⟨S8448x1024, .f32⟩
  | 22 => ⟨S8448x1024, .f32⟩
  | 23 => ⟨S8448x1024, .f32⟩
  | 24 => ⟨S1x8448x1024, .f32⟩
  | 25 => ⟨S1x8448x1024, .f32⟩
  | 26 => ⟨S1x8448x1024, .f32⟩
  | 27 => ⟨S1x8448x1024, .f32⟩
  | 28 => ⟨S1x8448x1024, .f32⟩
  | 29 => ⟨S1x8448x1024, .f32⟩
  | 30 => ⟨S1x8448x1024, .f32⟩
  | 31 => ⟨S1x8448x1024, .f32⟩
  | 32 => ⟨S1x8448x1024, .f32⟩
  | 33 => ⟨S1x8448x1024, .f32⟩
  | 34 => ⟨S10x8448x1024, .f32⟩
  | 35 => ⟨S_, .i32⟩
  | 36 => ⟨S_, .f32⟩
  | 37 => ⟨S8448x128, .f32⟩
  | _ => ⟨S8448x2048, .f32⟩

abbrev hbmTy (i : Nat) : BufTy := match i / 128 with
  | 0 => hbmTy0_0 i
  | 1 => hbmTy0_1 i
  | _ => ⟨S8448x2048, .f32⟩

abbrev bufTy : (tb : Table) → Fin (tcTables nBuf tb) → BufTy
  | .hbm, ⟨i, _⟩ => hbmTy i
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_call0_v0 : Ref sig .tc := ⟨.hbm, 32, rfl⟩
abbrev main_call0_call0_cst : Ref sig .tc := ⟨.hbm, 33, rfl⟩
abbrev main_call0_call0_v0 : Ref sig .tc := ⟨.hbm, 34, rfl⟩
abbrev main_call0_call0_v1 : Ref sig .tc := ⟨.hbm, 35, rfl⟩
abbrev main_call0_call0_v2 : Ref sig .tc := ⟨.hbm, 36, rfl⟩
abbrev main_call0_call0_v3 : Ref sig .tc := ⟨.hbm, 37, rfl⟩
abbrev main_call0_call0_v4 : Ref sig .tc := ⟨.hbm, 38, rfl⟩
abbrev main_call0_call0_v5 : Ref sig .tc := ⟨.hbm, 39, rfl⟩
abbrev main_call0_call0_v6 : Ref sig .tc := ⟨.hbm, 40, rfl⟩
abbrev main_call0_call0_v7 : Ref sig .tc := ⟨.hbm, 41, rfl⟩
abbrev main_call0_call0_v8 : Ref sig .tc := ⟨.hbm, 42, rfl⟩
abbrev main_call0_call0_v9 : Ref sig .tc := ⟨.hbm, 43, rfl⟩
abbrev main_call0_call0_v10 : Ref sig .tc := ⟨.hbm, 44, rfl⟩
abbrev main_call0_call0_v11 : Ref sig .tc := ⟨.hbm, 45, rfl⟩
abbrev main_call0_v1 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_cst_2 : Ref sig .tc := ⟨.hbm, 51, rfl⟩
abbrev main_v25 : Ref sig .tc := ⟨.hbm, 52, rfl⟩
abbrev main_v26 : Ref sig .tc := ⟨.hbm, 53, rfl⟩
abbrev main_cst_3 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_4 : Ref sig .tc := ⟨.hbm, 60, rfl⟩
abbrev main_v32 : Ref sig .tc := ⟨.hbm, 61, rfl⟩
abbrev main_v33 : Ref sig .tc := ⟨.hbm, 62, rfl⟩
abbrev main_cst_5 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_cst_6 : Ref sig .tc := ⟨.hbm, 70, rfl⟩
abbrev main_v40 : Ref sig .tc := ⟨.hbm, 71, rfl⟩
abbrev main_v41 : Ref sig .tc := ⟨.hbm, 72, rfl⟩
abbrev main_cst_7 : Ref sig .tc := ⟨.hbm, 73, rfl⟩
abbrev main_v42 : Ref sig .tc := ⟨.hbm, 74, rfl⟩
abbrev main_v43 : Ref sig .tc := ⟨.hbm, 75, rfl⟩
abbrev main_cst_8 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_9 : Ref sig .tc := ⟨.hbm, 90, rfl⟩
abbrev main_v57 : Ref sig .tc := ⟨.hbm, 91, rfl⟩
abbrev main_v58 : Ref sig .tc := ⟨.hbm, 92, rfl⟩
abbrev main_cst_10 : Ref sig .tc := ⟨.hbm, 93, rfl⟩
abbrev main_v59 : Ref sig .tc := ⟨.hbm, 94, rfl⟩
abbrev main_v60 : Ref sig .tc := ⟨.hbm, 95, rfl⟩
abbrev main_cst_11 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_cst_12 : Ref sig .tc := ⟨.hbm, 111, rfl⟩
abbrev main_v75 : Ref sig .tc := ⟨.hbm, 112, rfl⟩
abbrev main_v76 : Ref sig .tc := ⟨.hbm, 113, rfl⟩
abbrev main_cst_13 : Ref sig .tc := ⟨.hbm, 114, rfl⟩
abbrev main_v77 : Ref sig .tc := ⟨.hbm, 115, rfl⟩
abbrev main_v78 : Ref sig .tc := ⟨.hbm, 116, rfl⟩
abbrev main_cst_14 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_cst_15 : Ref sig .tc := ⟨.hbm, 131, rfl⟩
abbrev main_v92 : Ref sig .tc := ⟨.hbm, 132, rfl⟩
abbrev main_v93 : Ref sig .tc := ⟨.hbm, 133, rfl⟩
abbrev main_cst_16 : Ref sig .tc := ⟨.hbm, 134, rfl⟩
abbrev main_v94 : Ref sig .tc := ⟨.hbm, 135, rfl⟩
abbrev main_v95 : Ref sig .tc := ⟨.hbm, 136, rfl⟩
abbrev main_cst_17 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_c : Ref sig .tc := ⟨.hbm, 163, rfl⟩
abbrev main_call1_v0 : Ref sig .tc := ⟨.hbm, 164, rfl⟩
abbrev main_v121 : Ref sig .tc := ⟨.hbm, 165, rfl⟩

abbrev nD : Nat := 1
abbrev τ : Topo := Topo.v7x

variable {F : FTy → Type} [FloatOps F]
-- ==== Kernel4.lean ====
abbrev S8448x2048 : Shape := ⟨2, ![8448, 2048]⟩
abbrev S8192x1024 : Shape := ⟨2, ![8192, 1024]⟩
abbrev S256x1024 : Shape := ⟨2, ![256, 1024]⟩
abbrev S10x8448x1024 : Shape := ⟨3, ![10, 8448, 1024]⟩
abbrev S1x1024x2048 : Shape := ⟨3, ![1, 1024, 2048]⟩
abbrev S1x2048x2048 : Shape := ⟨3, ![1, 2048, 2048]⟩
abbrev S1024x2048 : Shape := ⟨2, ![1024, 2048]⟩
abbrev S2048x2048 : Shape := ⟨2, ![2048, 2048]⟩
abbrev S256x2048 : Shape := ⟨2, ![256, 2048]⟩
abbrev S2x256x1024 : Shape := ⟨3, ![2, 256, 1024]⟩
abbrev S1x256x1024 : Shape := ⟨3, ![1, 256, 1024]⟩

abbrev nBuf : Space → Nat
  | .hbm => 16
  | .vmem => 17
  | .smem => 0
  | _ => 0

abbrev bufTy : (tb : Table) → Fin (tcTables nBuf tb) → BufTy
  | .hbm, ⟨0, _⟩ => ⟨S8448x2048, .f32⟩
  | .hbm, ⟨1, _⟩ => ⟨S8192x1024, .f32⟩
  | .hbm, ⟨2, _⟩ => ⟨S256x1024, .f32⟩
  | .hbm, ⟨3, _⟩ => ⟨S8192x1024, .f32⟩
  | .hbm, ⟨4, _⟩ => ⟨S256x1024, .f32⟩
  | .hbm, ⟨5, _⟩ => ⟨S10x8448x1024, .f32⟩
  | .hbm, ⟨6, _⟩ => ⟨S1x1024x2048, .f32⟩
  | .hbm, ⟨7, _⟩ => ⟨S1x1024x2048, .f32⟩
  | .hbm, ⟨8, _⟩ => ⟨S1x2048x2048, .f32⟩
  | .hbm, ⟨9, _⟩ => ⟨S1024x2048, .f32⟩
  | .hbm, ⟨10, _⟩ => ⟨S1024x2048, .bf16⟩
  | .hbm, ⟨11, _⟩ => ⟨S1024x2048, .f32⟩
  | .hbm, ⟨12, _⟩ => ⟨S1024x2048, .bf16⟩
  | .hbm, ⟨13, _⟩ => ⟨S2048x2048, .f32⟩
  | .hbm, ⟨14, _⟩ => ⟨S2048x2048, .bf16⟩
  | .hbm, ⟨15, _⟩ => ⟨S8448x2048, .f32⟩
  | .local _ .vmem, ⟨0, _⟩ => ⟨S256x2048, .f32⟩
  | .local _ .vmem, ⟨1, _⟩ => ⟨S256x2048, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S2x256x1024, .f32⟩
  | .local _ .vmem, ⟨9, _⟩ => ⟨S2x256x1024, .f32⟩
  | .local _ .vmem, ⟨10, _⟩ => ⟨S2x256x1024, .f32⟩
  | .local _ .vmem, ⟨11, _⟩ => ⟨S2x256x1024, .f32⟩
  | .local _ .vmem, ⟨12, _⟩ => ⟨S1024x2048, .bf16⟩
  | .local _ .vmem, ⟨13, _⟩ => ⟨S1024x2048, .bf16⟩
  | .local _ .vmem, ⟨14, _⟩ => ⟨S2048x2048, .bf16⟩
  | .local _ .vmem, ⟨15, _⟩ => ⟨S256x2048, .f32⟩
  | .local _ .vmem, ⟨16, _⟩ => ⟨S256x2048, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_6 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference4Ideal.lean ====
abbrev S8448x2048 : Shape := ⟨2, ![8448, 2048]⟩
abbrev S8192x1024 : Shape := ⟨2, ![8192, 1024]⟩
abbrev S256x1024 : Shape := ⟨2, ![256, 1024]⟩
abbrev S10x8448x1024 : Shape := ⟨3, ![10, 8448, 1024]⟩
abbrev S1x1024x2048 : Shape := ⟨3, ![1, 1024, 2048]⟩
abbrev S1x2048x2048 : Shape := ⟨3, ![1, 2048, 2048]⟩
abbrev S8448x1024 : Shape := ⟨2, ![8448, 1024]⟩
abbrev S1x8448x1024 : Shape := ⟨3, ![1, 8448, 1024]⟩
abbrev S1024x2048 : Shape := ⟨2, ![1024, 2048]⟩
abbrev S2048x2048 : Shape := ⟨2, ![2048, 2048]⟩

abbrev nBuf : Space → Nat
  | .hbm => 31
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S8192x1024, .f32⟩
  | .hbm, ⟨2, _⟩ => ⟨S256x1024, .f32⟩
  | .hbm, ⟨3, _⟩ => ⟨S8192x1024, .f32⟩
  | .hbm, ⟨4, _⟩ => ⟨S256x1024, .f32⟩
  | .hbm, ⟨5, _⟩ => ⟨S10x8448x1024, .f32⟩
  | .hbm, ⟨6, _⟩ => ⟨S1x1024x2048, .f32⟩
  | .hbm, ⟨7, _⟩ => ⟨S1x1024x2048, .f32⟩
  | .hbm, ⟨8, _⟩ => ⟨S1x2048x2048, .f32⟩
  | .hbm, ⟨9, _⟩ => ⟨S8448x1024, .f32⟩
  | .hbm, ⟨10, _⟩ => ⟨S8448x1024, .f32⟩
  | .hbm, ⟨11, _⟩ => ⟨S1x8448x1024, .f32⟩
  | .hbm, ⟨12, _⟩ => ⟨S8448x1024, .f32⟩
  | .hbm, ⟨13, _⟩ => ⟨S1x8448x1024, .f32⟩
  | .hbm, ⟨14, _⟩ => ⟨S8448x1024, .f32⟩
  | .hbm, ⟨15, _⟩ => ⟨S8448x2048, .f32⟩
  | .hbm, ⟨16, _⟩ => ⟨S1x8448x1024, .f32⟩
  | .hbm, ⟨17, _⟩ => ⟨S8448x1024, .f32⟩
  | .hbm, ⟨18, _⟩ => ⟨S1x8448x1024, .f32⟩
  | .hbm, ⟨19, _⟩ => ⟨S8448x1024, .f32⟩
  | .hbm, ⟨20, _⟩ => ⟨S8448x2048, .f32⟩
  | .hbm, ⟨21, _⟩ => ⟨S1024x2048, .f32⟩
  | .hbm, ⟨22, _⟩ => ⟨S8448x2048, .f32⟩
  | .hbm, ⟨23, _⟩ => ⟨S8448x2048, .f32⟩
  | .hbm, ⟨24, _⟩ => ⟨S1024x2048, .f32⟩
  | .hbm, ⟨25, _⟩ => ⟨S8448x2048, .f32⟩
  | .hbm, ⟨26, _⟩ => ⟨S8448x2048, .f32⟩
  | .hbm, ⟨27, _⟩ => ⟨S8448x2048, .f32⟩
  | .hbm, ⟨28, _⟩ => ⟨S2048x2048, .f32⟩
  | .hbm, ⟨29, _⟩ => ⟨S8448x2048, .f32⟩
  | .hbm, ⟨30, _⟩ => ⟨S8448x2048, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Kernel5.lean ====
abbrev S8448x128 : Shape := ⟨2, ![8448, 128]⟩
abbrev S8448x8 : Shape := ⟨2, ![8448, 8]⟩
abbrev S8192x8 : Shape := ⟨2, ![8192, 8]⟩
abbrev S2x32x128x8 : Shape := ⟨4, ![2, 32, 128, 8]⟩
abbrev S2x32x8x128 : Shape := ⟨4, ![2, 32, 8, 128]⟩
abbrev S2x32x1024 : Shape := ⟨3, ![2, 32, 1024]⟩
abbrev S_ : Shape := ⟨0, ![]⟩
abbrev S2x128x1024 : Shape := ⟨3, ![2, 128, 1024]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x1024 : Shape := ⟨3, ![1, 128, 1024]⟩
abbrev S128x1024 : Shape := ⟨2, ![128, 1024]⟩

abbrev nBuf : Space → Nat
  | .hbm => 37
  | .vmem => 7
  | .smem => 0
  | _ => 0

abbrev bufTy : (tb : Table) → Fin (tcTables nBuf tb) → BufTy
  | .hbm, ⟨0, _⟩ => ⟨S8448x128, .f32⟩
  | .hbm, ⟨1, _⟩ => ⟨S8448x8, .f32⟩
  | .hbm, ⟨2, _⟩ => ⟨S8192x8, .f32⟩
  | .hbm, ⟨3, _⟩ => ⟨S2x32x128x8, .f32⟩
  | .hbm, ⟨4, _⟩ => ⟨S2x32x8x128, .f32⟩
  | .hbm, ⟨5, _⟩ => ⟨S2x32x1024, .f32⟩
  | .hbm, ⟨6, _⟩ => ⟨S_, .i32⟩
  | .hbm, ⟨7, _⟩ => ⟨S_, .f32⟩
  | .hbm, ⟨8, _⟩ => ⟨S2x128x1024, .f32⟩
  | .hbm, ⟨9, _⟩ => ⟨S1024, .i32⟩
  | .hbm, ⟨10, _⟩ => ⟨S_, .i32⟩
  | .hbm, ⟨11, _⟩ => ⟨S1024, .i32⟩
  | .hbm, ⟨12, _⟩ => ⟨S1024, .i32⟩
  | .hbm, ⟨13, _⟩ => ⟨S_, .i32⟩
  | .hbm, ⟨14, _⟩ => ⟨S1024, .i32⟩
  | .hbm, ⟨15, _⟩ => ⟨S1024, .i32⟩
  | .hbm, ⟨16, _⟩ => ⟨S1024x1, .i32⟩
  | .hbm, ⟨17, _⟩ => ⟨S1x1024, .i32⟩
  | .hbm, ⟨18, _⟩ => ⟨S1024x1024, .i32⟩
  | .hbm, ⟨19, _⟩ => ⟨S1024x1024, .i32⟩
  | .hbm, ⟨20, _⟩ => ⟨S1024x1024, .i1⟩
  | .hbm, ⟨21, _⟩ => ⟨S1024x1, .i32⟩
  | .hbm, ⟨22, _⟩ => ⟨S1x1024, .i32⟩
  | .hbm, ⟨23, _⟩ => ⟨S1024x1024, .i32⟩
  | .hbm, ⟨24, _⟩ => ⟨S1024x1024, .i32⟩
  | .hbm, ⟨25, _⟩ => ⟨S1024x1024, .i1⟩
  | .hbm, ⟨26, _⟩ => ⟨S1024x1024, .i1⟩
  | .hbm, ⟨27, _⟩ => ⟨S128, .i32⟩
  | .hbm, ⟨28, _⟩ => ⟨S1x128, .i32⟩
  | .hbm, ⟨29, _⟩ => ⟨S128x1, .i32⟩
  | .hbm, ⟨30, _⟩ => ⟨S128x128, .i32⟩
  | .hbm, ⟨31, _⟩ => ⟨S128x128, .i32⟩
  | .hbm, ⟨32, _⟩ => ⟨S128x128, .i1⟩
  | .hbm, ⟨33, _⟩ => ⟨S1024x1024, .bf16⟩
  | .hbm, ⟨34, _⟩ => ⟨S1024x1024, .bf16⟩
  | .hbm, ⟨35, _⟩ => ⟨S128x128, .bf16⟩
  | .hbm, ⟨36, _⟩ => ⟨S2x128x1024, .f32⟩
  | .local _ .vmem, ⟨0, _⟩ => ⟨S1x128x1024, .f32⟩
  | .local _ .vmem, ⟨1, _⟩ => ⟨S1x128x1024, .f32⟩
  | .local _ .vmem, ⟨2, _⟩ => ⟨S1024x1024, .bf16⟩
  | .local _ .vmem, ⟨3, _⟩ => ⟨S1024x1024, .bf16⟩
  | .local _ .vmem, ⟨4, _⟩ => ⟨S128x128, .bf16⟩
  | .local _ .vmem, ⟨5, _⟩ => ⟨S1x128x1024, .f32⟩
  | .local _ .vmem, ⟨6, _⟩ => ⟨S1x128x1024, .f32⟩
  | _, _ => ⟨S8448x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_c : Ref sig .tc := ⟨.hbm, 6, rfl⟩
abbrev main_call0_v0 : Ref sig .tc := ⟨.hbm, 7, rfl⟩
abbrev main_v5 : Ref sig .tc := ⟨.hbm, 8, rfl⟩
abbrev main_v6 : Ref sig .tc := ⟨.hbm, 9, rfl⟩
abbrev main_c_0 : Ref sig .tc := ⟨.hbm, 10, rfl⟩
abbrev main_v7 : Ref sig .tc := ⟨.hbm, 11, rfl⟩
abbrev main_v8 : Ref sig .tc := ⟨.hbm, 12, rfl⟩
abbrev main_c_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S8448x128 : Shape := ⟨2, ![8448, 128]⟩
abbrev S8192x8 : Shape := ⟨2, ![8192, 8]⟩
abbrev S2x4096x8 : Shape := ⟨3, ![2, 4096, 8]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x4096x1 : Shape := ⟨4, ![1, 4096, 4096, 1]⟩
abbrev S2x1x4096x8 : Shape := ⟨4, ![2, 1, 4096, 8]⟩
abbrev S_ : Shape := ⟨0, ![]⟩
abbrev S2x4096x4096x8 : Shape := ⟨4, ![2, 4096, 4096, 8]⟩
abbrev S2x32x128x8 : Shape := ⟨4, ![2, 32, 128, 8]⟩
abbrev S2x128x128x8 : Shape := ⟨4, ![2, 128, 128, 8]⟩
abbrev S2x128x8x128 : Shape := ⟨4, ![2, 128, 8, 128]⟩
abbrev S2x128x1024 : Shape := ⟨3, ![2, 128, 1024]⟩

abbrev nBuf : Space → Nat
  | .hbm => 25
  | .vmem => 0
  | .smem => 0
  | _ => 0

abbrev bufTy : (tb : Table) → Fin (tcTables nBuf tb) → BufTy
  | .hbm, ⟨0, _⟩ => ⟨S8448x128, .f32⟩
  | .hbm, ⟨1, _⟩ => ⟨S8192x8, .f32⟩
  | .hbm, ⟨2, _⟩ => ⟨S2x4096x8, .f32⟩
  | .hbm, ⟨3, _⟩ => ⟨S4096, .i32⟩
  | .hbm, ⟨4, _⟩ => ⟨S1x4096, .i32⟩
  | .hbm, ⟨5, _⟩ => ⟨S4096x1, .i32⟩
  | .hbm, ⟨6, _⟩ => ⟨S4096x4096, .i32⟩
  | .hbm, ⟨7, _⟩ => ⟨S4096x4096, .i32⟩
  | .hbm, ⟨8, _⟩ => ⟨S4096x4096, .i1⟩
  | .hbm, ⟨9, _⟩ => ⟨S1x4096x4096x1, .i1⟩
  | .hbm, ⟨10, _⟩ => ⟨S2x1x4096x8, .f32⟩
  | .hbm, ⟨11, _⟩ => ⟨S_, .f32⟩
  | .hbm, ⟨12, _⟩ => ⟨S_, .f32⟩
  | .hbm, ⟨13, _⟩ => ⟨S2x4096x4096x8, .i1⟩
  | .hbm, ⟨14, _⟩ => ⟨S2x4096x4096x8, .f32⟩
  | .hbm, ⟨15, _⟩ => ⟨S2x4096x4096x8, .f32⟩
  | .hbm, ⟨16, _⟩ => ⟨S2x4096x4096x8, .f32⟩
  | .hbm, ⟨17, _⟩ => ⟨S_, .f32⟩
  | .hbm, ⟨18, _⟩ => ⟨S2x4096x8, .f32⟩
  | .hbm, ⟨19, _⟩ => ⟨S2x32x128x8, .f32⟩
  | .hbm, ⟨20, _⟩ => ⟨S_, .i32⟩
  | .hbm, ⟨21, _⟩ => ⟨S_, .f32⟩
  | .hbm, ⟨22, _⟩ => ⟨S2x128x128x8, .f32⟩
  | .hbm, ⟨23, _⟩ => ⟨S2x128x8x128, .f32⟩
  | .hbm, ⟨24, _⟩ => ⟨S2x128x1024, .f32⟩
  | _, _ => ⟨S8448x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_call1_v0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Proof.FfnCases.lean ====
/-
  The feed-forward call: what its loop body leaves at each grid point, as the payloads of its input blocks and of what
  the point before left in the two scratch buffers (the normalised rows and the running sum).
-/
module

public import proofs.«01_k».proof.Proof.Gen.Kernel2Ideal.Value
public import Idealize.ShloMosaic.Lib.Tactic

@[expose] public section

set_option maxRecDepth 16384

noncomputable section

namespace Cert.Ffn

open Cert.Kernel2Ideal Cert.Kernel2Ideal.Gen Idealize.ShloMosaic Idealize.ShloMosaic.TcCoe Idealize.SL.Sem

variable {F : FTy → Type} [FloatOps F]

theorem hz : (![0, 0] : Fin 2 → Nat) = fun _ => 0 := funext fun a => by fin_cases a <;> rfl

section Cases
variable (c : Dev nD) (i : grid0.Coords)
  (a2 : Memref sig .tc .vmem S768x2048 .f32) (h2 : a2.IsWhole) (a3 : Memref sig .tc .vmem S1x2048 .f32) (h3 : a3.IsWhole)
  (a4 : Memref sig .tc .vmem S2048x512 .bf16) (h4 : a4.IsWhole) (a5 : Memref sig .tc .vmem S2048x512 .bf16) (h5 : a5.IsWhole)
  (a6 : Memref sig .tc .vmem S512x2048 .bf16) (h6 : a6.IsWhole) (a7 : Memref sig .tc .vmem S768x2048 .f32) (h7 : a7.IsWhole)
  (a8 : Memref sig .tc .vmem S768x2048 .bf16) (h8 : a8.IsWhole) (a9 : Memref sig .tc .vmem S768x2048 .f32) (h9 : a9.IsWhole)
  (x0 : Vec F S768x2048 .f32) (x1 : Vec F S1x2048 .f32) (x2 : Vec F S2048x512 .bf16) (x3 : Vec F S2048x512 .bf16)
  (x4 : Vec F S512x2048 .bf16) (xs0 : Vec F S768x2048 .bf16) (xs1 : Vec F S768x2048 .f32)

/-- The first point of a row block leaves the normalised rows in the first scratch buffer. -/
theorem xn_A (hc0 : cond0_0 i) (hc1 : ¬cond0_1 i) :
    sout0_A_0 c i a2 h2 a3 h3 a4 h4 a5 h5 a6 h6 a7 h7 a8 h8 a9 h9 hc0 hc1 x0 x1 x2 x3 x4 = k0_pay1 x0 x1 := by
  unfold sout0_A_0
  rw [View.read_writes_eq_canon _ _ _ (scover0_A_0 c i a2 h2 a3 h3 a4 h4 a5 h5 a6 h6 a7 h7 a8 h8 a9 h9 hc0 hc1 x0 x1 x2 x3 x4)]
  unfold kernelRun0_A
  dsimp only
  sl_unfold_words
  rw [View.canon_unit_zero hz]
  simp only [View.readAt_eq_ld, h2.read_unread, h3.read_unread, h4.read_unread, h5.read_unread, h6.read_unread, h8.read_unread, h9.read_unread,
    View.ld_unit_zero (S := S768x2048) hz, View.ld_unit_zero (S := S1x2048) hz, View.ld_unit_zero (S := S2048x512) hz,
    View.ld_unit_zero (S := S512x2048) hz]

/-- … and the first block of the hidden units, added to the zero block, in the second. -/
theorem acc_A (hc0 : cond0_0 i) (hc1 : ¬cond0_1 i) :
    sout0_A_1 c i a2 h2 a3 h3 a4 h4 a5 h5 a6 h6 a7 h7 a8 h8 a9 h9 hc0 hc1 x0 x1 x2 x3 x4 = k0_pay3 (k0_pay1 x0 x1) x2 x3 (k0_pay2 (F := F)) x4 := by
  unfold sout0_A_1
  rw [View.read_writes_eq_canon _ _ _ (scover0_A_1 c i a2 h2 a3 h3 a4 h4 a5 h5 a6 h6 a7 h7 a8 h8 a9 h9 hc0 hc1 x0 x1 x2 x3 x4)]
  unfold kernelRun0_A
  dsimp only
  sl_unfold_words
  rw [View.canon_cons_unit_zero (S := S768x2048) hz]
  simp only [View.readCov_unit_zero (S := S768x2048) _ hz]
  simp only [View.readAt_eq_ld, h2.read_unread, h3.read_unread, h4.read_unread, h5.read_unread, h6.read_unread, h8.read_unread, h9.read_unread,
    View.ld_unit_zero (S := S768x2048) hz, View.ld_unit_zero (S := S1x2048) hz, View.ld_unit_zero (S := S2048x512) hz,
    View.ld_unit_zero (S := S512x2048) hz]

/-- A later point adds its block of the hidden units to the running sum. -/
theorem acc_B (hc0 : ¬cond0_0 i) (hc1 : ¬cond0_1 i) :
    sout0_B_1 c i a2 h2 a3 h3 a4 h4 a5 h5 a6 h6 a7 h7 a8 h8 a9 h9 hc0 hc1 x0 x1 x2 x3 x4 xs0 xs1 = k0_pay3 xs0 x2 x3 xs1 x4 := by
  unfold sout0_B_1
  rw [View.read_writes_eq_canon _ _ _ (scover0_B_1 c i a2 h2 a3 h3 a4 h4 a5 h5 a6 h6 a7 h7 a8 h8 a9 h9 hc0 hc1 x0 x1 x2 x3 x4 xs0 xs1)]
  unfold kernelRun0_B
  dsimp only
  rw [View.canon_unit_zero hz]
  simp only [View.readAt_eq_ld, h2.read_unread, h3.read_unread, h4.read_unread, h5.read_unread, h6.read_unread, h8.read_unread, h9.read_unread,
    View.ld_unit_zero (S := S768x2048) hz, View.ld_unit_zero (S := S1x2048) hz, View.ld_unit_zero (S := S2048x512) hz,
    View.ld_unit_zero (S := S512x2048) hz]

/-- So does the last point of a row block, -/
theorem acc_C (hc0 : ¬cond0_0 i) (hc1 : cond0_1 i) :
    sout0_C_1 c i a2 h2 a3 h3 a4 h4 a5 h5 a6 h6 a7 h7 a8 h8 a9 h9 hc0 hc1 x0 x1 x2 x3 x4 xs0 xs1 = k0_pay3 xs0 x2 x3 xs1 x4 := by
  unfold sout0_C_1
  rw [View.read_writes_eq_canon _ _ _ (scover0_C_1 c i a2 h2 a3 h3 a4 h4 a5 h5 a6 h6 a7 h7 a8 h8 a9 h9 hc0 hc1 x0 x1 x2 x3 x4 xs0 xs1)]
  unfold kernelRun0_C
  dsimp only
  sl_unfold_words
  rw [View.canon_unit_zero hz]
  simp only [View.readAt_eq_ld, h2.read_unread, h3.read_unread, h4.read_unread, h5.read_unread, h6.read_unread, h8.read_unread, h9.read_unread,
    View.ld_unit_zero (S := S768x2048) hz, View.ld_unit_zero (S := S1x2048) hz, View.ld_unit_zero (S := S2048x512) hz,
    View.ld_unit_zero (S := S512x2048) hz]

/-- which then stores the input rows plus half the running sum. -/
theorem out_C (hc0 : ¬cond0_0 i) (hc1 : cond0_1 i) :
    out0_C_5 c i a2 h2 a3 h3 a4 h4 a5 h5 a6 h6 a7 h7 a8 h8 a9 h9 hc0 hc1 x0 x1 x2 x3 x4 xs0 xs1 = k0_pay4 x0 (k0_pay3 xs0 x2 x3 xs1 x4) := by
  unfold out0_C_5
  rw [View.read_writes_eq_canon _ _ _ (cover0_C_5 c i a2 h2 a3 h3 a4 h4 a5 h5 a6 h6 a7 h7 a8 h8 a9 h9 hc0 hc1 x0 x1 x2 x3 x4 xs0 xs1)]
  unfold kernelRun0_C
  dsimp only
  sl_unfold_words
  rw [View.canon_unit_zero hz]
  simp only [View.readCov_unit_zero (S := S768x2048) _ hz]
  simp only [View.readAt_eq_ld, h2.read_unread, h3.read_unread, h4.read_unread, h5.read_unread, h6.read_unread, h8.read_unread, h9.read_unread,
    View.ld_unit_zero (S := S768x2048) hz, View.ld_unit_zero (S := S1x2048) hz, View.ld_unit_zero (S := S2048x512) hz,
    View.ld_unit_zero (S := S512x2048) hz]

end Cases

/-! ## The state after a point -/

section State
variable (m : (ℓ : Loc nD τ sig) → Buf (Elt F) ℓ) (c : Dev nD)

theorem xn_first (t : Fin cfg0.N) (h0 : t.val % 11 = 0) :
    (outsAt0 m c t.val t.isLt).2.1 = k0_pay1 (iblk m c 0 t) (iblk m c 1 t) :=
  by rw [outsAt0_A m c t h0 (by omega)]; dsimp only; rw [xn_A]

theorem acc_first (t : Fin cfg0.N) (h0 : t.val % 11 = 0) :
    (outsAt0 m c t.val t.isLt).2.2
      = k0_pay3 (k0_pay1 (iblk m c 0 t) (iblk m c 1 t)) (iblk m c 2 t) (iblk m c 3 t) (k0_pay2 (F := F)) (iblk m c 4 t) :=
  by rw [outsAt0_A m c t h0 (by omega)]; dsimp only; rw [acc_A]

theorem xn_next (t : Fin cfg0.N) (h0 : ¬t.val % 11 = 0) :
    (outsAt0 m c t.val t.isLt).2.1 = (outsAt0 m c (t.val - 1) (Nat.lt_of_le_of_lt (Nat.sub_le _ _) t.isLt)).2.1 := by
  by_cases h1 : t.val % 11 = 10
  · rw [outsAt0_C m c t h0 h1]; dsimp only; unfold sout0_C_0; rfl
  · rw [outsAt0_B m c t h0 h1]; dsimp only; unfold sout0_B_0; rfl

theorem acc_next (t : Fin cfg0.N) (h0 : ¬t.val % 11 = 0) :
    (outsAt0 m c t.val t.isLt).2.2
      = k0_pay3 (outsAt0 m c (t.val - 1) (Nat.lt_of_le_of_lt (Nat.sub_le _ _) t.isLt)).2.1 (iblk m c 2 t) (iblk m c 3 t)
          (outsAt0 m c (t.val - 1) (Nat.lt_of_le_of_lt (Nat.sub_le _ _) t.isLt)).2.2 (iblk m c 4 t) := by
  by_cases h1 : t.val % 11 = 10
  · rw [outsAt0_C m c t h0 h1]; dsimp only; rw [acc_C]
  · rw [outsAt0_B m c t h0 h1]; dsimp only; rw [acc_B]

/-- The last point of a row block stores the input rows plus half of what it leaves in the running sum. -/
theorem out_last (t : Fin cfg0.N) (h1 : t.val % 11 = 10) :
    (outsAt0 m c t.val t.isLt).1 = k0_pay4 (iblk m c 0 t) (outsAt0 m c t.val t.isLt).2.2 := by
  rw [acc_next m c t (by omega)]
  rw [outsAt0_C m c t (by omega) h1]; dsimp only; rw [out_C]

end State

end Cert.Ffn
-- ==== Proof.FfnValue.lean ====
/-
  The feed-forward call computes `x + ½ · (silu(n·Wg) ⊙ (n·Wu))·Wd` with `n` the root-mean-square normalised rows:
  the sum over the 5632 hidden units is built 512 at a time over the inner grid axis, in a scratch buffer that the first
  point of each row block resets; over the extended reals the blocked sum is the whole one.
-/
module

public import proofs.«01_k».proof.Proof.FfnCases
public import proofs.«01_k».proof.Proof.Gen.Reference2Ideal.Run
public import proofs.«01_k».proof.Proof.Gen.Reference2Ideal.Read
public import Idealize.ShloMosaic.Lib.Pointwise

@[expose] public section

set_option maxRecDepth 16384

noncomputable section

namespace Cert.Ffn

open Idealize.ShloMosaic Idealize.ShloMosaic.TcCoe Idealize.SL.Sem

/-! ## The layer's feed-forward block, written out -/

section Spec
variable (X : Fin 8448 → Fin 2048 → EReal) (g : Fin 2048 → EReal) (wg wu : Fin 2048 → Fin 5632 → EReal)
  (wd : Fin 5632 → Fin 2048 → EReal)

/-- One over the root mean square of row `r`. -/
def rowScale (r : Fin 8448) : EReal :=
  Ideal.rsqrt (Ideal.div (∑ k, X r k * X r k) (Ideal.ofBits .f32 0x45000000#32) + Ideal.ofBits .f32 0x358637BD#32)

/-- The normalised row. -/
def normed (r : Fin 8448) (k : Fin 2048) : EReal := X r k * rowScale X r * g k

/-- A product of the normalised row with one column of a weight. -/
def proj (w : Fin 2048 → Fin 5632 → EReal) (r : Fin 8448) (h : Fin 5632) : EReal := ∑ k, normed X g r k * w k h

/-- Hidden unit `h` of row `r`: the gate's silu times the up product. -/
def hidden (r : Fin 8448) (h : Fin 5632) : EReal :=
  proj X g wg r h * Ideal.logistic (proj X g wg r h) * proj X g wu r h

/-- Row `r`, column `q` of the result. -/
def ffn (r : Fin 8448) (q : Fin 2048) : EReal :=
  X r q + Ideal.ofBits .f32 0x3F000000#32 * ∑ h, hidden X g wg wu r h * wd h q

/-- The part of the down product that hidden block `b` contributes. -/
def blockTerm (r : Fin 8448) (q : Fin 2048) (b : ℕ) : EReal :=
  if hb : b < 11 then ∑ j : Fin 512, hidden X g wg wu r ⟨b * 512 + j.val, by omega⟩ * wd ⟨b * 512 + j.val, by omega⟩ q else 0

/-- The eleven blocks' parts add up to the whole sum. -/
theorem sum_blockTerm (r : Fin 8448) (q : Fin 2048) :
    ∑ b ∈ Finset.range 11, blockTerm X g wg wu wd r q b = ∑ h, hidden X g wg wu r h * wd h q := by
  rw [Fin.sum_univ_tiles 11 512 rfl (fun h => hidden X g wg wu r h * wd h q), Finset.sum_range]
  refine Finset.sum_congr rfl fun b _ => ?_
  unfold blockTerm
  rw [dif_pos b.isLt]

end Spec

/-! ## The body's stores, read at an index -/

section Payloads
open Cert.Kernel2Ideal Cert.Kernel2Ideal.Gen

theorem pay1_apply (v25 : Vec Ideal S768x2048 .f32) (v26 : Vec Ideal S1x2048 .f32) (r : Fin 768) (k : Fin 2048) :
    k0_pay1 v25 v26 (ix2 r k) = v25 (ix2 r k) * Ideal.rsqrt (Ideal.div (∑ x, v25 (ix2 r x) * v25 (ix2 r x))
      (Ideal.ofBits .f32 0x45000000#32) + Ideal.ofBits .f32 0x358637BD#32) * v26 (ix2 0 k) := by
  unfold k0_pay1
  pointwise

theorem pay2_apply (r : Fin 768) (k : Fin 2048) : k0_pay2 (F := Ideal) (ix2 r k) = 0 := by
  unfold k0_pay2
  pointwise

theorem pay3_apply (v3 : Vec Ideal S768x2048 .bf16) (v4 v7 : Vec Ideal S2048x512 .bf16) (v14 : Vec Ideal S768x2048 .f32)
    (v15 : Vec Ideal S512x2048 .bf16) (r : Fin 768) (k : Fin 2048) :
    k0_pay3 v3 v4 v7 v14 v15 (ix2 r k) = v14 (ix2 r k) + ∑ h : Fin 512,
      ((∑ x, v3 (ix2 r x) * v4 (ix2 x h)) * Ideal.logistic (∑ x, v3 (ix2 r x) * v4 (ix2 x h))
        * ∑ x, v3 (ix2 r x) * v7 (ix2 x h)) * v15 (ix2 h k) := by
  unfold k0_pay3
  pointwise [dot_S768x2048_S2048x512_S768x512_1_0_0_1_n_n, dot_S768x512_S512x2048_S768x2048_1_0_0_1_n_n]

theorem pay4_apply (v25 v26 : Vec Ideal S768x2048 .f32) (r : Fin 768) (k : Fin 2048) :
    k0_pay4 v25 v26 (ix2 r k) = v25 (ix2 r k) + Ideal.ofBits .f32 0x3F000000#32 * v26 (ix2 r k) := by
  unfold k0_pay4
  pointwise

end Payloads

/-! ## The kernel's input blocks are slices of its arguments -/

section Kernel
open Cert.Kernel2Ideal Cert.Kernel2Ideal.Gen

variable (m : (ℓ : Loc nD τ sig) → Buf (Elt Ideal) ℓ) (c : Dev nD)

theorem wide_apply (y : Vec Ideal S1x2048x5632 .f32) (k : Fin 2048) (h : Fin 5632) :
    truncf (F := Ideal) (φ := .f32) .bf16 (shapeCast S2048x5632 y shapeCasts_S1x2048x5632_S2048x5632) bitsLt_bf16_f32 (ix2 k h) = y (ix3 0 k h) := by
  pointwise

theorem tall_apply (y : Vec Ideal S1x5632x2048 .f32) (h : Fin 5632) (q : Fin 2048) :
    truncf (F := Ideal) (φ := .f32) .bf16 (shapeCast S5632x2048 y shapeCasts_S1x5632x2048_S5632x2048) bitsLt_bf16_f32 (ix2 h q) = y (ix3 0 h q) := by
  pointwise

abbrev aX : Fin 8448 → Fin 2048 → EReal := fun r k => m ((c : Thread nD τ).loc main_arg0) (ix2 r k)
abbrev aG : Fin 2048 → EReal := fun k => m ((c : Thread nD τ).loc main_arg1) (ix2 0 k)
abbrev aWg : Fin 2048 → Fin 5632 → EReal := fun k h => m ((c : Thread nD τ).loc main_arg2) (ix3 0 k h)
abbrev aWu : Fin 2048 → Fin 5632 → EReal := fun k h => m ((c : Thread nD τ).loc main_arg3) (ix3 0 k h)
abbrev aWd : Fin 5632 → Fin 2048 → EReal := fun h q => m ((c : Thread nD τ).loc main_arg4) (ix3 0 h q)

theorem V_norm (k : Fin 2048) : V m c main_v7 (ix2 0 k) = aG m c k := by
  have h : V m c main_v7 = shapeCast S1x2048 (shapeCast S2048 (m ((c : Thread nD τ).loc main_arg1)) shapeCasts_S1x2048_S2048) shapeCasts_S2048_S1x2048 := by
    simp only [V, hostOps0]; after_results_simp <;> rfl
  rw [h]
  pointwise

theorem V_gate (k : Fin 2048) (h : Fin 5632) : V m c main_v2 (ix2 k h) = aWg m c k h := by
  have e : V m c main_v2 = truncf (F := Ideal) (φ := .f32) .bf16 (shapeCast S2048x5632 (m ((c : Thread nD τ).loc main_arg2)) shapeCasts_S1x2048x5632_S2048x5632) bitsLt_bf16_f32 := by
    simp only [V, hostOps0]; after_results_simp <;> rfl
  rw [e]
  exact wide_apply _ k h

theorem V_up (k : Fin 2048) (h : Fin 5632) : V m c main_v4 (ix2 k h) = aWu m c k h := by
  have e : V m c main_v4 = truncf (F := Ideal) (φ := .f32) .bf16 (shapeCast S2048x5632 (m ((c : Thread nD τ).loc main_arg3)) shapeCasts_S1x2048x5632_S2048x5632) bitsLt_bf16_f32 := by
    simp only [V, hostOps0]; after_results_simp <;> rfl
  rw [e]
  exact wide_apply _ k h

theorem V_down (h : Fin 5632) (q : Fin 2048) : V m c main_v6 (ix2 h q) = aWd m c h q := by
  have e : V m c main_v6 = truncf (F := Ideal) (φ := .f32) .bf16 (shapeCast S5632x2048 (m ((c : Thread nD τ).loc main_arg4)) shapeCasts_S1x5632x2048_S5632x2048) bitsLt_bf16_f32 := by
    simp only [V, hostOps0]; after_results_simp <;> rfl
  rw [e]
  exact tall_apply _ h q

/-- The index maps over the grid: point `t` works on row block `t / 11` and hidden block `t % 11`. -/
theorem idx_facts : ∀ t : Fin cfg0.N,
    win0_0.index t (0 : Fin 2) = t.val / 11 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val % 11
    ∧ win0_3.index t (0 : Fin 2) = 0 ∧ win0_3.index t (1 : Fin 2) = t.val % 11
    ∧ win0_4.index t (0 : Fin 2) = t.val % 11 ∧ win0_4.index t (1 : Fin 2) = 0 :=
  (by decide +kernel : ∀ t : Fin grid0.N, _)

theorem tlt (t : Fin cfg0.N) : t.val < 121 := lt_of_lt_of_eq t.isLt N_0

/-- Row `r` of point `t`'s row block. -/
def row (t : Fin cfg0.N) (r : Fin 768) : Fin 8448 := ⟨t.val / 11 * 768 + r.val, by have := tlt t; omega⟩
/-- Unit `h` of point `t`'s hidden block. -/
def col (t : Fin cfg0.N) (h : Fin 512) : Fin 5632 := ⟨t.val % 11 * 512 + h.val, by omega⟩

theorem blk_x (t : Fin cfg0.N) (r : Fin 768) (k : Fin 2048) : iblk m c 0 t (ix2 r k) = aX m c (row t r) k := by
  obtain ⟨e0, e1, -⟩ := idx_facts t
  have hV := V_main_arg0 m c
  unfold iblk
  rw [View.read_apply]
  show V m c main_arg0 _ = _
  rw [hV]
  show m ((c : Thread nD τ).loc main_arg0) _ = m ((c : Thread nD τ).loc main_arg0) _
  congr 1
  funext a; apply Fin.ext
  match a with
  | ⟨0, _⟩ => show win0_0.index t 0 * 768 + 1 * r.val = t.val / 11 * 768 + r.val; rw [e0]; omega
  | ⟨1, _⟩ => show win0_0.index t 1 * 2048 + 1 * k.val = k.val; rw [e1]; omega

theorem blk_norm (t : Fin cfg0.N) (k : Fin 2048) : iblk m c 1 t (ix2 0 k) = aG m c k := by
  obtain ⟨-, -, e0, e1, -⟩ := idx_facts t
  rw [← V_norm m c]
  unfold iblk
  rw [View.read_apply]
  show V m c main_v7 _ = V m c main_v7 _
  congr 1
  funext a; apply Fin.ext
  match a with
  | ⟨0, _⟩ => show win0_1.index t 0 * 1 + 1 * 0 = 0; rw [e0]
  | ⟨1, _⟩ => show win0_1.index t 1 * 2048 + 1 * k.val = k.val; rw [e1]; omega

theorem blk_gate (t : Fin cfg0.N) (k : Fin 2048) (h : Fin 512) : iblk m c 2 t (ix2 k h) = aWg m c k (col t h) := by
  obtain ⟨-, -, -, -, e0, e1, -⟩ := idx_facts t
  rw [← V_gate m c]
  unfold iblk
  rw [View.read_apply]
  show V m c main_v2 _ = V m c main_v2 _
  congr 1
  funext a; apply Fin.ext
  match a with
  | ⟨0, _⟩ => show win0_2.index t 0 * 2048 + 1 * k.val = k.val; rw [e0]; omega
  | ⟨1, _⟩ => show win0_2.index t 1 * 512 + 1 * h.val = t.val % 11 * 512 + h.val; rw [e1]; omega

theorem blk_up (t : Fin cfg0.N) (k : Fin 2048) (h : Fin 512) : iblk m c 3 t (ix2 k h) = aWu m c k (col t h) := by
  obtain ⟨-, -, -, -, -, -, e0, e1, -⟩ := idx_facts t
  rw [← V_up m c]
  unfold iblk
  rw [View.read_apply]
  show V m c main_v4 _ = V m c main_v4 _
  congr 1
  funext a; apply Fin.ext
  match a with
  | ⟨0, _⟩ => show win0_3.index t 0 * 2048 + 1 * k.val = k.val; rw [e0]; omega
  | ⟨1, _⟩ => show win0_3.index t 1 * 512 + 1 * h.val = t.val % 11 * 512 + h.val; rw [e1]; omega

theorem blk_down (t : Fin cfg0.N) (h : Fin 512) (q : Fin 2048) : iblk m c 4 t (ix2 h q) = aWd m c (col t h) q := by
  obtain ⟨-, -, -, -, -, -, -, -, e0, e1⟩ := idx_facts t
  rw [← V_down m c]
  unfold iblk
  rw [View.read_apply]
  show V m c main_v6 _ = V m c main_v6 _
  congr 1
  funext a; apply Fin.ext
  match a with
  | ⟨0, _⟩ => show win0_4.index t 0 * 512 + 1 * h.val = t.val % 11 * 512 + h.val; rw [e0]; omega
  | ⟨1, _⟩ => show win0_4.index t 1 * 2048 + 1 * q.val = q.val; rw [e1]; omega

/-! ## The two scratch buffers along a row block -/

/-- What the first point of a row block computes from its blocks is the normalised row. -/
theorem pay1_blk (t : Fin cfg0.N) (r : Fin 768) (k : Fin 2048) :
    k0_pay1 (iblk m c 0 t) (iblk m c 1 t) (ix2 r k) = normed (aX m c) (aG m c) (row t r) k := by
  refine (pay1_apply (iblk m c 0 t) (iblk m c 1 t) r k).trans ?_
  simp only [blk_x, blk_norm]
  rfl

/-- One point's addition to the running sum, over the normalised rows of its row block. -/
theorem pay3_blk (t : Fin cfg0.N) (xs : Vec Ideal S768x2048 .bf16) (acc : Vec Ideal S768x2048 .f32) (r : Fin 768) (q : Fin 2048)
    (hxs : ∀ k, xs (ix2 r k) = normed (aX m c) (aG m c) (row t r) k) :
    k0_pay3 xs (iblk m c 2 t) (iblk m c 3 t) acc (iblk m c 4 t) (ix2 r q)
      = acc (ix2 r q) + blockTerm (aX m c) (aG m c) (aWg m c) (aWu m c) (aWd m c) (row t r) q (t.val % 11) := by
  refine (pay3_apply xs (iblk m c 2 t) (iblk m c 3 t) acc (iblk m c 4 t) r q).trans ?_
  unfold blockTerm
  rw [dif_pos (Nat.mod_lt _ (by decide))]
  simp only [hxs, blk_gate, blk_up, blk_down]
  rfl

/-- After point `t` the first scratch buffer holds the normalised rows of its row block and the second the parts of the
    hidden blocks up to the point's own. -/
theorem scratch_at (n : ℕ) : ∀ (t : Fin cfg0.N), t.val = n → ∀ (r : Fin 768),
    (∀ k, (outsAt0 m c t.val t.isLt).2.1 (ix2 r k) = normed (aX m c) (aG m c) (row t r) k)
    ∧ ∀ q, (outsAt0 m c t.val t.isLt).2.2 (ix2 r q)
        = ∑ b ∈ Finset.range (t.val % 11 + 1), blockTerm (aX m c) (aG m c) (aWg m c) (aWu m c) (aWd m c) (row t r) q b := by
  have start : ∀ t : Fin cfg0.N, t.val % 11 = 0 → ∀ (r : Fin 768),
      (∀ k, (outsAt0 m c t.val t.isLt).2.1 (ix2 r k) = normed (aX m c) (aG m c) (row t r) k)
      ∧ ∀ q, (outsAt0 m c t.val t.isLt).2.2 (ix2 r q)
        = ∑ b ∈ Finset.range (t.val % 11 + 1), blockTerm (aX m c) (aG m c) (aWg m c) (aWu m c) (aWd m c) (row t r) q b := by
    intro t h0 r
    refine ⟨fun k => ?_, fun q => ?_⟩
    · rw [xn_first m c t h0]
      exact pay1_blk m c t r k
    · rw [acc_first m c t h0, pay3_blk m c t _ _ r q (pay1_blk m c t r), pay2_apply, zero_add, h0]
      simp
  induction n with
  | zero => intro t ht r; exact start t (by omega) r
  | succ n ih =>
    intro t ht r
    by_cases h0 : t.val % 11 = 0
    · exact start t h0 r
    · have hp : n < cfg0.N := by have := t.isLt; omega
      obtain ⟨ihx, iha⟩ := ih ⟨n, hp⟩ rfl r
      have hrow : row ⟨n, hp⟩ r = row t r := Fin.ext (by show n / 11 * 768 + r.val = t.val / 11 * 768 + r.val; omega)
      have hcol : n % 11 + 1 = t.val % 11 := by omega
      rw [hrow] at ihx iha
      have hprev : ∀ (h : t.val - 1 < cfg0.N), outsAt0 m c (t.val - 1) h = outsAt0 m c n hp := by
        have : t.val - 1 = n := by omega
        subst this; intro h; rfl
      refine ⟨fun k => ?_, fun q => ?_⟩
      · rw [xn_next m c t h0, hprev]
        exact ihx k
      · rw [acc_next m c t h0, hprev, pay3_blk m c t _ _ r q ihx, iha q, Finset.sum_range_succ _ (t.val % 11)]
        show _ + _ = _
        simp only [hcol]

/-- What the last point of a row block stores into the result. -/
theorem out_at (t : Fin cfg0.N) (h1 : t.val % 11 = 10) (r : Fin 768) (q : Fin 2048) :
    (outsAt0 m c t.val t.isLt).1 (ix2 r q) = ffn (aX m c) (aG m c) (aWg m c) (aWu m c) (aWd m c) (row t r) q := by
  rw [out_last m c t h1]
  refine (pay4_apply (iblk m c 0 t) _ r q).trans ?_
  rw [blk_x, (scratch_at m c t.val t rfl r).2 q, h1, sum_blockTerm]
  rfl

/-- The kernel's result array. -/
theorem result (r : Fin 8448) (q : Fin 2048) :
    Value.G5 m c (ix2 r q) = ffn (aX m c) (aG m c) (aWg m c) (aWu m c) (aWd m c) r q := by
  have hN : cfg0.N = 121 := N_0
  have hr : r.val < 8448 := r.isLt
  have hq : q.val < 2048 := q.isLt
  have hpt : Value.pt5Of (ix2 r q) = 11 * (r.val / 768) + 10 := by
    show 11 * (1 * (r.val / 768 - 0) + 1 * (q.val / 2048 - 0)) + 10 = _
    omega
  have hlt : 11 * (r.val / 768) + 10 < cfg0.N := by omega
  have hloc : Value.loc5Of (ix2 r q) = ix2 (⟨r.val % 768, Nat.mod_lt _ (by decide)⟩ : Fin 768) q := by
    funext a; apply Fin.ext
    match a with
    | ⟨0, _⟩ => rfl
    | ⟨1, _⟩ => show q.val % 2048 = q.val; omega
  unfold Value.G5
  rw [dif_pos (by rw [hpt]; exact hlt), ← Value.outsAt0_sweep m c _ (by rw [hpt]; exact hlt), hloc]
  have key := out_at m c ⟨11 * (r.val / 768) + 10, hlt⟩ (by show (11 * (r.val / 768) + 10) % 11 = 10; omega) ⟨r.val % 768, Nat.mod_lt _ (by decide)⟩ q
  have hrow : row ⟨11 * (r.val / 768) + 10, hlt⟩ ⟨r.val % 768, Nat.mod_lt _ (by decide)⟩ = r :=
    Fin.ext (by show (11 * (r.val / 768) + 10) / 11 * 768 + r.val % 768 = r.val; omega)
  rw [hrow] at key
  rw [← key]
  have hc : ∀ (n n' : ℕ) (h : n < cfg0.N) (h' : n' < cfg0.N), n = n' → (outsAt0 m c n h).1 = (outsAt0 m c n' h').1 := by
    intro n n' h h' e; subst e; rfl
  exact congrFun (hc _ _ _ _ hpt) _

end Kernel

/-! ## The reference -/

section Ref
open Cert.Reference2Ideal Cert.Reference2Ideal.Read

theorem ref_apply (x0 : (⟨S8448x2048, .f32⟩ : BufTy).Contents (Elt Ideal)) (x1 : (⟨S1x2048, .f32⟩ : BufTy).Contents (Elt Ideal))
    (x2 x3 : (⟨S1x2048x5632, .f32⟩ : BufTy).Contents (Elt Ideal)) (x4 : (⟨S1x5632x2048, .f32⟩ : BufTy).Contents (Elt Ideal))
    (r : Fin 8448) (q : Fin 2048) :
    val_main_v24 (F := Ideal) x0 x1 x2 x3 x4 (ix2 r q)
      = ffn (fun r k => x0 (ix2 r k)) (fun k => x1 (ix2 0 k)) (fun k h => x2 (ix3 0 k h)) (fun k h => x3 (ix3 0 k h)) (fun h q => x4 (ix3 0 h q)) r q := by
  unfold val_main_v24 val_main_v23 val_main_v22 val_main_v21 val_main_v20 val_main_v19 val_main_v18 val_main_call0_v5
    val_main_call0_v4 val_main_call0_v3 val_main_call0_v2 val_main_call0_v1 val_main_call0_v0 val_main_v17 val_main_v16
    val_main_v15 val_main_v14 val_main_v13 val_main_v12 val_main_v11 val_main_v10 val_main_v9 val_main_v8 val_main_v7
    val_main_v6 val_main_v5 val_main_v4 val_main_v3 val_main_v2 val_main_v1 val_main_v0 val_main_cst val_main_cst_0
    val_main_cst_1 val_main_cst_2 val_main_call0_cst val_main_call0_cst_0
  pointwise [dot_S8448x2048_S2048x5632_S8448x5632_1_0_0_1_n_n, dot_S8448x5632_S5632x2048_S8448x2048_1_0_0_1_n_n]
  rfl

end Ref

end Cert.Ffn
-- ==== Proof.FfnClaim.lean ====
/-
  The feed-forward call's claims: the frames of its two readings and of the reference, and equality of the two results.
-/
module

public import proofs.«01_k».proof.Defs
public import proofs.«01_k».proof.Proof.FfnValue
public import proofs.«01_k».proof.Proof.Gen.Kernel2.Frame
public import Idealize.ShloMosaic.Lib.Quiescent

@[expose] public section

set_option maxRecDepth 16384

noncomputable section

namespace Cert.Ffn

open Idealize.ShloMosaic Idealize.ShloMosaic.TcCoe Idealize.SL.Sem

theorem frame_kernel : Cert.quiescent_Kernel2 := fun m ρ _ => Cert.Kernel2.Gen.frame m ρ

theorem frame_kernel_ideal : Cert.quiescent_Kernel2Ideal := fun m ρ _ => Cert.Kernel2Ideal.Gen.frame m ρ

theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

/-- Kernel and reference end with the same array. -/
theorem algebraic : Cert.algebraic_Kernel2Ideal_Reference2Ideal := by
  intro m ρ m' ρ' _ hagree
  refine ⟨fun c => Cert.Kernel2Ideal.Value.G5 m c, Cert.Kernel2Ideal.Value.run m ρ, ?_⟩
  refine (θ_run Cert.Reference2Ideal.defs _ _).mono (fun r h c => ⟨?_, (h c).2⟩) (Cert.Reference2Ideal.Value.run m' ρ')
  obtain ⟨e0, e1, e2, e3, e4⟩ := hagree c
  rw [(h c).1]
  refine (Cert.Reference2Ideal.Read.val_main_v24_eq _ _ _ _ _).symm.trans ?_
  funext i
  rw [eq_ix2 i, e0, e1, e2, e3, e4]
  exact (ref_apply _ _ _ _ _ (i 0) (i 1)).trans (result m c (i 0) (i 1)).symm

end Cert.Ffn
-- ==== Proof.OutValue.lean ====
/-
  The output projection: both attentions' rows (prompt rows from one array, decode rows from another) are projected, gated
  by the two halves of the gate projections, added, projected once more and added to the layer's input.
-/
module

public import proofs.«01_k».proof.Proof.Gen.Kernel4Ideal.Value
public import proofs.«01_k».proof.Proof.Gen.Reference4Ideal.Run
public import proofs.«01_k».proof.Proof.Gen.Reference4Ideal.Read
public import Idealize.ShloMosaic.Lib.Pointwise
public import Idealize.ShloMosaic.Lib.Pipeline.ValueKit

@[expose] public section

set_option maxRecDepth 16384

noncomputable section

namespace Cert.OutProj

open Idealize.ShloMosaic Idealize.ShloMosaic.TcCoe Idealize.SL.Sem

/-! ## The output projection, written out -/

section Spec
variable (X : Fin 8448 → Fin 2048 → EReal) (oaP : Fin 8192 → Fin 1024 → EReal) (oaS : Fin 256 → Fin 1024 → EReal)
  (obP : Fin 8192 → Fin 1024 → EReal) (obS : Fin 256 → Fin 1024 → EReal) (P : Fin 10 → Fin 8448 → Fin 1024 → EReal)
  (wa wb : Fin 1024 → Fin 2048 → EReal) (wo : Fin 2048 → Fin 2048 → EReal)

/-- The prompt's rows, then the decode rows. -/
def rows (p : Fin 8192 → Fin 1024 → EReal) (s : Fin 256 → Fin 1024 → EReal) (r : Fin 8448) (k : Fin 1024) : EReal :=
  if h : r.val < 8192 then p ⟨r.val, h⟩ k else s ⟨r.val - 8192, by omega⟩ k

/-- Two half gates side by side. -/
def gate (a b : Fin 10) (r : Fin 8448) (q : Fin 2048) : EReal :=
  if h : q.val < 1024 then P a r ⟨q.val, h⟩ else P b r ⟨q.val - 1024, by omega⟩

/-- The gated sum of the two projected attentions. -/
def merged (r : Fin 8448) (q : Fin 2048) : EReal :=
  gate P 6 7 r q * (∑ k, rows oaP oaS r k * wa k q) + gate P 8 9 r q * ∑ k, rows obP obS r k * wb k q

/-- Row `r`, column `q` of the result. -/
def outProj (r : Fin 8448) (q : Fin 2048) : EReal :=
  X r q + ∑ j, merged oaP oaS obP obS P wa wb r j * wo j q

end Spec

section Payloads
open Cert.Kernel4Ideal Cert.Kernel4Ideal.Gen

theorem pay1_apply (v28 : FVec Ideal S256x2048 .bf16) (v29 : Vec Ideal S256x2048 .f32) (v30 : Vec Ideal S2048x2048 .bf16)
    (r : Fin 256) (q : Fin 2048) :
    k0_pay1 v28 v29 v30 (ix2 r q) = v29 (ix2 r q) + ∑ k : Fin 2048, v28 (ix2 r k) * v30 (ix2 k q) := by
  unfold k0_pay1
  pointwise [dot_S256x2048_S2048x2048_S256x2048_1_0_0_1_n_n]

theorem pay2_apply (i : grid0.Coords) (v1 v2 v5 v6 : Vec Ideal S256x1024 .f32) (v9 v12 : Vec Ideal S1024x2048 .bf16)
    (v15 v17 v20 v22 : Vec Ideal S1x256x1024 .f32) (r : Fin 256) (q : Fin 2048) :
    k0_pay2 i v1 v2 v5 v6 v9 v12 v15 v17 v20 v22 (ix2 r q)
      = (if h : q.val < 1024 then v15 (ix3 0 r ⟨q.val, h⟩) else v17 (ix3 0 r ⟨q.val - 1024, by omega⟩))
          * (∑ x, Scalar.select (Scalar.cmpi .eq (BitVec.ofNat 32 (i 0).val) 32#32) (v1 (ix2 r x)) (v2 (ix2 r x)) * v9 (ix2 x q))
        + (if h : q.val < 1024 then v20 (ix3 0 r ⟨q.val, h⟩) else v22 (ix3 0 r ⟨q.val - 1024, by omega⟩))
          * ∑ x, Scalar.select (Scalar.cmpi .eq (BitVec.ofNat 32 (i 0).val) 32#32) (v5 (ix2 r x)) (v6 (ix2 r x)) * v12 (ix2 x q) := by
  unfold k0_pay2
  dsimp only
  generalize (Scalar.cmpi .eq (BitVec.ofNat 32 (i 0).val) 32#32) = b
  pointwise [dot_S256x1024_S1024x2048_S256x2048_1_0_0_1_n_n]

end Payloads

/-! ## The kernel's blocks and its result -/

section Kernel
open Cert.Kernel4Ideal Cert.Kernel4Ideal.Gen

variable (m : (ℓ : Loc nD τ sig) → Buf (Elt Ideal) ℓ) (c : Dev nD)

theorem wide_apply (y : Vec Ideal S1x1024x2048 .f32) (k : Fin 1024) (h : Fin 2048) :
    truncf (F := Ideal) (φ := .f32) .bf16 (shapeCast S1024x2048 y shapeCasts_S1x1024x2048_S1024x2048) bitsLt_bf16_f32 (ix2 k h) = y (ix3 0 k h) := by
  pointwise

theorem square_apply (y : Vec Ideal S1x2048x2048 .f32) (h : Fin 2048) (q : Fin 2048) :
    truncf (F := Ideal) (φ := .f32) .bf16 (shapeCast S2048x2048 y shapeCasts_S1x2048x2048_S2048x2048) bitsLt_bf16_f32 (ix2 h q) = y (ix3 0 h q) := by
  pointwise

abbrev aX : Fin 8448 → Fin 2048 → EReal := fun r k => m ((c : Thread nD τ).loc main_arg0) (ix2 r k)
abbrev aOaP : Fin 8192 → Fin 1024 → EReal := fun r k => m ((c : Thread nD τ).loc main_arg1) (ix2 r k)
abbrev aOaS : Fin 256 → Fin 1024 → EReal := fun r k => m ((c : Thread nD τ).loc main_arg2) (ix2 r k)
abbrev aObP : Fin 8192 → Fin 1024 → EReal := fun r k => m ((c : Thread nD τ).loc main_arg3) (ix2 r k)
abbrev aObS : Fin 256 → Fin 1024 → EReal := fun r k => m ((c : Thread nD τ).loc main_arg4) (ix2 r k)
abbrev aP : Fin 10 → Fin 8448 → Fin 1024 → EReal := fun a r k => m ((c : Thread nD τ).loc main_arg5) (ix3 a r k)
abbrev aWa : Fin 1024 → Fin 2048 → EReal := fun k q => m ((c : Thread nD τ).loc main_arg6) (ix3 0 k q)
abbrev aWb : Fin 1024 → Fin 2048 → EReal := fun k q => m ((c : Thread nD τ).loc main_arg7) (ix3 0 k q)
abbrev aWo : Fin 2048 → Fin 2048 → EReal := fun k q => m ((c : Thread nD τ).loc main_arg8) (ix3 0 k q)

theorem V_wa (k : Fin 1024) (q : Fin 2048) : V m c main_v1 (ix2 k q) = aWa m c k q := by
  have e : V m c main_v1 = truncf (F := Ideal) (φ := .f32) .bf16 (shapeCast S1024x2048 (m ((c : Thread nD τ).loc main_arg6)) shapeCasts_S1x1024x2048_S1024x2048) bitsLt_bf16_f32 := by
    simp only [V, hostOps0]; after_results_simp <;> rfl
  rw [e]
  exact wide_apply _ k q

theorem V_wb (k : Fin 1024) (q : Fin 2048) : V m c main_v3 (ix2 k q) = aWb m c k q := by
  have e : V m c main_v3 = truncf (F := Ideal) (φ := .f32) .bf16 (shapeCast S1024x2048 (m ((c : Thread nD τ).loc main_arg7)) shapeCasts_S1x1024x2048_S1024x2048) bitsLt_bf16_f32 := by
    simp only [V, hostOps0]; after_results_simp <;> rfl
  rw [e]
  exact wide_apply _ k q

theorem V_wo (k : Fin 2048) (q : Fin 2048) : V m c main_v5 (ix2 k q) = aWo m c k q := by
  have e : V m c main_v5 = truncf (F := Ideal) (φ := .f32) .bf16 (shapeCast S2048x2048 (m ((c : Thread nD τ).loc main_arg8)) shapeCasts_S1x2048x2048_S2048x2048) bitsLt_bf16_f32 := by
    simp only [V, hostOps0]; after_results_simp <;> rfl
  rw [e]
  exact square_apply _ k q

/-- The index maps over the grid. -/
theorem idx_facts : ∀ t : Fin cfg0.N,
    win0_0.index t = ![t.val, 0] ∧ win0_1.index t = ![min t.val 31, 0] ∧ win0_2.index t = ![0, 0]
    ∧ win0_3.index t = ![min t.val 31, 0] ∧ win0_4.index t = ![0, 0] ∧ win0_5.index t = ![3, t.val, 0]
    ∧ win0_6.index t = ![4, t.val, 0] ∧ win0_7.index t = ![0, 0] ∧ win0_8.index t = ![0, 0] ∧ win0_9.index t = ![0, 0]
    ∧ win0_10.index t = ![t.val, 0] :=
  (by decide +kernel : ∀ t : Fin grid0.N, _)

/-- The body's test of the grid point: the last point works on the decode rows. -/
theorem last_test : ∀ t : Fin cfg0.N,
    Scalar.cmpi .eq (BitVec.ofNat 32 (grid0.coords t 0).val) 32#32 = if t.val = 32 then 1#1 else 0#1 :=
  (by decide +kernel : ∀ t : Fin grid0.N, _)

theorem tlt (t : Fin cfg0.N) : t.val < 33 := lt_of_lt_of_eq t.isLt N_0

/-- Row `r` of point `t`'s row block. -/
def row (t : Fin cfg0.N) (r : Fin 256) : Fin 8448 := ⟨t.val * 256 + r.val, by have := tlt t; omega⟩

theorem blk_x (t : Fin cfg0.N) (r : Fin 256) (k : Fin 2048) : iblk m c 0 t (ix2 r k) = aX m c (row t r) k := by
  obtain ⟨e, -⟩ := idx_facts t
  blk_simp [iblk]
  rw [V_main_arg0]
  congr 1
  blk_ext [e, row]

theorem blk_oaP (t : Fin cfg0.N) (ht : t.val < 32) (r : Fin 256) (k : Fin 1024) :
    iblk m c 1 t (ix2 r k) = aOaP m c ⟨t.val * 256 + r.val, by omega⟩ k := by
  obtain ⟨-, e, -⟩ := idx_facts t
  have hm : min t.val 31 = t.val := by omega
  blk_simp [iblk]
  rw [V_main_arg1]
  congr 1
  blk_ext [e, hm]

theorem blk_oaS (t : Fin cfg0.N) (r : Fin 256) (k : Fin 1024) : iblk m c 2 t (ix2 r k) = aOaS m c r k := by
  obtain ⟨-, -, e, -⟩ := idx_facts t
  blk_simp [iblk]
  rw [V_main_arg2]
  congr 1
  blk_ext [e]

theorem blk_obP (t : Fin cfg0.N) (ht : t.val < 32) (r : Fin 256) (k : Fin 1024) :
    iblk m c 3 t (ix2 r k) = aObP m c ⟨t.val * 256 + r.val, by omega⟩ k := by
  obtain ⟨-, -, -, e, -⟩ := idx_facts t
  have hm : min t.val 31 = t.val := by omega
  blk_simp [iblk]
  rw [V_main_arg3]
  congr 1
  blk_ext [e, hm]

theorem blk_obS (t : Fin cfg0.N) (r : Fin 256) (k : Fin 1024) : iblk m c 4 t (ix2 r k) = aObS m c r k := by
  obtain ⟨-, -, -, -, e, -⟩ := idx_facts t
  blk_simp [iblk]
  rw [V_main_arg4]
  congr 1
  blk_ext [e]

theorem blk_ga (t : Fin cfg0.N) (a : Fin 2) (r : Fin 256) (k : Fin 1024) :
    iblk m c 5 t (ix3 a r k) = aP m c ⟨6 + a.val, by omega⟩ (row t r) k := by
  obtain ⟨-, -, -, -, -, e, -⟩ := idx_facts t
  blk_simp [iblk]
  rw [V_main_arg5]
  congr 1
  blk_ext [e, row]

theorem blk_gb (t : Fin cfg0.N) (a : Fin 2) (r : Fin 256) (k : Fin 1024) :
    iblk m c 6 t (ix3 a r k) = aP m c ⟨8 + a.val, by omega⟩ (row t r) k := by
  obtain ⟨-, -, -, -, -, -, e, -⟩ := idx_facts t
  blk_simp [iblk]
  rw [V_main_arg5]
  congr 1
  blk_ext [e, row]

theorem blk_wa (t : Fin cfg0.N) (k : Fin 1024) (q : Fin 2048) : iblk m c 7 t (ix2 k q) = aWa m c k q := by
  obtain ⟨-, -, -, -, -, -, -, e, -⟩ := idx_facts t
  rw [← V_wa m c]
  blk_simp [iblk]
  congr 1
  blk_ext [e]

theorem blk_wb (t : Fin cfg0.N) (k : Fin 1024) (q : Fin 2048) : iblk m c 8 t (ix2 k q) = aWb m c k q := by
  obtain ⟨-, -, -, -, -, -, -, -, e, -⟩ := idx_facts t
  rw [← V_wb m c]
  blk_simp [iblk]
  congr 1
  blk_ext [e]

theorem blk_wo (t : Fin cfg0.N) (k : Fin 2048) (q : Fin 2048) : iblk m c 9 t (ix2 k q) = aWo m c k q := by
  obtain ⟨-, -, -, -, -, -, -, -, -, e, -⟩ := idx_facts t
  rw [← V_wo m c]
  blk_simp [iblk]
  congr 1
  blk_ext [e]

/-- The rows a point works on: prompt rows, at the last point the decode rows. -/
theorem rows_a (t : Fin cfg0.N) (r : Fin 256) (k : Fin 1024) :
    Scalar.select (Scalar.cmpi .eq (BitVec.ofNat 32 (grid0.coords t 0).val) 32#32) (iblk m c 2 t (ix2 r k)) (iblk m c 1 t (ix2 r k))
      = rows (aOaP m c) (aOaS m c) (row t r) k := by
  have := tlt t
  rw [last_test]
  unfold rows
  by_cases h : t.val = 32
  · rw [if_pos h, dif_neg (by simp only [row]; omega), blk_oaS]
    have hr : r = (⟨(row t r).val - 8192, by simp only [row]; omega⟩ : Fin 256) := Fin.ext (by simp only [row]; omega)
    exact congrArg (fun x => aOaS m c x k) hr
  · rw [if_neg h, dif_pos (by simp only [row]; omega), blk_oaP m c t (by omega)]
    rfl

theorem rows_b (t : Fin cfg0.N) (r : Fin 256) (k : Fin 1024) :
    Scalar.select (Scalar.cmpi .eq (BitVec.ofNat 32 (grid0.coords t 0).val) 32#32) (iblk m c 4 t (ix2 r k)) (iblk m c 3 t (ix2 r k))
      = rows (aObP m c) (aObS m c) (row t r) k := by
  have := tlt t
  rw [last_test]
  unfold rows
  by_cases h : t.val = 32
  · rw [if_pos h, dif_neg (by simp only [row]; omega), blk_obS]
    have hr : r = (⟨(row t r).val - 8192, by simp only [row]; omega⟩ : Fin 256) := Fin.ext (by simp only [row]; omega)
    exact congrArg (fun x => aObS m c x k) hr
  · rw [if_neg h, dif_pos (by simp only [row]; omega), blk_obP m c t (by omega)]
    rfl

/-- A half of a gate block, loaded. -/
theorem half0 (x : Vec Ideal S2x256x1024 .f32) (r : Fin 256) (k : Fin 1024) : View.ld x r0_2 (ix3 0 r k) = x (ix3 0 r k) := by
  unfold View.ld
  congr 1
  funext a; apply Fin.ext
  match a with
  | ⟨0, _⟩ => rfl
  | ⟨1, _⟩ => show 0 + 1 * r.val = r.val; omega
  | ⟨2, _⟩ => show 0 + 1 * k.val = k.val; omega
theorem half1 (x : Vec Ideal S2x256x1024 .f32) (r : Fin 256) (k : Fin 1024) : View.ld x r0_3 (ix3 0 r k) = x (ix3 1 r k) := by
  unfold View.ld
  congr 1
  funext a; apply Fin.ext
  match a with
  | ⟨0, _⟩ => rfl
  | ⟨1, _⟩ => show 0 + 1 * r.val = r.val; omega
  | ⟨2, _⟩ => show 0 + 1 * k.val = k.val; omega

/-- The two loaded halves of a gate block side by side. -/
theorem gate_of (P : Fin 10 → Fin 8448 → Fin 1024 → EReal) (x : Vec Ideal S2x256x1024 .f32) (a b : Fin 10) (r' : Fin 8448) (r : Fin 256)
    (j : Fin 2048) (h0 : ∀ k, x (ix3 0 r k) = P a r' k) (h1 : ∀ k, x (ix3 1 r k) = P b r' k) :
    (if h : j.val < 1024 then View.ld x r0_2 (ix3 0 r ⟨j.val, h⟩) else View.ld x r0_3 (ix3 0 r ⟨j.val - 1024, by omega⟩))
      = gate P a b r' j := by
  unfold gate
  split
  · exact (half0 x r _).trans (h0 _)
  · exact (half1 x r _).trans (h1 _)

/-- What a point stores. -/
theorem out_at (t : Fin cfg0.N) (r : Fin 256) (q : Fin 2048) :
    (dats m 0 c).after 10 t (ix2 r q)
      = outProj (aX m c) (aOaP m c) (aOaS m c) (aObP m c) (aObS m c) (aP m c) (aWa m c) (aWb m c) (aWo m c) (row t r) q := by
  rw [after0_10]
  frame_out
  refine (pay1_apply _ _ _ r q).trans ?_
  unfold outProj
  refine congrArg₂ (· + ·) (blk_x m c t r q) (Finset.sum_congr rfl fun j _ => congrArg₂ (· * ·) ?_ (blk_wo m c t j q))
  refine (pay2_apply _ _ _ _ _ _ _ _ _ _ _ r j).trans ?_
  unfold merged
  refine congrArg₂ (· + ·) (congrArg₂ (· * ·) ?_ ?_) (congrArg₂ (· * ·) ?_ ?_)
  · exact gate_of (aP m c) (iblk m c 5 t) 6 7 (row t r) r j (fun k => blk_ga m c t 0 r k) (fun k => blk_ga m c t 1 r k)
  · exact Finset.sum_congr rfl fun x _ => congrArg₂ (· * ·) (rows_a m c t r x) (blk_wa m c t x j)
  · exact gate_of (aP m c) (iblk m c 6 t) 8 9 (row t r) r j (fun k => blk_gb m c t 0 r k) (fun k => blk_gb m c t 1 r k)
  · exact Finset.sum_congr rfl fun x _ => congrArg₂ (· * ·) (rows_b m c t r x) (blk_wb m c t x j)

/-- The kernel's result array. -/
def G : Buf (Elt Ideal) ((c : Thread nD τ).loc main_v6) := fun i =>
  outProj (aX m c) (aOaP m c) (aOaS m c) (aObP m c) (aObS m c) (aP m c) (aWa m c) (aWb m c) (aWo m c) (i 0) (i 1)

theorem result : (dats m 0 c).arrAt 10 cfg0.N = G m c := by
  refine (dats m 0 c).arrAt_eq_of_covers 10 _ (by decide +kernel) fun t hf y => ?_
  obtain ⟨-, -, -, -, -, -, -, -, -, -, e⟩ := idx_facts t
  blk_simp
  obtain ⟨r, q, rfl⟩ : ∃ (r : Fin 256) (q : Fin 2048), y = ix2 r q := ⟨y 0, y 1, eq_ix2 y⟩
  have hemb : (win0_10.blk t).view.emb (ix2 r q) = ix2 (row t r) q := by blk_ext [e, row]
  rw [hemb]
  exact out_at m c t r q

end Kernel

section Ref
open Cert.Reference4Ideal Cert.Reference4Ideal.Read

theorem merged_apply (x1 : (⟨S8192x1024, .f32⟩ : BufTy).Contents (Elt Ideal))
    (x2 : (⟨S256x1024, .f32⟩ : BufTy).Contents (Elt Ideal)) (x3 : (⟨S8192x1024, .f32⟩ : BufTy).Contents (Elt Ideal))
    (x4 : (⟨S256x1024, .f32⟩ : BufTy).Contents (Elt Ideal)) (x5 : (⟨S10x8448x1024, .f32⟩ : BufTy).Contents (Elt Ideal))
    (x6 x7 : (⟨S1x1024x2048, .f32⟩ : BufTy).Contents (Elt Ideal)) (r : Fin 8448) (q : Fin 2048) :
    val_main_v18 (F := Ideal) x1 x2 x3 x4 x5 x6 x7 (ix2 r q)
      = merged (fun r k => x1 (ix2 r k)) (fun r k => x2 (ix2 r k)) (fun r k => x3 (ix2 r k)) (fun r k => x4 (ix2 r k))
          (fun a r k => x5 (ix3 a r k)) (fun k q => x6 (ix3 0 k q)) (fun k q => x7 (ix3 0 k q)) r q := by
  unfold val_main_v18 val_main_v17 val_main_v16
    val_main_v15 val_main_v14 val_main_v13 val_main_v12 val_main_v11 val_main_v10 val_main_v9 val_main_v8 val_main_v7
    val_main_v6 val_main_v5 val_main_v4 val_main_v3 val_main_v2 val_main_v1 val_main_v0
  pointwise [dot_S8448x1024_S1024x2048_S8448x2048_1_0_0_1_n_n]
  rfl

theorem ref_apply (x0 : (⟨S8448x2048, .f32⟩ : BufTy).Contents (Elt Ideal)) (x1 : (⟨S8192x1024, .f32⟩ : BufTy).Contents (Elt Ideal))
    (x2 : (⟨S256x1024, .f32⟩ : BufTy).Contents (Elt Ideal)) (x3 : (⟨S8192x1024, .f32⟩ : BufTy).Contents (Elt Ideal))
    (x4 : (⟨S256x1024, .f32⟩ : BufTy).Contents (Elt Ideal)) (x5 : (⟨S10x8448x1024, .f32⟩ : BufTy).Contents (Elt Ideal))
    (x6 x7 : (⟨S1x1024x2048, .f32⟩ : BufTy).Contents (Elt Ideal)) (x8 : (⟨S1x2048x2048, .f32⟩ : BufTy).Contents (Elt Ideal))
    (r : Fin 8448) (q : Fin 2048) :
    val_main_v21 (F := Ideal) x0 x1 x2 x3 x4 x5 x6 x7 x8 (ix2 r q)
      = outProj (fun r k => x0 (ix2 r k)) (fun r k => x1 (ix2 r k)) (fun r k => x2 (ix2 r k)) (fun r k => x3 (ix2 r k))
          (fun r k => x4 (ix2 r k)) (fun a r k => x5 (ix3 a r k)) (fun k q => x6 (ix3 0 k q)) (fun k q => x7 (ix3 0 k q))
          (fun k q => x8 (ix3 0 k q)) r q := by
  have hm := fun j => merged_apply x1 x2 x3 x4 x5 x6 x7 r j
  unfold val_main_v21 val_main_v20 val_main_v19
  generalize val_main_v18 (F := Ideal) x1 x2 x3 x4 x5 x6 x7 = y at hm ⊢
  pointwise [dot_S8448x2048_S2048x2048_S8448x2048_1_0_0_1_n_n]
  simp only [hm]
  rfl

end Ref

end Cert.OutProj
-- ==== Proof.OutClaim.lean ====
/-
  The output projection's claims: the frames of its two readings and of the reference, and equality of the two results.
-/
module

public import proofs.«01_k».proof.Defs
public import proofs.«01_k».proof.Proof.OutValue
public import proofs.«01_k».proof.Proof.Gen.Kernel4.Frame
public import Idealize.ShloMosaic.Lib.Quiescent

@[expose] public section

set_option maxRecDepth 16384

noncomputable section

namespace Cert.OutProj

open Idealize.ShloMosaic Idealize.ShloMosaic.TcCoe Idealize.SL.Sem

theorem frame_kernel : Cert.quiescent_Kernel4 := fun m ρ _ => Cert.Kernel4.Gen.frame m ρ

theorem frame_kernel_ideal : Cert.quiescent_Kernel4Ideal := fun m ρ _ => Cert.Kernel4Ideal.Gen.frame m ρ

theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run m ρ)

/-- Kernel and reference end with the same array. -/
theorem algebraic : Cert.algebraic_Kernel4Ideal_Reference4Ideal := by
  intro m ρ m' ρ' _ hagree
  refine ⟨fun c => G m c, (θ_run Cert.Kernel4Ideal.defs _ _).mono
    (fun r h c => ⟨(h c).1.trans (result m c), (h c).2⟩) (Cert.Kernel4Ideal.Value.run_blocks m ρ), ?_⟩
  refine (θ_run Cert.Reference4Ideal.defs _ _).mono (fun r h c => ⟨?_, (h c).2⟩) (Cert.Reference4Ideal.Value.run m' ρ')
  obtain ⟨e0, e1, e2, e3, e4, e5, e6, e7, e8⟩ := hagree c
  rw [(h c).1]
  refine (Cert.Reference4Ideal.Read.val_main_v21_eq _ _ _ _ _ _ _ _ _).symm.trans ?_
  funext i
  rw [eq_ix2 i, e0, e1, e2, e3, e4, e5, e6, e7, e8]
  exact ref_apply _ _ _ _ _ _ _ _ _ (i 0) (i 1)

end Cert.OutProj
-- ==== Proof.FoxMath.lean ====
/-
  Attention over a row of keys taken block by block: the state (m, l, acc) carried from block to block, and why acc / l at
  the end is the softmax-weighted sum over all keys.
-/
module

public import Idealize.ShloMosaic.Lib.Pointwise

@[expose] public section

noncomputable section

namespace Cert.Fox

open Idealize.ShloMosaic

/-- Minus infinity, as the programs write it. -/
abbrev negInf : EReal := Ideal.ofBits FTy.f32 4286578688#32

theorem negInf_eq : negInf = ⊥ := by
  unfold negInf Ideal.ofBits
  simp [Ideal.ieee]

/-- The factor 1/√128 rounded to f32, as the programs write it. -/
abbrev scale : EReal := Ideal.ofBits FTy.f32 1035273459#32

theorem scale_real : ∃ r : ℝ, 0 ≤ r ∧ scale = (r : EReal) := by
  unfold scale Ideal.ofBits
  simp only [Ideal.ieee]
  rw [if_neg (by decide), if_neg (by decide), if_neg (by decide)]
  refine ⟨_, ?_, rfl⟩
  positivity

/-! ## exp of a difference -/

theorem exp_real (r : ℝ) : Ideal.exp (r : EReal) = ((Real.exp r : ℝ) : EReal) := rfl
theorem exp_bot : Ideal.exp ⊥ = 0 := rfl

/-- exp(x − m) of a logit x below infinity and a real m is a real, not negative. -/
theorem exp_sub_real (x : EReal) (hx : x ≠ ⊤) (m : ℝ) : ∃ r : ℝ, 0 ≤ r ∧ Ideal.exp (x - (m : EReal)) = (r : EReal) := by
  induction x with
  | bot => exact ⟨0, le_refl _, by rw [EReal.bot_sub]; exact exp_bot⟩
  | top => exact absurd rfl hx
  | coe a => exact ⟨Real.exp (a - m), (Real.exp_pos _).le, by rw [← EReal.coe_sub]; exact exp_real _⟩

theorem exp_shift (x : EReal) (hx : x ≠ ⊤) (m m' : ℝ) :
    Ideal.exp (x - (m' : EReal)) = ((Real.exp (m - m') : ℝ) : EReal) * Ideal.exp (x - (m : EReal)) := by
  induction x with
  | bot => rw [EReal.bot_sub, EReal.bot_sub, exp_bot, mul_zero]
  | top => exact absurd rfl hx
  | coe a =>
    rw [← EReal.coe_sub, ← EReal.coe_sub, exp_real, exp_real, ← EReal.coe_mul, ← Real.exp_add]
    congr 2; ring

/-! ## A real factor through a sum -/

theorem mul_sum_real {ι : Type} (c : ℝ) (hc : 0 ≤ c) (A : Finset ι) (f : ι → EReal) :
    (c : EReal) * ∑ s ∈ A, f s = ∑ s ∈ A, (c : EReal) * f s := by
  classical
  induction A using Finset.induction_on with
  | empty => rw [Finset.sum_empty, Finset.sum_empty, mul_zero]
  | insert a A ha ih =>
    rw [Finset.sum_insert ha, Finset.sum_insert ha,
      EReal.left_distrib_of_nonneg_of_ne_top (EReal.coe_nonneg.mpr hc) (EReal.coe_ne_top c), ih]

theorem sum_real {ι : Type} (A : Finset ι) (f : ι → EReal) (h : ∀ s ∈ A, ∃ r : ℝ, 0 ≤ r ∧ f s = (r : EReal)) :
    ∃ r : ℝ, 0 ≤ r ∧ ∑ s ∈ A, f s = (r : EReal) ∧ ∀ s ∈ A, f s ≤ (r : EReal) := by
  classical
  induction A using Finset.induction_on with
  | empty => exact ⟨0, le_refl _, by rw [Finset.sum_empty]; rfl, fun s hs => absurd hs (Finset.notMem_empty s)⟩
  | insert a A ha ih =>
    obtain ⟨r, hr, e, hle⟩ := ih fun s hs => h s (Finset.mem_insert_of_mem hs)
    obtain ⟨q, hq, e'⟩ := h a (Finset.mem_insert_self a A)
    refine ⟨q + r, add_nonneg hq hr, by rw [Finset.sum_insert ha, e, e', EReal.coe_add], fun s hs => ?_⟩
    rcases Finset.mem_insert.mp hs with rfl | hs
    · rw [e']; exact EReal.coe_le_coe_iff.mpr (by linarith)
    · exact (hle s hs).trans (EReal.coe_le_coe_iff.mpr (by linarith))

/-! ## The state -/

variable {K : Type} [DecidableEq K]

/-- The state after the keys in `A`: a real `m`, and the sums of exp(z − m) and of exp(z − m) times the values. -/
structure St (z V : K → EReal) (A : Finset K) (m l a : EReal) : Prop where
  real : ∃ x : ℝ, m = (x : EReal)
  sum : l = ∑ s ∈ A, Ideal.exp (z s - m)
  acc : a = ∑ s ∈ A, Ideal.exp (z s - m) * V s

/-- What a block of logits `s` makes of the maximum … -/
def upM {N : ℕ} (m : EReal) (s : Fin N → EReal) : EReal := max m (Finset.univ.fold max negInf s)
/-- … of the sum … -/
def upL {N : ℕ} (m l : EReal) (s : Fin N → EReal) : EReal :=
  Ideal.exp (m - upM m s) * l + ∑ j, Ideal.exp (s j - upM m s)
/-- … and of the weighted sum, with values `v`. -/
def upA {N : ℕ} (m a : EReal) (s v : Fin N → EReal) : EReal :=
  Ideal.exp (m - upM m s) * a + ∑ j, Ideal.exp (s j - upM m s) * v j

theorem fold_ne_top {N : ℕ} (s : Fin N → EReal) (hs : ∀ j, s j ≠ ⊤) : Finset.univ.fold max negInf s ≠ ⊤ := by
  rw [← lt_top_iff_ne_top, Finset.fold_max_lt, negInf_eq]
  exact ⟨bot_lt_top, fun j _ => lt_top_iff_ne_top.mpr (hs j)⟩

theorem fold_ne_bot {N : ℕ} (s : Fin N → EReal) (h : ∃ j, s j ≠ ⊥) : Finset.univ.fold max negInf s ≠ ⊥ := by
  obtain ⟨j, hj⟩ := h
  rw [← bot_lt_iff_ne_bot, Finset.lt_fold_max]
  exact .inr ⟨j, Finset.mem_univ j, bot_lt_iff_ne_bot.mpr hj⟩

theorem real_of_ne {x : EReal} (h : x ≠ ⊤) (h' : x ≠ ⊥) : ∃ r : ℝ, x = (r : EReal) :=
  ⟨x.toReal, (EReal.coe_toReal h h').symm⟩

theorem sum_block {N : ℕ} (e : Fin N → K) (he : Function.Injective e) (f : K → EReal) :
    ∑ s ∈ Finset.univ.image e, f s = ∑ j, f (e j) := Finset.sum_image fun a _ b _ h => he h

/-- The first block, with one logit above minus infinity, leaves a state. -/
theorem St.start (z V : K → EReal) (hz : ∀ s, z s ≠ ⊤) {N : ℕ} (e : Fin N → K) (he : Function.Injective e)
    (s v : Fin N → EReal) (hs : ∀ j, s j = z (e j)) (hv : ∀ j, v j = V (e j)) (h : ∃ j, s j ≠ ⊥)
    (m l a : EReal) (hm : m = ⊥) (hl : l = 0) (ha : a = 0) :
    St z V (Finset.univ.image e) (upM m s) (upL m l s) (upA m a s v) := by
  subst hm hl ha
  have hM : upM ⊥ s = Finset.univ.fold max negInf s := bot_sup_eq _
  obtain ⟨x, hx⟩ := real_of_ne (fold_ne_top s fun j => by rw [hs]; exact hz _) (fold_ne_bot s h)
  refine ⟨⟨x, hM.trans hx⟩, ?_, ?_⟩
  · rw [sum_block e he]
    unfold upL
    rw [mul_zero, zero_add]
    exact Finset.sum_congr rfl fun j _ => by rw [hs]
  · rw [sum_block e he]
    unfold upA
    rw [mul_zero, zero_add]
    exact Finset.sum_congr rfl fun j _ => by rw [hs, hv]

/-- A further block of other keys. -/
theorem St.step {z V : K → EReal} (hz : ∀ s, z s ≠ ⊤) {A : Finset K} {m l a : EReal} (h : St z V A m l a)
    {N : ℕ} (e : Fin N → K) (he : Function.Injective e) (hd : ∀ j, e j ∉ A)
    (s v : Fin N → EReal) (hs : ∀ j, s j = z (e j)) (hv : ∀ j, v j = V (e j)) :
    St z V (A ∪ Finset.univ.image e) (upM m s) (upL m l s) (upA m a s v) := by
  obtain ⟨x, rfl⟩ := h.real
  obtain ⟨y, hy⟩ : ∃ y : ℝ, upM (x : EReal) s = (y : EReal) := by
    refine real_of_ne ?_ ?_
    · rw [← lt_top_iff_ne_top]
      exact max_lt (EReal.coe_lt_top x) (lt_top_iff_ne_top.mpr (fold_ne_top s fun j => by rw [hs]; exact hz _))
    · rw [← bot_lt_iff_ne_bot]
      exact lt_of_lt_of_le (EReal.bot_lt_coe x) (le_max_left _ _)
  have hdis : Disjoint A (Finset.univ.image e) := by
    rw [Finset.disjoint_right]
    intro k hk
    obtain ⟨j, -, rfl⟩ := Finset.mem_image.mp hk
    exact hd j
  have hE : Ideal.exp ((x : EReal) - (y : EReal)) = ((Real.exp (x - y) : ℝ) : EReal) := by
    rw [← EReal.coe_sub]; exact exp_real _
  have hsh : ∀ k, Ideal.exp (z k - (y : EReal)) = ((Real.exp (x - y) : ℝ) : EReal) * Ideal.exp (z k - (x : EReal)) :=
    fun k => exp_shift (z k) (hz k) x y
  refine ⟨⟨y, hy⟩, ?_, ?_⟩
  · rw [Finset.sum_union hdis, sum_block e he]
    unfold upL
    rw [hy, hE, h.sum, mul_sum_real _ (Real.exp_pos _).le]
    exact congrArg₂ (· + ·) (Finset.sum_congr rfl fun k _ => (hsh k).symm) (Finset.sum_congr rfl fun j _ => by rw [hs])
  · rw [Finset.sum_union hdis, sum_block e he]
    unfold upA
    rw [hy, hE, h.acc, mul_sum_real _ (Real.exp_pos _).le]
    refine congrArg₂ (· + ·) (Finset.sum_congr rfl fun k _ => ?_) (Finset.sum_congr rfl fun j _ => by rw [hs, hv])
    rw [hsh k, mul_assoc]

/-- At the end: acc / l is the sum of the values weighted by the softmax, taken with any real M. -/
theorem St.final {z V : K → EReal} [Fintype K] (hz : ∀ s, z s ≠ ⊤) {A : Finset K} {m l a : EReal} (h : St z V A m l a)
    (hA : ∀ s, s ∉ A → z s = ⊥) {s₀ : K} (h₀ : z s₀ ≠ ⊥) (M : EReal) (hM : ∃ r : ℝ, M = (r : EReal)) :
    Ideal.div a l = ∑ s, Ideal.div (Ideal.exp (z s - M)) (∑ k, Ideal.exp (z k - M)) * V s := by
  obtain ⟨x, rfl⟩ := h.real
  obtain ⟨y, rfl⟩ := hM
  have hs0 : s₀ ∈ A := by
    by_contra hn; exact h₀ (hA s₀ hn)
  have h0 : ∀ s, s ∉ A → Ideal.exp (z s - (y : EReal)) = 0 := fun s hs => by rw [hA s hs, EReal.bot_sub]; exact exp_bot
  have hL : ∑ k, Ideal.exp (z k - (y : EReal)) = ∑ k ∈ A, Ideal.exp (z k - (y : EReal)) :=
    (Finset.sum_subset (Finset.subset_univ A) fun k _ hk => h0 k hk).symm
  obtain ⟨L, -, eL, hle⟩ := sum_real A (fun k => Ideal.exp (z k - (y : EReal))) fun k _ => exp_sub_real (z k) (hz k) y
  have hLpos : 0 < L := by
    obtain ⟨b, hb⟩ := real_of_ne (hz s₀) h₀
    have h1 := hle s₀ hs0
    simp only [hb] at h1
    rw [← EReal.coe_sub, exp_real, EReal.coe_le_coe_iff] at h1
    exact lt_of_lt_of_le (Real.exp_pos _) h1
  have hsh : ∀ k, Ideal.exp (z k - (x : EReal)) = ((Real.exp (y - x) : ℝ) : EReal) * Ideal.exp (z k - (y : EReal)) :=
    fun k => exp_shift (z k) (hz k) y x
  have hc : 0 < Real.exp (y - x) := Real.exp_pos _
  have el : l = ((Real.exp (y - x) * L : ℝ) : EReal) := by
    rw [h.sum, EReal.coe_mul, ← eL, mul_sum_real _ hc.le]
    exact Finset.sum_congr rfl fun k _ => hsh k
  have ea : a = ((Real.exp (y - x) : ℝ) : EReal) * ∑ k ∈ A, Ideal.exp (z k - (y : EReal)) * V k := by
    rw [h.acc, mul_sum_real _ hc.le]
    exact Finset.sum_congr rfl fun k _ => by rw [hsh k, mul_assoc]
  have hne : ∀ r : ℝ, 0 < r → ((r : ℝ) : EReal) ≠ 0 := fun r hr => by
    rw [Ne, EReal.coe_eq_zero]; exact hr.ne'
  have hdiv : ∀ (t : EReal) (r : ℝ), 0 < r → Ideal.div t (r : EReal) = ((r⁻¹ : ℝ) : EReal) * t := fun t r hr => by
    unfold Ideal.div; rw [if_neg (hne r hr), EReal.coe_inv, mul_comm]
  rw [hL, eL, el, hdiv _ _ (mul_pos hc hLpos), ea, ← mul_assoc, ← EReal.coe_mul,
    show (Real.exp (y - x) * L)⁻¹ * Real.exp (y - x) = L⁻¹ by field_simp,
    mul_sum_real _ (inv_pos.mpr hLpos).le]
  rw [← Finset.sum_subset (Finset.subset_univ A) (f := fun s => Ideal.div (Ideal.exp (z s - (y : EReal))) (L : EReal) * V s)
    fun k _ hk => by rw [h0 k hk, hdiv _ _ hLpos, mul_zero, zero_mul]]
  exact Finset.sum_congr rfl fun k _ => by rw [hdiv _ _ hLpos, mul_assoc]

end Cert.Fox
-- ==== Proof.FoxInv.lean ====
/-
  One row of the attention, block by block: first the row's own tile (masked), then the rows of the block before it, then
  the earlier blocks one by one. At the end the carried sums are over all the keys the row sees.
-/
module

public import proofs.«01_k».proof.Proof.FoxMath

@[expose] public section

noncomputable section

namespace Cert.Fox

open Idealize.ShloMosaic

variable {z V : Fin 4096 → EReal} {i T : ℕ}

/-- Keys of tile `T` of block `i`. -/
def Pre (z V : Fin 4096 → EReal) (i T : ℕ) (m l a : EReal) : Prop :=
  ∃ A : Finset (Fin 4096), (∀ κ, κ ∈ A ↔ 1024 * i + 256 * T ≤ κ.val ∧ κ.val < 1024 * i + 256 * (T + 1)) ∧ St z V A m l a

/-- Keys of block `i` up to tile `T`, and of the first `n` blocks. -/
def Inv (z V : Fin 4096 → EReal) (i T n : ℕ) (m l a : EReal) : Prop :=
  ∃ A : Finset (Fin 4096), (∀ κ, κ ∈ A ↔ (1024 * i ≤ κ.val ∧ κ.val < 1024 * i + 256 * (T + 1)) ∨ κ.val < 1024 * n) ∧ St z V A m l a

theorem Pre.of_start (hz : ∀ s, z s ≠ ⊤) (hi : i < 4) (hT : T < 4) (s v : Fin 256 → EReal)
    (hs : ∀ c : Fin 256, s c = z ⟨1024 * i + 256 * T + c.val, by omega⟩) (hv : ∀ c : Fin 256, v c = V ⟨1024 * i + 256 * T + c.val, by omega⟩)
    (h : ∃ j, s j ≠ ⊥) : Pre z V i T (upM negInf s) (upL negInf 0 s) (upA negInf 0 s v) := by
  refine ⟨_, ?_, St.start z V hz (fun c : Fin 256 => (⟨1024 * i + 256 * T + c.val, by omega⟩ : Fin 4096)) ?_ s v hs hv h _ _ _ negInf_eq rfl rfl⟩
  · intro κ
    simp only [Finset.mem_image, Finset.mem_univ, true_and]
    constructor
    · rintro ⟨c, rfl⟩; have := c.isLt; constructor <;> dsimp only <;> omega
    · rintro ⟨h1, h2⟩; exact ⟨⟨κ.val - (1024 * i + 256 * T), by omega⟩, Fin.ext (by dsimp only; omega)⟩
  · intro a b hab
    have := congrArg Fin.val hab
    exact Fin.ext (by dsimp only at this; omega)

theorem Pre.inv_zero {m l a : EReal} (h : Pre z V i 0 m l a) : Inv z V i 0 0 m l a := by
  obtain ⟨A, hA, hs⟩ := h
  exact ⟨A, fun κ => by rw [hA]; omega, hs⟩

theorem Pre.before (hz : ∀ s, z s ≠ ⊤) (hi : i < 4) (hT : T < 4) {N : ℕ} (hN : N = 256 * T) {m l a : EReal} (h : Pre z V i T m l a) (s v : Fin N → EReal)
    (hs : ∀ c : Fin N, s c = z ⟨1024 * i + c.val, by omega⟩) (hv : ∀ c : Fin N, v c = V ⟨1024 * i + c.val, by omega⟩) :
    Inv z V i T 0 (upM m s) (upL m l s) (upA m a s v) := by
  obtain ⟨A, hA, h⟩ := h
  refine ⟨_, ?_, St.step hz h (fun c : Fin N => (⟨1024 * i + c.val, by omega⟩ : Fin 4096)) ?_ ?_ s v hs hv⟩
  · intro κ
    simp only [Finset.mem_union, Finset.mem_image, Finset.mem_univ, true_and, hA]
    constructor
    · rintro (h | ⟨c, rfl⟩)
      · omega
      · have := c.isLt; dsimp only; omega
    · intro h
      by_cases hk : 1024 * i + 256 * T ≤ κ.val
      · left; omega
      · right; exact ⟨⟨κ.val - 1024 * i, by omega⟩, Fin.ext (by dsimp only; omega)⟩
  · intro a b hab
    have := congrArg Fin.val hab
    exact Fin.ext (by dsimp only at this; omega)
  · intro c; rw [hA]; have := c.isLt; dsimp only; omega

theorem Inv.step (hz : ∀ s, z s ≠ ⊤) (hi : i < 4) {n : ℕ} (hn : n < i) {m l a : EReal} (h : Inv z V i T n m l a) (s v : Fin 1024 → EReal)
    (hs : ∀ c : Fin 1024, s c = z ⟨1024 * n + c.val, by omega⟩) (hv : ∀ c : Fin 1024, v c = V ⟨1024 * n + c.val, by omega⟩) :
    Inv z V i T (n + 1) (upM m s) (upL m l s) (upA m a s v) := by
  obtain ⟨A, hA, h⟩ := h
  refine ⟨_, ?_, St.step hz h (fun c : Fin 1024 => (⟨1024 * n + c.val, by omega⟩ : Fin 4096)) ?_ ?_ s v hs hv⟩
  · intro κ
    simp only [Finset.mem_union, Finset.mem_image, Finset.mem_univ, true_and, hA]
    constructor
    · rintro (h | ⟨c, rfl⟩)
      · omega
      · have := c.isLt; dsimp only; omega
    · intro h
      by_cases hk : 1024 * n ≤ κ.val ∧ κ.val < 1024 * (n + 1)
      · right; exact ⟨⟨κ.val - 1024 * n, by omega⟩, Fin.ext (by dsimp only; omega)⟩
      · left; omega
  · intro a b hab
    have := congrArg Fin.val hab
    exact Fin.ext (by dsimp only at this; omega)
  · intro c; rw [hA]; have := c.isLt; dsimp only; omega

theorem Inv.final (hz : ∀ s, z s ≠ ⊤) {m l a : EReal} (h : Inv z V i T i m l a)
    (hA : ∀ κ : Fin 4096, 1024 * i + 256 * (T + 1) ≤ κ.val → z κ = ⊥) {s₀ : Fin 4096} (h₀ : z s₀ ≠ ⊥) (M : EReal) (hM : ∃ r : ℝ, M = (r : EReal)) :
    Ideal.div a l = ∑ s, Ideal.div (Ideal.exp (z s - M)) (∑ k, Ideal.exp (z k - M)) * V s := by
  obtain ⟨A, hA', h⟩ := h
  refine St.final hz h (fun s hs => hA s ?_) h₀ M hM
  rw [hA'] at hs
  omega

end Cert.Fox
-- ==== Proof.FoxCases.lean ====
/-
  The attention over the prompt: what its body leaves at each grid point, in the output block and in the two scratch
  buffers (the keys and the values, cast).
-/
module

public import proofs.«01_k».proof.Proof.Gen.KernelIdeal.Value
public import Idealize.ShloMosaic.Lib.Tactic

@[expose] public section

set_option maxRecDepth 16384

noncomputable section

namespace Cert.Fox

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- The running maximum, the running denominator and the running numerator of the four row tiles. -/
abbrev Carry (F : FTy → Type) [FloatOps F] : Type :=
  FVec F S256x1 .f32 × FVec F S256x1 .f32 × FVec F S256x128 .f32 × FVec F S256x1 .f32 × FVec F S256x1 .f32 × FVec F S256x128 .f32 ×
    FVec F S256x1 .f32 × FVec F S256x1 .f32 × FVec F S256x128 .f32 × FVec F S256x1 .f32 × FVec F S256x1 .f32 × FVec F S256x128 .f32

section Vals
variable (i : grid0.Coords) (q : FVec F S1024x128 .bf16) (q0 : Vec F S1x1024x128 .f32) (K V : Vec F S4096x128 .bf16) (U : Vec F S1x1x16x1x256 .f32)

/-- The key (or value) rows of tile `t` of the point's own block. -/
abbrev own (X : Vec F S4096x128 .bf16) (t : Fin 4) : Vec F S256x128 .bf16 :=
  View.ld (Val := Elt F) X (Rect.unit (s := S4096x128) (k0_off1 i (BitVec.ofNat 32 t.val)) S256x128.size (k0_off1_inb i t))
/-- The rows of the block before tile 1. -/
abbrev bef1 (X : Vec F S4096x128 .bf16) : Vec F S256x128 .bf16 :=
  View.ld (Val := Elt F) X (Rect.unit (s := S4096x128) (k0_off3 i) S256x128.size (k0_off3_inb i))
/-- The rows of the block before tile 2. -/
abbrev bef2 (X : Vec F S4096x128 .bf16) : Vec F S512x128 .bf16 :=
  View.ld (Val := Elt F) X (Rect.unit (s := S4096x128) (k0_off4 i) S512x128.size (k0_off4_inb i))
/-- The rows of the block before tile 3. -/
abbrev bef3 (X : Vec F S4096x128 .bf16) : Vec F S768x128 .bf16 :=
  View.ld (Val := Elt F) X (Rect.unit (s := S4096x128) (k0_off5 i) S768x128.size (k0_off5_inb i))
/-- The bias of tile `t` of the point's own block. -/
abbrev bia (t : Fin 4) : Vec F S1x1x1x1x256 .f32 :=
  View.ld (Val := Elt F) U (Rect.unit (s := S1x1x16x1x256) (k0_off2 i (BitVec.ofNat 32 t.val)) S1x1x1x1x256.size (k0_off2_inb i t))
/-- The rows of the earlier block `k`. -/
abbrev blo (X : Vec F S4096x128 .bf16) (k : Fin (k0_t1_loop i).trips) : Vec F S1024x128 .bf16 :=
  View.ld (Val := Elt F) X (Rect.unit (s := S4096x128) (k0_off6 i k) S1024x128.size (k0_off6_inb i k))
/-- The bias of tile `t` of the earlier block `k`. -/
abbrev blb (k : Fin (k0_t1_loop i).trips) (t : Fin 4) : Vec F S1x1x1x1x256 .f32 :=
  View.ld (Val := Elt F) U (Rect.unit (s := S1x1x16x1x256) (k0_off7 i k (BitVec.ofNat 32 t.val)) S1x1x1x1x256.size (k0_off7_inb i k t))
/-- The row number and the column number in a square tile. -/
abbrev io0 : IVec S256x256 32 := iota .tc S256x256 32 [0] iota_S256x256_d0_w32
abbrev io1 : IVec S256x256 32 := iota .tc S256x256 32 [1] iota_S256x256_d1_w32

/-- What the point holds of its own block, before the loop over the earlier ones. -/
def start : Carry F :=
  (k0_pay62 (k0_pay58 q0 (own i K 0) (bia i U 0)) k0_pay59,
   k0_pay65 (k0_pay58 q0 (own i K 0) (bia i U 0)) k0_pay59 k0_pay60,
   k0_pay66 (k0_pay58 q0 (own i K 0) (bia i U 0)) (own i V 0) k0_pay59 k0_pay61,
   k0_pay76 q (k0_pay71 q io0 io1 (own i K 1) (bia i U 1)) (bef1 i K) (bia i U 0),
   k0_pay79 q (k0_pay67 q io0 io1 (own i K 1) (bia i U 1)) k0_pay69 (k0_pay71 q io0 io1 (own i K 1) (bia i U 1))
     (k0_pay72 q io0 io1 (own i K 1) (bia i U 1)) (bef1 i K) (bia i U 0),
   k0_pay80 q (k0_pay67 q io0 io1 (own i K 1) (bia i U 1)) (own i V 1) k0_pay70 (k0_pay71 q io0 io1 (own i K 1) (bia i U 1))
     (k0_pay72 q io0 io1 (own i K 1) (bia i U 1)) (bef1 i K) (bia i U 0) (bef1 i V),
   k0_pay90 (k0_pay83 q io0 io1 (own i K 2) (bia i U 2)) (k0_pay88 q (bef2 i K)) (bia i U 0) (bia i U 1),
   k0_pay93 (k0_pay83 q io0 io1 (own i K 2) (bia i U 2)) (k0_pay86 q io0 io1 (own i K 2) (bia i U 2)) (k0_pay88 q (bef2 i K)) (bia i U 0) (bia i U 1),
   k0_pay94 (k0_pay83 q io0 io1 (own i K 2) (bia i U 2)) (k0_pay87 q io0 io1 (own i K 2) (bia i U 2) (own i V 2)) (k0_pay88 q (bef2 i K))
     (bia i U 0) (bia i U 1) (bef2 i V),
   k0_pay108 (k0_pay99 io0 io1 (k0_pay95 q (own i K 3)) (k0_pay96 (bia i U 3))) (k0_pay104 q (bef3 i K)) (k0_pay105 (bia i U 0)) (k0_pay106 (bia i U 1)) (bia i U 2),
   k0_pay111 (k0_pay99 io0 io1 (k0_pay95 q (own i K 3)) (k0_pay96 (bia i U 3))) (k0_pay102 io0 io1 (k0_pay95 q (own i K 3)) (k0_pay96 (bia i U 3)))
     (k0_pay104 q (bef3 i K)) (k0_pay105 (bia i U 0)) (k0_pay106 (bia i U 1)) (bia i U 2),
   k0_pay112 (k0_pay99 io0 io1 (k0_pay95 q (own i K 3)) (k0_pay96 (bia i U 3))) (k0_pay103 io0 io1 (k0_pay95 q (own i K 3)) (k0_pay96 (bia i U 3)) (own i V 3))
     (k0_pay104 q (bef3 i K)) (k0_pay105 (bia i U 0)) (k0_pay106 (bia i U 1)) (bia i U 2) (bef3 i V))

/-- One step over an earlier block: `kk` its keys, `vv` its values, `u0` … `u3` its biases. -/
def stepV (kk vv : Vec F S1024x128 .bf16) (u0 u1 u2 u3 : Vec F S1x1x1x1x256 .f32) (a : Carry F) : Carry F :=
  (k0_pay21 q a.1 kk u0 u1 u2 u3,
   k0_pay24 a.1 a.2.1 (k0_pay20 q kk u0 u1 u2 u3) (k0_pay21 q a.1 kk u0 u1 u2 u3),
   k0_pay25 a.1 a.2.2.1 vv (k0_pay20 q kk u0 u1 u2 u3) (k0_pay21 q a.1 kk u0 u1 u2 u3),
   k0_pay27 q a.2.2.2.1 kk (k0_pay19 u0 u1 u2 u3),
   k0_pay30 q a.2.2.2.1 a.2.2.2.2.1 kk (k0_pay19 u0 u1 u2 u3),
   k0_pay31 q a.2.2.2.1 a.2.2.2.2.2.1 kk vv (k0_pay19 u0 u1 u2 u3),
   k0_pay33 q a.2.2.2.2.2.2.1 kk (k0_pay19 u0 u1 u2 u3),
   k0_pay36 q a.2.2.2.2.2.2.1 a.2.2.2.2.2.2.2.1 kk (k0_pay19 u0 u1 u2 u3),
   k0_pay1 a.2.2.2.2.2.2.2.2.1 vv (k0_pay34 q a.2.2.2.2.2.2.1 kk (k0_pay19 u0 u1 u2 u3)) (k0_pay35 q a.2.2.2.2.2.2.1 kk (k0_pay19 u0 u1 u2 u3)),
   k0_pay3 q a.2.2.2.2.2.2.2.2.2.1 kk (k0_pay19 u0 u1 u2 u3),
   k0_pay6 q a.2.2.2.2.2.2.2.2.2.1 a.2.2.2.2.2.2.2.2.2.2.1 kk (k0_pay19 u0 u1 u2 u3),
   k0_pay7 q a.2.2.2.2.2.2.2.2.2.1 a.2.2.2.2.2.2.2.2.2.2.2 kk vv (k0_pay19 u0 u1 u2 u3))

/-- The carried values before trip `n` of the loop over the earlier blocks. -/
def iter (a : Carry F) : ℕ → Carry F
  | 0 => a
  | n + 1 => if h : n < (k0_t1_loop i).trips then
      stepV q (blo i K ⟨n, h⟩) (blo i V ⟨n, h⟩) (blb i U ⟨n, h⟩ 0) (blb i U ⟨n, h⟩ 1) (blb i U ⟨n, h⟩ 2) (blb i U ⟨n, h⟩ 3) (iter a n)
    else iter a n

/-- The carried values after the loop. -/
def fin : Carry F := iter i (k0_pay57 q0) K V U (start i (k0_pay57 q0) q0 K V U) (k0_t1_loop i).trips

/-- The four stored tiles. -/
def pieces (a : Carry F) : List (View.Piece (Elt F) S1024x128 .f32) :=
  [⟨Rect.unit (s := S1024x128) ![768, 0] S256x128.size inb_S1024x128_S256x128_768_0, k0_pay18 a.2.2.2.2.2.2.2.2.2.2.1 a.2.2.2.2.2.2.2.2.2.2.2⟩,
   ⟨Rect.unit (s := S1024x128) ![512, 0] S256x128.size inb_S1024x128_S256x128_512_0, k0_pay17 a.2.2.2.2.2.2.2.1 a.2.2.2.2.2.2.2.2.1⟩,
   ⟨Rect.unit (s := S1024x128) ![256, 0] S256x128.size inb_S1024x128_S256x128_256_0, k0_pay16 a.2.2.2.2.1 a.2.2.2.2.2.1⟩,
   ⟨Rect.unit (s := S1024x128) ![0, 0] S256x128.size inb_S1024x128_S256x128_0_0, k0_pay15 a.2.1 a.2.2.1⟩]

end Vals

section Cases
variable (c : Dev nD) (i : grid0.Coords)
  (arg3 : Memref sig .tc .vmem S1x1024x128 .f32) (harg3 : arg3.IsWhole) (arg4 : Memref sig .tc .vmem S1x4096x128 .f32) (harg4 : arg4.IsWhole)
  (arg5 : Memref sig .tc .vmem S1x4096x128 .f32) (harg5 : arg5.IsWhole) (arg6 : Memref sig .tc .vmem S1x1x16x1x256 .f32) (harg6 : arg6.IsWhole)
  (arg7 : Memref sig .tc .vmem S1024x128 .f32) (harg7 : arg7.IsWhole) (arg8 : Memref sig .tc .vmem S4096x128 .bf16) (harg8 : arg8.IsWhole)
  (arg9 : Memref sig .tc .vmem S4096x128 .bf16) (harg9 : arg9.IsWhole)
  (x0 : Vec F S1x1024x128 .f32) (x1 : Vec F S1x4096x128 .f32) (x2 : Vec F S1x4096x128 .f32) (x3 : Vec F S1x1x16x1x256 .f32)
  (xs0 : Vec F S4096x128 .bf16) (xs1 : Vec F S4096x128 .bf16)

section Loop
variable (𝒱 : Variants) (bd : Option 𝒱.V) (v8 : FVec F S1024x128 .bf16) (c0 : BitVec 32)
  (X6 : BufTy.Contents (Elt F) arg6.view.ty) (X8 : BufTy.Contents (Elt F) arg8.view.ty) (X9 : BufTy.Contents (Elt F) arg9.view.ty)

theorem tripR_eq (k : Fin (k0_t1_loop i).trips) (a : Carry F) :
    tripR_k0_t1 𝒱 c bd i arg3 harg3 arg4 harg4 arg5 harg5 arg6 harg6 arg7 harg7 arg8 harg8 arg9 harg9 v8 c0 X6 X8 X9 k a
      = stepV v8 (blo i (arg8.view.read (Elt F) X8) k) (blo i (arg9.view.read (Elt F) X9) k) (blb i (arg6.view.read (Elt F) X6) k 0)
          (blb i (arg6.view.read (Elt F) X6) k 1) (blb i (arg6.view.read (Elt F) X6) k 2) (blb i (arg6.view.read (Elt F) X6) k 3) a := by
  unfold tripR_k0_t1 trip_k0_t1
  rfl

theorem st_eq (a : Carry F) : ∀ n : ℕ, n ≤ (k0_t1_loop i).trips →
    st_k0_t1 𝒱 c bd i arg3 harg3 arg4 harg4 arg5 harg5 arg6 harg6 arg7 harg7 arg8 harg8 arg9 harg9 v8 c0 X6 X8 X9 a n
      = iter i v8 (arg8.view.read (Elt F) X8) (arg9.view.read (Elt F) X9) (arg6.view.read (Elt F) X6) a n
  | 0, _ => rfl
  | n + 1, h => by
    have h' : n < (k0_t1_loop i).trips := h
    rw [st_k0_t1_succ 𝒱 c bd i arg3 harg3 arg4 harg4 arg5 harg5 arg6 harg6 arg7 harg7 arg8 harg8 arg9 harg9 v8 c0 X6 X8 X9 a ⟨n, h'⟩, tripR_eq, st_eq a n (Nat.le_of_lt h')]
    rw [iter, dif_pos h']

theorem st1_eq (a : Carry F) (n : ℕ) (hn : n = (k0_t1_loop i).trips) :
    st_k0_t1 𝒱 c bd i arg3 harg3 arg4 harg4 arg5 harg5 arg6 harg6 arg7 harg7 arg8 harg8 arg9 harg9 v8 c0 X6 X8 X9 a n
      = iter i v8 (arg8.view.read (Elt F) X8) (arg9.view.read (Elt F) X9) (arg6.view.read (Elt F) X6) a (k0_t1_loop i).trips := by
  subst hn; exact st_eq c i arg3 harg3 arg4 harg4 arg5 harg5 arg6 harg6 arg7 harg7 arg8 harg8 arg9 harg9 𝒱 bd v8 c0 X6 X8 X9 a _ le_rfl

theorem st2_eq (a : Carry F) (n : ℕ) (hn : n = 0) :
    st_k0_t2 𝒱 c bd i arg3 harg3 arg4 harg4 arg5 harg5 arg6 harg6 arg7 harg7 arg8 harg8 arg9 harg9 v8 c0 X6 X8 X9 a n = a := by
  subst hn; rfl

end Loop

theorem hz3 : (![0, 0, 0] : Fin 3 → Nat) = fun _ => 0 := funext fun a => by fin_cases a <;> rfl

theorem out_B (hc0 : ¬cond0_0 i) :
    out0_B_4 c i arg3 harg3 arg4 harg4 arg5 harg5 arg6 harg6 arg7 harg7 arg8 harg8 arg9 harg9 hc0 x0 x1 x2 x3 xs0 xs1 = View.canon (pieces (fin i x0 xs0 xs1 x3)) := by
  unfold out0_B_4
  rw [View.read_writes_eq_canon _ _ _ (cover0_B_4 c i arg3 harg3 arg4 harg4 arg5 harg5 arg6 harg6 arg7 harg7 arg8 harg8 arg9 harg9 hc0 x0 x1 x2 x3 xs0 xs1)]
  unfold kernelRun0_B pieces
  dsimp only
  rw [st2_eq (hn := Nat.le_zero.1 (k0_t2_abs i).2.1)]
  dsimp only
  rw [st1_eq (hn := rfl)]
  have h8 : kernelRun0_B.sl.r c arg3 harg3 x0 = k0_pay57 x0 := by
    unfold kernelRun0_B.sl.r
    rw [View.readAt_eq_ld, harg3.read_unread, View.ld_unit_zero (S := S1x1024x128) hz3]
  rw [h8, harg6.read_unread, harg8.read_unread, harg9.read_unread]
  have hI : ((kernelRun0_B.sl.r_3 c i arg3 harg3 arg6 harg6 arg8 harg8 x0 x3 xs0, kernelRun0_B.sl.r_4 c i arg3 harg3 arg6 harg6 arg8 harg8 x0 x3 xs0, kernelRun0_B.sl.r_5 c i arg3 harg3 arg6 harg6 arg8 harg8 arg9 harg9 x0 x3 xs0 xs1, kernelRun0_B.sl.r_10 c i arg3 harg3 arg6 harg6 arg8 harg8 x0 x3 xs0, kernelRun0_B.sl.r_11 c i arg3 harg3 arg6 harg6 arg8 harg8 x0 x3 xs0, kernelRun0_B.sl.r_12 c i arg3 harg3 arg6 harg6 arg8 harg8 arg9 harg9 x0 x3 xs0 xs1, kernelRun0_B.sl.r_17 c i arg3 harg3 arg6 harg6 arg8 harg8 x0 x3 xs0, kernelRun0_B.sl.r_18 c i arg3 harg3 arg6 harg6 arg8 harg8 x0 x3 xs0, kernelRun0_B.sl.r_19 c i arg3 harg3 arg6 harg6 arg8 harg8 arg9 harg9 x0 x3 xs0 xs1, kernelRun0_B.sl.r_28 c i arg3 harg3 arg6 harg6 arg8 harg8 x0 x3 xs0, kernelRun0_B.sl.r_29 c i arg3 harg3 arg6 harg6 arg8 harg8 x0 x3 xs0, kernelRun0_B.sl.r_30 c i arg3 harg3 arg6 harg6 arg8 harg8 arg9 harg9 x0 x3 xs0 xs1) : Carry F) = start i (k0_pay57 x0) x0 xs0 xs1 x3 := by
    have e : ((kernelRun0_B.sl.r_3 c i arg3 harg3 arg6 harg6 arg8 harg8 x0 x3 xs0, kernelRun0_B.sl.r_4 c i arg3 harg3 arg6 harg6 arg8 harg8 x0 x3 xs0, kernelRun0_B.sl.r_5 c i arg3 harg3 arg6 harg6 arg8 harg8 arg9 harg9 x0 x3 xs0 xs1, kernelRun0_B.sl.r_10 c i arg3 harg3 arg6 harg6 arg8 harg8 x0 x3 xs0, kernelRun0_B.sl.r_11 c i arg3 harg3 arg6 harg6 arg8 harg8 x0 x3 xs0, kernelRun0_B.sl.r_12 c i arg3 harg3 arg6 harg6 arg8 harg8 arg9 harg9 x0 x3 xs0 xs1, kernelRun0_B.sl.r_17 c i arg3 harg3 arg6 harg6 arg8 harg8 x0 x3 xs0, kernelRun0_B.sl.r_18 c i arg3 harg3 arg6 harg6 arg8 harg8 x0 x3 xs0, kernelRun0_B.sl.r_19 c i arg3 harg3 arg6 harg6 arg8 harg8 arg9 harg9 x0 x3 xs0 xs1, kernelRun0_B.sl.r_28 c i arg3 harg3 arg6 harg6 arg8 harg8 x0 x3 xs0, kernelRun0_B.sl.r_29 c i arg3 harg3 arg6 harg6 arg8 harg8 x0 x3 xs0, kernelRun0_B.sl.r_30 c i arg3 harg3 arg6 harg6 arg8 harg8 arg9 harg9 x0 x3 xs0 xs1) : Carry F)
        = start i (kernelRun0_B.sl.r c arg3 harg3 x0)
            (View.readAt (Elt F) arg3.view (Rect.unit (s := S1x1024x128) ![0, 0, 0] S1x1024x128.size inb_S1x1024x128_S1x1024x128_0_0_0).toLoadRect (harg3.unread x0))
            (arg8.view.read (Elt F) (harg8.unread xs0)) (arg9.view.read (Elt F) (harg9.unread xs1)) (arg6.view.read (Elt F) (harg6.unread x3)) := rfl
    rw [e, h8, View.readAt_eq_ld, harg3.read_unread, View.ld_unit_zero (S := S1x1024x128) hz3, harg6.read_unread, harg8.read_unread, harg9.read_unread]
  rw [hI]
  rfl

theorem keys_A : arg8.view.read (Elt F) (arg8.view.writes (Elt F) arg8.view.junk (kernelRun0_A.sl.HS0_1 c arg4 harg4 x1)) = k0_pay55 x1 := by
  rw [View.read_writes_junk_eq_canon]
  unfold kernelRun0_A.sl.HS0_1
  rw [View.canon_unit_zero hz, View.readAt_eq_ld, harg4.read_unread, View.ld_unit_zero (S := S1x4096x128) hz3]

theorem values_A : arg9.view.read (Elt F) (arg9.view.writes (Elt F) arg9.view.junk (kernelRun0_A.sl.HS1_1 c arg5 harg5 x2)) = k0_pay56 x2 := by
  rw [View.read_writes_junk_eq_canon]
  unfold kernelRun0_A.sl.HS1_1
  rw [View.canon_unit_zero hz, View.readAt_eq_ld, harg5.read_unread, View.ld_unit_zero (S := S1x4096x128) hz3]

theorem out_A (hc0 : cond0_0 i) :
    out0_A_4 c i arg3 harg3 arg4 harg4 arg5 harg5 arg6 harg6 arg7 harg7 arg8 harg8 arg9 harg9 hc0 x0 x1 x2 x3 = View.canon (pieces (fin i x0 (k0_pay55 x1) (k0_pay56 x2) x3)) := by
  unfold out0_A_4
  rw [View.read_writes_eq_canon _ _ _ (cover0_A_4 c i arg3 harg3 arg4 harg4 arg5 harg5 arg6 harg6 arg7 harg7 arg8 harg8 arg9 harg9 hc0 x0 x1 x2 x3)]
  unfold kernelRun0_A pieces
  dsimp only
  rw [st2_eq (hn := Nat.le_zero.1 (k0_t2_abs i).2.1)]
  dsimp only
  rw [st1_eq (hn := rfl)]
  have h8 : kernelRun0_A.sl.r c arg3 harg3 x0 = k0_pay57 x0 := by
    unfold kernelRun0_A.sl.r
    rw [View.readAt_eq_ld, harg3.read_unread, View.ld_unit_zero (S := S1x1024x128) hz3]
  have hI : ((kernelRun0_A.sl.r_2 c i arg3 harg3 arg4 harg4 arg6 harg6 arg8 x0 x1 x3, kernelRun0_A.sl.r_3 c i arg3 harg3 arg4 harg4 arg6 harg6 arg8 x0 x1 x3, kernelRun0_A.sl.r_4 c i arg3 harg3 arg4 harg4 arg5 harg5 arg6 harg6 arg8 arg9 x0 x1 x2 x3, kernelRun0_A.sl.r_8 c i arg3 harg3 arg4 harg4 arg6 harg6 arg8 x0 x1 x3, kernelRun0_A.sl.r_9 c i arg3 harg3 arg4 harg4 arg6 harg6 arg8 x0 x1 x3, kernelRun0_A.sl.r_10 c i arg3 harg3 arg4 harg4 arg5 harg5 arg6 harg6 arg8 arg9 x0 x1 x2 x3, kernelRun0_A.sl.r_15 c i arg3 harg3 arg4 harg4 arg6 harg6 arg8 x0 x1 x3, kernelRun0_A.sl.r_16 c i arg3 harg3 arg4 harg4 arg6 harg6 arg8 x0 x1 x3, kernelRun0_A.sl.r_17 c i arg3 harg3 arg4 harg4 arg5 harg5 arg6 harg6 arg8 arg9 x0 x1 x2 x3, kernelRun0_A.sl.r_26 c i arg3 harg3 arg4 harg4 arg6 harg6 arg8 x0 x1 x3, kernelRun0_A.sl.r_27 c i arg3 harg3 arg4 harg4 arg6 harg6 arg8 x0 x1 x3, kernelRun0_A.sl.r_28 c i arg3 harg3 arg4 harg4 arg5 harg5 arg6 harg6 arg8 arg9 x0 x1 x2 x3) : Carry F) = start i (k0_pay57 x0) x0 (k0_pay55 x1) (k0_pay56 x2) x3 := by
    have e : ((kernelRun0_A.sl.r_2 c i arg3 harg3 arg4 harg4 arg6 harg6 arg8 x0 x1 x3, kernelRun0_A.sl.r_3 c i arg3 harg3 arg4 harg4 arg6 harg6 arg8 x0 x1 x3, kernelRun0_A.sl.r_4 c i arg3 harg3 arg4 harg4 arg5 harg5 arg6 harg6 arg8 arg9 x0 x1 x2 x3, kernelRun0_A.sl.r_8 c i arg3 harg3 arg4 harg4 arg6 harg6 arg8 x0 x1 x3, kernelRun0_A.sl.r_9 c i arg3 harg3 arg4 harg4 arg6 harg6 arg8 x0 x1 x3, kernelRun0_A.sl.r_10 c i arg3 harg3 arg4 harg4 arg5 harg5 arg6 harg6 arg8 arg9 x0 x1 x2 x3, kernelRun0_A.sl.r_15 c i arg3 harg3 arg4 harg4 arg6 harg6 arg8 x0 x1 x3, kernelRun0_A.sl.r_16 c i arg3 harg3 arg4 harg4 arg6 harg6 arg8 x0 x1 x3, kernelRun0_A.sl.r_17 c i arg3 harg3 arg4 harg4 arg5 harg5 arg6 harg6 arg8 arg9 x0 x1 x2 x3, kernelRun0_A.sl.r_26 c i arg3 harg3 arg4 harg4 arg6 harg6 arg8 x0 x1 x3, kernelRun0_A.sl.r_27 c i arg3 harg3 arg4 harg4 arg6 harg6 arg8 x0 x1 x3, kernelRun0_A.sl.r_28 c i arg3 harg3 arg4 harg4 arg5 harg5 arg6 harg6 arg8 arg9 x0 x1 x2 x3) : Carry F)
        = start i (kernelRun0_A.sl.r c arg3 harg3 x0)
            (View.readAt (Elt F) arg3.view (Rect.unit (s := S1x1024x128) ![0, 0, 0] S1x1024x128.size inb_S1x1024x128_S1x1024x128_0_0_0).toLoadRect (harg3.unread x0))
            (arg8.view.read (Elt F) (arg8.view.writes (Elt F) arg8.view.junk (kernelRun0_A.sl.HS0_1 c arg4 harg4 x1))) (arg9.view.read (Elt F) (arg9.view.writes (Elt F) arg9.view.junk (kernelRun0_A.sl.HS1_1 c arg5 harg5 x2))) (arg6.view.read (Elt F) (harg6.unread x3)) := rfl
    rw [e, h8, keys_A, values_A, View.readAt_eq_ld, harg3.read_unread, View.ld_unit_zero (S := S1x1024x128) hz3, harg6.read_unread]
  rw [h8, keys_A, values_A, harg6.read_unread, hI]
  rfl

theorem sout0_A (hc0 : cond0_0 i) : sout0_A_0 c i arg3 harg3 arg4 harg4 arg5 harg5 arg6 harg6 arg7 harg7 arg8 harg8 arg9 harg9 hc0 x0 x1 x2 x3 = k0_pay55 x1 := by
  unfold sout0_A_0
  rw [View.read_writes_eq_canon _ _ _ (scover0_A_0 c i arg3 harg3 arg4 harg4 arg5 harg5 arg6 harg6 arg7 harg7 arg8 harg8 arg9 harg9 hc0 x0 x1 x2 x3)]
  unfold kernelRun0_A
  dsimp only
  unfold kernelRun0_A.sl.HS0_1
  rw [View.canon_unit_zero hz, View.readAt_eq_ld, harg4.read_unread, View.ld_unit_zero (S := S1x4096x128) hz3]

theorem sout1_A (hc0 : cond0_0 i) : sout0_A_1 c i arg3 harg3 arg4 harg4 arg5 harg5 arg6 harg6 arg7 harg7 arg8 harg8 arg9 harg9 hc0 x0 x1 x2 x3 = k0_pay56 x2 := by
  unfold sout0_A_1
  rw [View.read_writes_eq_canon _ _ _ (scover0_A_1 c i arg3 harg3 arg4 harg4 arg5 harg5 arg6 harg6 arg7 harg7 arg8 harg8 arg9 harg9 hc0 x0 x1 x2 x3)]
  unfold kernelRun0_A
  dsimp only
  unfold kernelRun0_A.sl.HS1_1
  rw [View.canon_unit_zero hz, View.readAt_eq_ld, harg5.read_unread, View.ld_unit_zero (S := S1x4096x128) hz3]

end Cases
end Cert.Fox
-- ==== Proof.FoxPay.lean ====
/-
  The attention kernel's block update, entry by entry.
-/
module

public import proofs.«01_k».proof.Proof.Gen.KernelIdeal.Value
public import proofs.«01_k».proof.Proof.FoxMath
public import proofs.«01_k».proof.Proof.FoxCases

@[expose] public section

set_option maxRecDepth 16384

noncomputable section

namespace Cert.Fox

open Cert.KernelIdeal Cert.KernelIdeal.Gen Idealize.ShloMosaic Idealize.ShloMosaic.TcCoe Idealize.SL.Sem

/-! Tile 0 of the own block. -/
section
variable (s : FVec Ideal S256x256 .f32) (m l : FVec Ideal S256x1 .f32) (a : FVec Ideal S256x128 .f32) (v : Vec Ideal S256x128 .bf16)

theorem t0_m (r : Fin 256) : k0_pay62 s m (ix2 r 0) = upM (m (ix2 r 0)) (fun x => s (ix2 r x)) := by
  unfold k0_pay62
  generalize s = s
  pointwise
  rfl

theorem t0_l (r : Fin 256) : k0_pay65 s m l (ix2 r 0) = upL (m (ix2 r 0)) (l (ix2 r 0)) (fun x => s (ix2 r x)) := by
  have hy := t0_m s m r
  unfold k0_pay65 k0_pay63 k0_pay64
  generalize k0_pay62 s m = y at hy ⊢
  generalize s = s at hy ⊢
  unfold upL
  rw [← hy]
  pointwise

theorem t0_a (r : Fin 256) (d : Fin 128) :
    k0_pay66 s v m a (ix2 r d) = upA (m (ix2 r 0)) (a (ix2 r d)) (fun x => s (ix2 r x)) (fun x => v (ix2 x d)) := by
  have hy := t0_m s m r
  unfold k0_pay66 k0_pay63 k0_pay64
  generalize k0_pay62 s m = y at hy ⊢
  generalize s = s at hy ⊢
  unfold upA
  rw [← hy]
  pointwise [dot_S256x256_S256x128_S256x128_1_0_0_1_n_n]

end

/-! The rows before tile 2. -/
section
variable (m l : FVec Ideal S256x1 .f32) (a : FVec Ideal S256x128 .f32) (g : FVec Ideal S256x512 .f32) (u0 u1 : Vec Ideal S1x1x1x1x256 .f32) (v : Vec Ideal S512x128 .bf16)

theorem w2_m (r : Fin 256) : k0_pay90 m g u0 u1 (ix2 r 0) = upM (m (ix2 r 0)) (fun x => k0_pay89 g u0 u1 (ix2 r x)) := by
  unfold k0_pay90
  generalize k0_pay89 g u0 u1 = s
  pointwise
  rfl

theorem w2_l (r : Fin 256) : k0_pay93 m l g u0 u1 (ix2 r 0) = upL (m (ix2 r 0)) (l (ix2 r 0)) (fun x => k0_pay89 g u0 u1 (ix2 r x)) := by
  have hy := w2_m m g u0 u1 r
  unfold k0_pay93 k0_pay91 k0_pay92
  generalize k0_pay90 m g u0 u1 = y at hy ⊢
  generalize k0_pay89 g u0 u1 = s at hy ⊢
  unfold upL
  rw [← hy]
  pointwise

theorem w2_a (r : Fin 256) (d : Fin 128) :
    k0_pay94 m a g u0 u1 v (ix2 r d) = upA (m (ix2 r 0)) (a (ix2 r d)) (fun x => k0_pay89 g u0 u1 (ix2 r x)) (fun x => v (ix2 x d)) := by
  have hy := w2_m m g u0 u1 r
  unfold k0_pay94 k0_pay91 k0_pay92
  generalize k0_pay90 m g u0 u1 = y at hy ⊢
  generalize k0_pay89 g u0 u1 = s at hy ⊢
  unfold upA
  rw [← hy]
  pointwise [dot_S256x512_S512x128_S256x128_1_0_0_1_n_n]

end

/-! The rows before tile 3. -/
section
variable (m l : FVec Ideal S256x1 .f32) (a : FVec Ideal S256x128 .f32) (g : FVec Ideal S256x768 .f32) (u0 u1 : FVec Ideal S1x256 .f32) (u2 : Vec Ideal S1x1x1x1x256 .f32) (v : Vec Ideal S768x128 .bf16)

theorem w3_m (r : Fin 256) : k0_pay108 m g u0 u1 u2 (ix2 r 0) = upM (m (ix2 r 0)) (fun x => k0_pay107 g u0 u1 u2 (ix2 r x)) := by
  unfold k0_pay108
  generalize k0_pay107 g u0 u1 u2 = s
  pointwise
  rfl

theorem w3_l (r : Fin 256) : k0_pay111 m l g u0 u1 u2 (ix2 r 0) = upL (m (ix2 r 0)) (l (ix2 r 0)) (fun x => k0_pay107 g u0 u1 u2 (ix2 r x)) := by
  have hy := w3_m m g u0 u1 u2 r
  unfold k0_pay111 k0_pay109 k0_pay110
  generalize k0_pay108 m g u0 u1 u2 = y at hy ⊢
  generalize k0_pay107 g u0 u1 u2 = s at hy ⊢
  unfold upL
  rw [← hy]
  pointwise

theorem w3_a (r : Fin 256) (d : Fin 128) :
    k0_pay112 m a g u0 u1 u2 v (ix2 r d) = upA (m (ix2 r 0)) (a (ix2 r d)) (fun x => k0_pay107 g u0 u1 u2 (ix2 r x)) (fun x => v (ix2 x d)) := by
  have hy := w3_m m g u0 u1 u2 r
  unfold k0_pay112 k0_pay109 k0_pay110
  generalize k0_pay108 m g u0 u1 u2 = y at hy ⊢
  generalize k0_pay107 g u0 u1 u2 = s at hy ⊢
  unfold upA
  rw [← hy]
  pointwise [dot_S256x768_S768x128_S256x128_1_0_0_1_n_n]

end

/-! The loop, tile 0. -/
section
variable (m l : FVec Ideal S256x1 .f32) (a : FVec Ideal S256x128 .f32) (q : FVec Ideal S1024x128 .bf16) (k : Vec Ideal S1024x128 .bf16) (u0 u1 u2 u3 : Vec Ideal S1x1x1x1x256 .f32) (v : Vec Ideal S1024x128 .bf16)

theorem l0_m (r : Fin 256) : k0_pay21 q m k u0 u1 u2 u3 (ix2 r 0) = upM (m (ix2 r 0)) (fun x => k0_pay20 q k u0 u1 u2 u3 (ix2 r x)) := by
  unfold k0_pay21
  generalize k0_pay20 q k u0 u1 u2 u3 = s
  pointwise
  rfl

theorem l0_l (r : Fin 256) : k0_pay24 m l (k0_pay20 q k u0 u1 u2 u3) (k0_pay21 q m k u0 u1 u2 u3) (ix2 r 0) = upL (m (ix2 r 0)) (l (ix2 r 0)) (fun x => k0_pay20 q k u0 u1 u2 u3 (ix2 r x)) := by
  have hy := l0_m m q k u0 u1 u2 u3 r
  unfold k0_pay24 k0_pay22 k0_pay23
  generalize k0_pay21 q m k u0 u1 u2 u3 = y at hy ⊢
  generalize k0_pay20 q k u0 u1 u2 u3 = s at hy ⊢
  unfold upL
  rw [← hy]
  pointwise

theorem l0_a (r : Fin 256) (d : Fin 128) :
    k0_pay25 m a v (k0_pay20 q k u0 u1 u2 u3) (k0_pay21 q m k u0 u1 u2 u3) (ix2 r d) = upA (m (ix2 r 0)) (a (ix2 r d)) (fun x => k0_pay20 q k u0 u1 u2 u3 (ix2 r x)) (fun x => v (ix2 x d)) := by
  have hy := l0_m m q k u0 u1 u2 u3 r
  unfold k0_pay25 k0_pay22 k0_pay23
  generalize k0_pay21 q m k u0 u1 u2 u3 = y at hy ⊢
  generalize k0_pay20 q k u0 u1 u2 u3 = s at hy ⊢
  unfold upA
  rw [← hy]
  pointwise [dot_S256x1024_S1024x128_S256x128_1_0_0_1_n_n]

end

/-! The loop, tile 1. -/
section
variable (m l : FVec Ideal S256x1 .f32) (a : FVec Ideal S256x128 .f32) (q : FVec Ideal S1024x128 .bf16) (k : Vec Ideal S1024x128 .bf16) (u : FVec Ideal S1x1024 .f32) (v : Vec Ideal S1024x128 .bf16)

theorem l1_m (r : Fin 256) : k0_pay27 q m k u (ix2 r 0) = upM (m (ix2 r 0)) (fun x => k0_pay26 q k u (ix2 r x)) := by
  unfold k0_pay27
  generalize k0_pay26 q k u = s
  pointwise
  rfl

theorem l1_l (r : Fin 256) : k0_pay30 q m l k u (ix2 r 0) = upL (m (ix2 r 0)) (l (ix2 r 0)) (fun x => k0_pay26 q k u (ix2 r x)) := by
  have hy := l1_m m q k u r
  unfold k0_pay30 k0_pay28 k0_pay29
  generalize k0_pay27 q m k u = y at hy ⊢
  generalize k0_pay26 q k u = s at hy ⊢
  unfold upL
  rw [← hy]
  pointwise

theorem l1_a (r : Fin 256) (d : Fin 128) :
    k0_pay31 q m a k v u (ix2 r d) = upA (m (ix2 r 0)) (a (ix2 r d)) (fun x => k0_pay26 q k u (ix2 r x)) (fun x => v (ix2 x d)) := by
  have hy := l1_m m q k u r
  unfold k0_pay31 k0_pay28 k0_pay29
  generalize k0_pay27 q m k u = y at hy ⊢
  generalize k0_pay26 q k u = s at hy ⊢
  unfold upA
  rw [← hy]
  pointwise [dot_S256x1024_S1024x128_S256x128_1_0_0_1_n_n]

end

/-! The loop, tile 2. -/
section
variable (m l : FVec Ideal S256x1 .f32) (a : FVec Ideal S256x128 .f32) (q : FVec Ideal S1024x128 .bf16) (k : Vec Ideal S1024x128 .bf16) (u : FVec Ideal S1x1024 .f32) (v : Vec Ideal S1024x128 .bf16)

theorem l2_m (r : Fin 256) : k0_pay33 q m k u (ix2 r 0) = upM (m (ix2 r 0)) (fun x => k0_pay32 q k u (ix2 r x)) := by
  unfold k0_pay33
  generalize k0_pay32 q k u = s
  pointwise
  rfl

theorem l2_l (r : Fin 256) : k0_pay36 q m l k u (ix2 r 0) = upL (m (ix2 r 0)) (l (ix2 r 0)) (fun x => k0_pay32 q k u (ix2 r x)) := by
  have hy := l2_m m q k u r
  unfold k0_pay36 k0_pay34 k0_pay35
  generalize k0_pay33 q m k u = y at hy ⊢
  generalize k0_pay32 q k u = s at hy ⊢
  unfold upL
  rw [← hy]
  pointwise

theorem l2_a (r : Fin 256) (d : Fin 128) :
    k0_pay1 a v (k0_pay34 q m k u) (k0_pay35 q m k u) (ix2 r d) = upA (m (ix2 r 0)) (a (ix2 r d)) (fun x => k0_pay32 q k u (ix2 r x)) (fun x => v (ix2 x d)) := by
  have hy := l2_m m q k u r
  unfold k0_pay1 k0_pay34 k0_pay35
  generalize k0_pay33 q m k u = y at hy ⊢
  generalize k0_pay32 q k u = s at hy ⊢
  unfold upA
  rw [← hy]
  pointwise [dot_S256x1024_S1024x128_S256x128_1_0_0_1_n_n]

end

/-! The loop, tile 3. -/
section
variable (m l : FVec Ideal S256x1 .f32) (a : FVec Ideal S256x128 .f32) (q : FVec Ideal S1024x128 .bf16) (k : Vec Ideal S1024x128 .bf16) (u : FVec Ideal S1x1024 .f32) (v : Vec Ideal S1024x128 .bf16)

theorem l3_m (r : Fin 256) : k0_pay3 q m k u (ix2 r 0) = upM (m (ix2 r 0)) (fun x => k0_pay2 q k u (ix2 r x)) := by
  unfold k0_pay3
  generalize k0_pay2 q k u = s
  pointwise
  rfl

theorem l3_l (r : Fin 256) : k0_pay6 q m l k u (ix2 r 0) = upL (m (ix2 r 0)) (l (ix2 r 0)) (fun x => k0_pay2 q k u (ix2 r x)) := by
  have hy := l3_m m q k u r
  unfold k0_pay6 k0_pay4 k0_pay5
  generalize k0_pay3 q m k u = y at hy ⊢
  generalize k0_pay2 q k u = s at hy ⊢
  unfold upL
  rw [← hy]
  pointwise

theorem l3_a (r : Fin 256) (d : Fin 128) :
    k0_pay7 q m a k v u (ix2 r d) = upA (m (ix2 r 0)) (a (ix2 r d)) (fun x => k0_pay2 q k u (ix2 r x)) (fun x => v (ix2 x d)) := by
  have hy := l3_m m q k u r
  unfold k0_pay7 k0_pay4 k0_pay5
  generalize k0_pay3 q m k u = y at hy ⊢
  generalize k0_pay2 q k u = s at hy ⊢
  unfold upA
  rw [← hy]
  pointwise [dot_S256x1024_S1024x128_S256x128_1_0_0_1_n_n]

end

end Cert.Fox
-- ==== Proof.FoxPay2.lean ====
/-
  The attention kernel's block update, entry by entry.
-/
module

public import proofs.«01_k».proof.Proof.Gen.KernelIdeal.Value
public import proofs.«01_k».proof.Proof.FoxMath
public import proofs.«01_k».proof.Proof.FoxCases

@[expose] public section

set_option maxRecDepth 16384

noncomputable section

namespace Cert.Fox

open Cert.KernelIdeal Cert.KernelIdeal.Gen Idealize.ShloMosaic Idealize.ShloMosaic.TcCoe Idealize.SL.Sem

/-! The own block's tiles 1, 2, 3, and the rows before tile 1. -/
section
variable (q : FVec Ideal S1024x128 .bf16) (i0 i1 : IVec S256x256 32) (k k' : Vec Ideal S256x128 .bf16) (u u' : Vec Ideal S1x1x1x1x256 .f32)
  (s : FVec Ideal S256x256 .f32) (m e l : FVec Ideal S256x1 .f32) (a : FVec Ideal S256x128 .f32) (v v' : Vec Ideal S256x128 .bf16) (s' : FVec Ideal S256x256 .f32) (b : FVec Ideal S1x256 .f32)

theorem c59 (r : Fin 256) : k0_pay59 (F := Ideal) (ix2 r 0) = negInf := by unfold k0_pay59; pointwise
theorem c60 (r : Fin 256) : k0_pay60 (F := Ideal) (ix2 r 0) = (0 : EReal) := by unfold k0_pay60; pointwise
theorem c61 (r : Fin 256) (d : Fin 128) : k0_pay61 (F := Ideal) (ix2 r d) = (0 : EReal) := by unfold k0_pay61; pointwise
theorem c69 (r : Fin 256) : k0_pay69 (F := Ideal) (ix2 r 0) = (0 : EReal) := by unfold k0_pay69; pointwise
theorem c70 (r : Fin 256) (d : Fin 128) : k0_pay70 (F := Ideal) (ix2 r d) = (0 : EReal) := by unfold k0_pay70; pointwise

theorem o1_m (r : Fin 256) : k0_pay71 q i0 i1 k u (ix2 r 0) = upM negInf (fun x => k0_pay67 q i0 i1 k u (ix2 r x)) := by
  unfold k0_pay71 k0_pay68
  generalize k0_pay67 q i0 i1 k u = s
  pointwise
  rfl

theorem o1_e (r : Fin 256) : k0_pay72 (F := Ideal) q i0 i1 k u (ix2 r 0) = negInf - k0_pay71 q i0 i1 k u (ix2 r 0) := by
  unfold k0_pay72 k0_pay68
  generalize k0_pay71 q i0 i1 k u = y
  pointwise

theorem p1_m (r : Fin 256) : k0_pay76 q m k u (ix2 r 0) = upM (m (ix2 r 0)) (fun x => k0_pay75 q k u (ix2 r x)) := by
  unfold k0_pay76
  generalize k0_pay75 q k u = s
  pointwise
  rfl

theorem p1_l (r : Fin 256) : k0_pay79 q s l m e k u (ix2 r 0)
    = upL (m (ix2 r 0)) (Ideal.exp (e (ix2 r 0)) * l (ix2 r 0) + ∑ x, Ideal.exp (s (ix2 r x) - m (ix2 r 0))) (fun x => k0_pay75 q k u (ix2 r x)) := by
  have hy := p1_m q k u m r
  unfold k0_pay79 k0_pay77 k0_pay78 k0_pay73 k0_pay74
  generalize k0_pay76 q m k u = y at hy ⊢
  generalize k0_pay75 q k u = s at hy ⊢
  unfold upL
  rw [← hy]
  pointwise

theorem p1_a (r : Fin 256) (d : Fin 128) : k0_pay80 q s v a m e k u v' (ix2 r d)
    = upA (m (ix2 r 0)) (Ideal.exp (e (ix2 r 0)) * a (ix2 r d) + ∑ x, Ideal.exp (s (ix2 r x) - m (ix2 r 0)) * v (ix2 x d))
        (fun x => k0_pay75 q k u (ix2 r x)) (fun x => v' (ix2 x d)) := by
  have hy := p1_m q k u m r
  unfold k0_pay80 k0_pay77 k0_pay78 k0_pay73 k0_pay74
  generalize k0_pay76 q m k u = y at hy ⊢
  generalize k0_pay75 q k u = s at hy ⊢
  unfold upA
  rw [← hy]
  pointwise [dot_S256x256_S256x128_S256x128_1_0_0_1_n_n]

theorem o2_m (r : Fin 256) : k0_pay83 q i0 i1 k u (ix2 r 0) = upM negInf (fun x => k0_pay81 q i0 i1 k u (ix2 r x)) := by
  unfold k0_pay83 k0_pay82
  generalize k0_pay81 q i0 i1 k u = s
  pointwise
  rfl

theorem o2_l (r : Fin 256) : k0_pay86 q i0 i1 k u (ix2 r 0) = upL negInf 0 (fun x => k0_pay81 q i0 i1 k u (ix2 r x)) := by
  have hy := o2_m q i0 i1 k u r
  unfold k0_pay86 k0_pay84 k0_pay85 k0_pay82
  generalize k0_pay83 q i0 i1 k u = y at hy ⊢
  generalize k0_pay81 q i0 i1 k u = s at hy ⊢
  unfold upL
  rw [← hy]
  pointwise

theorem o2_a (r : Fin 256) (d : Fin 128) : k0_pay87 q i0 i1 k u v (ix2 r d)
    = upA negInf 0 (fun x => k0_pay81 q i0 i1 k u (ix2 r x)) (fun x => v (ix2 x d)) := by
  have hy := o2_m q i0 i1 k u r
  unfold k0_pay87 k0_pay84 k0_pay85 k0_pay82
  generalize k0_pay83 q i0 i1 k u = y at hy ⊢
  generalize k0_pay81 q i0 i1 k u = s at hy ⊢
  unfold upA
  rw [← hy]
  pointwise [dot_S256x256_S256x128_S256x128_1_0_0_1_n_n]

theorem o3_m (r : Fin 256) : k0_pay99 i0 i1 s' b (ix2 r 0) = upM negInf (fun x => k0_pay97 i0 i1 s' b (ix2 r x)) := by
  unfold k0_pay99 k0_pay98
  generalize k0_pay97 i0 i1 s' b = s
  pointwise
  rfl

theorem o3_l (r : Fin 256) : k0_pay102 i0 i1 s' b (ix2 r 0) = upL negInf 0 (fun x => k0_pay97 i0 i1 s' b (ix2 r x)) := by
  have hy := o3_m i0 i1 s' b r
  unfold k0_pay102 k0_pay100 k0_pay101 k0_pay98
  generalize k0_pay99 i0 i1 s' b = y at hy ⊢
  generalize k0_pay97 i0 i1 s' b = s at hy ⊢
  unfold upL
  rw [← hy]
  pointwise

theorem o3_a (r : Fin 256) (d : Fin 128) : k0_pay103 i0 i1 s' b v (ix2 r d)
    = upA negInf 0 (fun x => k0_pay97 i0 i1 s' b (ix2 r x)) (fun x => v (ix2 x d)) := by
  have hy := o3_m i0 i1 s' b r
  unfold k0_pay103 k0_pay100 k0_pay101 k0_pay98
  generalize k0_pay99 i0 i1 s' b = y at hy ⊢
  generalize k0_pay97 i0 i1 s' b = s at hy ⊢
  unfold upA
  rw [← hy]
  pointwise [dot_S256x256_S256x128_S256x128_1_0_0_1_n_n]

end

/-! The logits. -/
section
variable (q : FVec Ideal S1024x128 .bf16)

/-- The logit of a masked entry: key column `c` of the tile is seen by row `r` if `c ≤ r`. -/
theorem sel (x : EReal) (r c : Fin 256) :
    Scalar.select (IntOp.cmpi CmpIPredicate.sle (BitVec.ofNat 32 c.val) (BitVec.ofNat 32 r.val)) x negInf = if c ≤ r then x else ⊥ := by
  have hb : IntOp.cmpi CmpIPredicate.sle (BitVec.ofNat 32 c.val) (BitVec.ofNat 32 r.val) = if c ≤ r then 1#1 else 0#1 := by
    revert r c; decide +kernel
  rw [hb, negInf_eq]
  by_cases h : c ≤ r
  · rw [if_pos h, if_pos h]; rfl
  · rw [if_neg h, if_neg h]; rfl

theorem s57 (q0 : Vec Ideal S1x1024x128 .f32) (r : Fin 1024) (x : Fin 128) : k0_pay57 q0 (ix2 r x) = q0 (ix3 0 r x) * scale := by
  unfold k0_pay57
  pointwise

theorem s58 (q0 : Vec Ideal S1x1024x128 .f32) (k : Vec Ideal S256x128 .bf16) (u : Vec Ideal S1x1x1x1x256 .f32) (r c : Fin 256) :
    k0_pay58 q0 k u (ix2 r c) = if c ≤ r then ∑ x, k0_pay57 q0 (ix2 ⟨r.val, by omega⟩ x) * k (ix2 c x) + u (ix5 0 0 0 0 c) else ⊥ := by
  unfold k0_pay58
  generalize k0_pay57 q0 = q
  pointwise [dot_S256x128_S256x128_S256x256_1_1_0_0_n_n]
  exact sel _ r c

theorem s67 (k : Vec Ideal S256x128 .bf16) (u : Vec Ideal S1x1x1x1x256 .f32) (r c : Fin 256) :
    k0_pay67 q io0 io1 k u (ix2 r c) = if c ≤ r then ∑ x, q (ix2 ⟨256 + r.val, by omega⟩ x) * k (ix2 c x) + u (ix5 0 0 0 0 c) else ⊥ := by
  unfold k0_pay67
  pointwise [dot_S256x128_S256x128_S256x256_1_1_0_0_n_n]
  exact sel _ r c

theorem s81 (k : Vec Ideal S256x128 .bf16) (u : Vec Ideal S1x1x1x1x256 .f32) (r c : Fin 256) :
    k0_pay81 q io0 io1 k u (ix2 r c) = if c ≤ r then ∑ x, q (ix2 ⟨512 + r.val, by omega⟩ x) * k (ix2 c x) + u (ix5 0 0 0 0 c) else ⊥ := by
  unfold k0_pay81
  pointwise [dot_S256x128_S256x128_S256x256_1_1_0_0_n_n]
  exact sel _ r c

theorem s97 (k : Vec Ideal S256x128 .bf16) (u : Vec Ideal S1x1x1x1x256 .f32) (r c : Fin 256) :
    k0_pay97 io0 io1 (k0_pay95 q k) (k0_pay96 u) (ix2 r c) = if c ≤ r then ∑ x, q (ix2 ⟨768 + r.val, by omega⟩ x) * k (ix2 c x) + u (ix5 0 0 0 0 c) else ⊥ := by
  unfold k0_pay97 k0_pay95 k0_pay96
  pointwise [dot_S256x128_S256x128_S256x256_1_1_0_0_n_n]
  exact sel _ r c

theorem s75 (k : Vec Ideal S256x128 .bf16) (u : Vec Ideal S1x1x1x1x256 .f32) (r c : Fin 256) :
    k0_pay75 q k u (ix2 r c) = ∑ x, q (ix2 ⟨256 + r.val, by omega⟩ x) * k (ix2 c x) + u (ix5 0 0 0 0 c) := by
  unfold k0_pay75
  pointwise [dot_S256x128_S256x128_S256x256_1_1_0_0_n_n]

/-- A row of biases put together from rows of 256. -/
def cat2 (u0 u1 : Fin 256 → EReal) (c : Fin 512) : EReal :=
  if h : c.val < 256 then u0 ⟨c.val, h⟩ else u1 ⟨c.val - 256, by omega⟩
def cat3 (u0 u1 u2 : Fin 256 → EReal) (c : Fin 768) : EReal :=
  if h : c.val < 256 then u0 ⟨c.val, h⟩ else if h : c.val - 256 < 256 then u1 ⟨c.val - 256, h⟩ else u2 ⟨c.val - 256 - 256, by omega⟩
def cat4 (u0 u1 u2 u3 : Fin 256 → EReal) (c : Fin 1024) : EReal :=
  if h : c.val < 256 then u0 ⟨c.val, h⟩ else if h : c.val - 256 < 256 then u1 ⟨c.val - 256, h⟩
    else if h : c.val - 256 - 256 < 256 then u2 ⟨c.val - 256 - 256, h⟩ else u3 ⟨c.val - 256 - 256 - 256, by omega⟩

theorem s89 (k : Vec Ideal S512x128 .bf16) (u0 u1 : Vec Ideal S1x1x1x1x256 .f32) (r : Fin 256) (c : Fin 512) :
    k0_pay89 (k0_pay88 q k) u0 u1 (ix2 r c) = ∑ x, q (ix2 ⟨512 + r.val, by omega⟩ x) * k (ix2 c x) + cat2 (fun j => u0 (ix5 0 0 0 0 j)) (fun j => u1 (ix5 0 0 0 0 j)) c := by
  unfold k0_pay89 k0_pay88
  pointwise [dot_S256x128_S512x128_S256x512_1_1_0_0_n_n]
  rfl

theorem s107 (k : Vec Ideal S768x128 .bf16) (u0 u1 u2 : Vec Ideal S1x1x1x1x256 .f32) (r : Fin 256) (c : Fin 768) :
    k0_pay107 (k0_pay104 q k) (k0_pay105 u0) (k0_pay106 u1) u2 (ix2 r c)
      = ∑ x, q (ix2 ⟨768 + r.val, by omega⟩ x) * k (ix2 c x) + cat3 (fun j => u0 (ix5 0 0 0 0 j)) (fun j => u1 (ix5 0 0 0 0 j)) (fun j => u2 (ix5 0 0 0 0 j)) c := by
  unfold k0_pay107 k0_pay104 k0_pay105 k0_pay106
  pointwise [dot_S256x128_S768x128_S256x768_1_1_0_0_n_n]
  rfl

theorem s20 (k : Vec Ideal S1024x128 .bf16) (u0 u1 u2 u3 : Vec Ideal S1x1x1x1x256 .f32) (r : Fin 256) (c : Fin 1024) :
    k0_pay20 q k u0 u1 u2 u3 (ix2 r c) = ∑ x, q (ix2 ⟨r.val, by omega⟩ x) * k (ix2 c x)
      + cat4 (fun j => u0 (ix5 0 0 0 0 j)) (fun j => u1 (ix5 0 0 0 0 j)) (fun j => u2 (ix5 0 0 0 0 j)) (fun j => u3 (ix5 0 0 0 0 j)) c := by
  unfold k0_pay20 k0_pay19
  pointwise [dot_S256x128_S1024x128_S256x1024_1_1_0_0_n_n]
  rfl

theorem s26 (k : Vec Ideal S1024x128 .bf16) (u0 u1 u2 u3 : Vec Ideal S1x1x1x1x256 .f32) (r : Fin 256) (c : Fin 1024) :
    k0_pay26 q k (k0_pay19 u0 u1 u2 u3) (ix2 r c) = ∑ x, q (ix2 ⟨256 + r.val, by omega⟩ x) * k (ix2 c x)
      + cat4 (fun j => u0 (ix5 0 0 0 0 j)) (fun j => u1 (ix5 0 0 0 0 j)) (fun j => u2 (ix5 0 0 0 0 j)) (fun j => u3 (ix5 0 0 0 0 j)) c := by
  unfold k0_pay26 k0_pay19
  pointwise [dot_S256x128_S1024x128_S256x1024_1_1_0_0_n_n]
  rfl

theorem s32 (k : Vec Ideal S1024x128 .bf16) (u0 u1 u2 u3 : Vec Ideal S1x1x1x1x256 .f32) (r : Fin 256) (c : Fin 1024) :
    k0_pay32 q k (k0_pay19 u0 u1 u2 u3) (ix2 r c) = ∑ x, q (ix2 ⟨512 + r.val, by omega⟩ x) * k (ix2 c x)
      + cat4 (fun j => u0 (ix5 0 0 0 0 j)) (fun j => u1 (ix5 0 0 0 0 j)) (fun j => u2 (ix5 0 0 0 0 j)) (fun j => u3 (ix5 0 0 0 0 j)) c := by
  unfold k0_pay32 k0_pay19
  pointwise [dot_S256x128_S1024x128_S256x1024_1_1_0_0_n_n]
  rfl

theorem s2 (k : Vec Ideal S1024x128 .bf16) (u0 u1 u2 u3 : Vec Ideal S1x1x1x1x256 .f32) (r : Fin 256) (c : Fin 1024) :
    k0_pay2 q k (k0_pay19 u0 u1 u2 u3) (ix2 r c) = ∑ x, q (ix2 ⟨768 + r.val, by omega⟩ x) * k (ix2 c x)
      + cat4 (fun j => u0 (ix5 0 0 0 0 j)) (fun j => u1 (ix5 0 0 0 0 j)) (fun j => u2 (ix5 0 0 0 0 j)) (fun j => u3 (ix5 0 0 0 0 j)) c := by
  unfold k0_pay2 k0_pay19
  pointwise [dot_S256x128_S1024x128_S256x1024_1_1_0_0_n_n]
  rfl

end

/-! What is stored. -/
theorem s15 (l : FVec Ideal S256x1 .f32) (a : FVec Ideal S256x128 .f32) (r : Fin 256) (d : Fin 128) :
    k0_pay15 l a (ix2 r d) = Ideal.div (a (ix2 r d)) (l (ix2 r 0)) := by
  unfold k0_pay15
  pointwise

theorem s16 (l : FVec Ideal S256x1 .f32) (a : FVec Ideal S256x128 .f32) (r : Fin 256) (d : Fin 128) :
    k0_pay16 l a (ix2 r d) = Ideal.div (a (ix2 r d)) (l (ix2 r 0)) := by
  unfold k0_pay16
  pointwise

theorem s17 (l : FVec Ideal S256x1 .f32) (a : FVec Ideal S256x128 .f32) (r : Fin 256) (d : Fin 128) :
    k0_pay17 l a (ix2 r d) = Ideal.div (a (ix2 r d)) (l (ix2 r 0)) := by
  unfold k0_pay17
  pointwise

theorem s18 (l : FVec Ideal S256x1 .f32) (a : FVec Ideal S256x128 .f32) (r : Fin 256) (d : Fin 128) :
    k0_pay18 l a (ix2 r d) = Ideal.div (a (ix2 r d)) (l (ix2 r 0)) := by
  unfold k0_pay18
  pointwise

end Cert.Fox
-- ==== Proof.FoxTile.lean ====
/-
  What the attention kernel's body leaves in its output block: every row the softmax-weighted sum of the values over the keys it sees.
-/
module

public import proofs.«01_k».proof.Proof.FoxInv
public import proofs.«01_k».proof.Proof.FoxPay
public import proofs.«01_k».proof.Proof.FoxPay2

@[expose] public section

set_option maxRecDepth 16384

noncomputable section

namespace Cert.Fox

open Cert.KernelIdeal Cert.KernelIdeal.Gen Idealize.ShloMosaic Idealize.ShloMosaic.TcCoe Idealize.SL.Sem

section
variable (i : grid0.Coords)

theorem blk_lt : (i 2).val < 4 := (i 2).isLt

theorem trips_eq : (k0_t1_loop i).trips = (i 2).val := by
  unfold k0_t1_loop
  dsimp only
  generalize i 2 = n
  revert n
  change ∀ n : Fin 4, _
  decide +kernel

theorem off1_eq (t : Fin 4) : k0_off1 i (BitVec.ofNat 32 t.val) = ![1024 * (i 2).val + 256 * t.val, 0] := by
  unfold k0_off1
  dsimp only
  generalize i 2 = n
  revert n t
  change ∀ (t n : Fin 4), _
  decide +kernel

theorem off2_eq (t : Fin 4) : k0_off2 i (BitVec.ofNat 32 t.val) = ![0, 0, 4 * (i 2).val + t.val, 0, 0] := by
  unfold k0_off2
  dsimp only
  generalize i 2 = n
  revert n t
  change ∀ (t n : Fin 4), _
  decide +kernel

theorem off3_eq : k0_off3 i = ![1024 * (i 2).val, 0] := by
  unfold k0_off3
  dsimp only
  generalize i 2 = n
  revert n
  change ∀ (n : Fin 4), _
  decide +kernel

theorem off4_eq : k0_off4 i = ![1024 * (i 2).val, 0] := by
  unfold k0_off4
  dsimp only
  generalize i 2 = n
  revert n
  change ∀ (n : Fin 4), _
  decide +kernel

theorem off5_eq : k0_off5 i = ![1024 * (i 2).val, 0] := by
  unfold k0_off5
  dsimp only
  generalize i 2 = n
  revert n
  change ∀ (n : Fin 4), _
  decide +kernel

theorem off6_eq (k : Fin (k0_t1_loop i).trips) : k0_off6 i k = ![1024 * k.val, 0] := by
  have hk : k.val < 4 := by have := k.isLt; have := trips_eq i; have := blk_lt i; omega
  unfold k0_off6
  dsimp only
  generalize k.val = n at hk ⊢
  obtain ⟨n, rfl⟩ : ∃ m : Fin 4, n = m.val := ⟨⟨n, hk⟩, rfl⟩
  clear hk k
  revert n
  clear off6_eq i
  decide +kernel

theorem off7_eq (k : Fin (k0_t1_loop i).trips) (t : Fin 4) : k0_off7 i k (BitVec.ofNat 32 t.val) = ![0, 0, 4 * k.val + t.val, 0, 0] := by
  have hk : k.val < 4 := by have := k.isLt; have := trips_eq i; have := blk_lt i; omega
  unfold k0_off7
  dsimp only
  generalize k.val = n at hk ⊢
  obtain ⟨n, rfl⟩ : ∃ m : Fin 4, n = m.val := ⟨⟨n, hk⟩, rfl⟩
  clear hk k
  revert n t
  clear off7_eq i
  decide +kernel

variable (q : FVec Ideal S1024x128 .bf16) (q0 : Vec Ideal S1x1024x128 .f32) (K V X : Vec Ideal S4096x128 .bf16) (U : Vec Ideal S1x1x16x1x256 .f32)

/-- A load of rows. -/
theorem ld_rows {N : ℕ} (o : Fin 2 → ℕ) (b : ℕ) (hb : b + N ≤ 4096) (ho : o = ![b, 0]) (h : ∀ a, o a + (⟨2, ![N, 128]⟩ : Shape).size a ≤ S4096x128.size a) (c : Fin N) (x : Fin 128) :
    View.ld (Val := Elt Ideal) X (Rect.unit (s := S4096x128) o (⟨2, ![N, 128]⟩ : Shape).size h) (ix2 c x) = X (ix2 ⟨b + c.val, by omega⟩ x) := by
  subst ho
  unfold View.ld
  congr 1; funext a; apply Fin.ext
  match a with
  | ⟨0, _⟩ => show b + 1 * c.val = b + c.val; omega
  | ⟨1, _⟩ => show 0 + 1 * x.val = x.val; omega

/-- The bias of key `κ`. -/
def ub (U : Vec Ideal S1x1x16x1x256 .f32) (κ : Fin 4096) : EReal := U (ix5 0 0 ⟨κ.val / 256, by omega⟩ 0 ⟨κ.val % 256, by omega⟩)

theorem ld_bias (o : Fin 5 → ℕ) (b : ℕ) (hb : b < 16) (ho : o = ![0, 0, b, 0, 0]) (h : ∀ a, o a + S1x1x1x1x256.size a ≤ S1x1x16x1x256.size a) (c : Fin 256) :
    View.ld (Val := Elt Ideal) U (Rect.unit (s := S1x1x16x1x256) o S1x1x1x1x256.size h) (ix5 0 0 0 0 c) = ub U ⟨256 * b + c.val, by omega⟩ := by
  subst ho
  unfold View.ld ub
  congr 1; funext a; apply Fin.ext
  match a with
  | ⟨0, _⟩ => rfl
  | ⟨1, _⟩ => rfl
  | ⟨2, _⟩ => show b + 1 * 0 = (256 * b + c.val) / 256; omega
  | ⟨3, _⟩ => rfl
  | ⟨4, _⟩ => show 0 + 1 * c.val = (256 * b + c.val) % 256; omega

theorem own_apply (t : Fin 4) (c : Fin 256) (x : Fin 128) :
    own i X t (ix2 c x) = X (ix2 ⟨1024 * (i 2).val + 256 * t.val + c.val, by have := blk_lt i; omega⟩ x) :=
  ld_rows X _ _ (by have := blk_lt i; omega) (off1_eq i t) _ c x
theorem bef1_apply (c : Fin 256) (x : Fin 128) :
    bef1 i X (ix2 c x) = X (ix2 ⟨1024 * (i 2).val + c.val, by have := blk_lt i; omega⟩ x) :=
  ld_rows X _ _ (by have := blk_lt i; omega) (off3_eq i) _ c x
theorem bef2_apply (c : Fin 512) (x : Fin 128) :
    bef2 i X (ix2 c x) = X (ix2 ⟨1024 * (i 2).val + c.val, by have := blk_lt i; omega⟩ x) :=
  ld_rows X _ _ (by have := blk_lt i; omega) (off4_eq i) _ c x
theorem bef3_apply (c : Fin 768) (x : Fin 128) :
    bef3 i X (ix2 c x) = X (ix2 ⟨1024 * (i 2).val + c.val, by have := blk_lt i; omega⟩ x) :=
  ld_rows X _ _ (by have := blk_lt i; omega) (off5_eq i) _ c x
theorem trip_lt (k : Fin (k0_t1_loop i).trips) : k.val < 4 := by have := k.isLt; have := trips_eq i; have := blk_lt i; omega
theorem blo_apply (k : Fin (k0_t1_loop i).trips) (c : Fin 1024) (x : Fin 128) :
    blo i X k (ix2 c x) = X (ix2 ⟨1024 * k.val + c.val, by have := trip_lt i k; omega⟩ x) :=
  ld_rows X _ _ (by have := trip_lt i k; omega) (off6_eq i k) _ c x
theorem bia_apply (t : Fin 4) (c : Fin 256) :
    bia i U t (ix5 0 0 0 0 c) = ub U ⟨256 * (4 * (i 2).val + t.val) + c.val, by have := blk_lt i; omega⟩ :=
  ld_bias U _ _ (by have := blk_lt i; omega) (off2_eq i t) _ c
theorem blb_apply (k : Fin (k0_t1_loop i).trips) (t : Fin 4) (c : Fin 256) :
    blb i U k t (ix5 0 0 0 0 c) = ub U ⟨256 * (4 * k.val + t.val) + c.val, by have := trip_lt i k; omega⟩ :=
  ld_bias U _ _ (by have := trip_lt i k; omega) (off7_eq i k t) _ c

theorem cat2_ub (c : Fin 512) : cat2 (fun j => bia i U 0 (ix5 0 0 0 0 j)) (fun j => bia i U 1 (ix5 0 0 0 0 j)) c
    = ub U ⟨1024 * (i 2).val + c.val, by have := blk_lt i; omega⟩ := by
  unfold cat2
  split
  · refine (bia_apply i U _ _).trans ?_; congr 1; apply Fin.ext; show 256 * (4 * (i 2).val + 0) + c.val = _; dsimp only; omega
  · refine (bia_apply i U _ _).trans ?_; congr 1; apply Fin.ext; show 256 * (4 * (i 2).val + 1) + (c.val - 256) = _; dsimp only; omega
theorem cat3_ub (c : Fin 768) : cat3 (fun j => bia i U 0 (ix5 0 0 0 0 j)) (fun j => bia i U 1 (ix5 0 0 0 0 j)) (fun j => bia i U 2 (ix5 0 0 0 0 j)) c
    = ub U ⟨1024 * (i 2).val + c.val, by have := blk_lt i; omega⟩ := by
  unfold cat3
  split
  · refine (bia_apply i U _ _).trans ?_; congr 1; apply Fin.ext; show 256 * (4 * (i 2).val + 0) + c.val = _; dsimp only; omega
  split
  · refine (bia_apply i U _ _).trans ?_; congr 1; apply Fin.ext; show 256 * (4 * (i 2).val + 1) + (c.val - 256) = _; dsimp only; omega
  · refine (bia_apply i U _ _).trans ?_; congr 1; apply Fin.ext; show 256 * (4 * (i 2).val + 2) + (c.val - 256 - 256) = _; dsimp only; omega
theorem cat4_ub (k : Fin (k0_t1_loop i).trips) (c : Fin 1024) :
    cat4 (fun j => blb i U k 0 (ix5 0 0 0 0 j)) (fun j => blb i U k 1 (ix5 0 0 0 0 j)) (fun j => blb i U k 2 (ix5 0 0 0 0 j)) (fun j => blb i U k 3 (ix5 0 0 0 0 j)) c
    = ub U ⟨1024 * k.val + c.val, by have := trip_lt i k; omega⟩ := by
  unfold cat4
  split
  · refine (blb_apply i U k _ _).trans ?_; congr 1; apply Fin.ext; show 256 * (4 * k.val + 0) + c.val = _; dsimp only; omega
  split
  · refine (blb_apply i U k _ _).trans ?_; congr 1; apply Fin.ext; show 256 * (4 * k.val + 1) + (c.val - 256) = _; dsimp only; omega
  split
  · refine (blb_apply i U k _ _).trans ?_; congr 1; apply Fin.ext; show 256 * (4 * k.val + 2) + (c.val - 256 - 256) = _; dsimp only; omega
  · refine (blb_apply i U k _ _).trans ?_; congr 1; apply Fin.ext; show 256 * (4 * k.val + 3) + (c.val - 256 - 256 - 256) = _; dsimp only; omega

/-- The logits of row `ρ` of block `I`: the keys after the row are not seen. -/
def Z (I : ℕ) (q : FVec Ideal S1024x128 .bf16) (K : Vec Ideal S4096x128 .bf16) (U : Vec Ideal S1x1x16x1x256 .f32) (ρ : Fin 1024) (κ : Fin 4096) : EReal :=
  if κ.val ≤ 1024 * I + ρ.val then ∑ x, q (ix2 ρ x) * K (ix2 κ x) + ub U κ else ⊥

/-- A masked logit of the own tile. -/
theorem own_Z {T : ℕ} (hT : T < 4) (r c : Fin 256) (s : EReal) (k : Fin 256 → Fin 128 → EReal) (u : EReal)
    (hs : s = if c ≤ r then ∑ x, q (ix2 ⟨256 * T + r.val, by omega⟩ x) * k c x + u else ⊥)
    (hk : ∀ x, k c x = K (ix2 ⟨1024 * (i 2).val + 256 * T + c.val, by have := blk_lt i; omega⟩ x))
    (hu : u = ub U ⟨256 * (4 * (i 2).val + T) + c.val, by have := blk_lt i; omega⟩) :
    s = Z (i 2).val q K U ⟨256 * T + r.val, by omega⟩ ⟨1024 * (i 2).val + 256 * T + c.val, by have := blk_lt i; omega⟩ := by
  have hub : (⟨256 * (4 * (i 2).val + T) + c.val, by have := blk_lt i; omega⟩ : Fin 4096) = ⟨1024 * (i 2).val + 256 * T + c.val, by have := blk_lt i; omega⟩ :=
    Fin.ext (by dsimp only; omega)
  rw [hs, hu, hub]
  unfold Z
  simp only [hk]
  by_cases h : c ≤ r
  · rw [if_pos h, if_pos (by have : c.val ≤ r.val := h; omega)]
  · rw [if_neg h, if_neg (by have : ¬ c.val ≤ r.val := h; omega)]

/-- A logit of a row the tile sees whole. -/
theorem all_Z (ρ : Fin 1024) (κ : Fin 4096) (hκ : κ.val ≤ 1024 * (i 2).val + ρ.val) (s u : EReal) (k : Fin 128 → EReal)
    (hs : s = ∑ x, q (ix2 ρ x) * k x + u) (hk : ∀ x, k x = K (ix2 κ x)) (hu : u = ub U κ) : s = Z (i 2).val q K U ρ κ := by
  rw [hs, hu]
  unfold Z
  simp only [hk]
  rw [if_pos hκ]

end

end Cert.Fox
-- ==== Proof.FoxSpec.lean ====
/-
  The forgetting attention, written out: logits of a row, causal, with the decay added; their softmax; the weighted values.
-/
module

public import proofs.«01_k».proof.Proof.FoxMath

@[expose] public section

noncomputable section

namespace Cert.Fox

open Idealize.ShloMosaic

/-- The attention's row: the values averaged with the softmax weights of its logits (shifted by `M`). -/
def att (z V : Fin 4096 → EReal) (M : EReal) : EReal := ∑ s, Ideal.div (Ideal.exp (z s - M)) (∑ k, Ideal.exp (z k - M)) * V s

variable (P : Fin 10 → Fin 8448 → Fin 1024 → EReal) (S : Fin 2 → Fin 8 → Fin 4096 → EReal)

/-- The row of the arrays that holds position `ρ` of sequence `b`. -/
def tok (b : Fin 2) (ρ : Fin 4096) : Fin 8448 := ⟨4096 * b.val + ρ.val, by omega⟩
/-- The column that holds entry `x` of head `h`. -/
def chan (h : Fin 8) (x : Fin 128) : Fin 1024 := ⟨128 * h.val + x.val, by omega⟩

/-- The logit of position `ρ` against key `κ`. -/
def logit (b : Fin 2) (h : Fin 8) (ρ κ : Fin 4096) : EReal :=
  if κ ≤ ρ then ∑ x, P 3 (tok b ρ) (chan h x) * scale * P 4 (tok b κ) (chan h x) + S b h κ else ⊥

/-- Entry `d` of the value of key `κ`. -/
def val (b : Fin 2) (h : Fin 8) (d : Fin 128) (κ : Fin 4096) : EReal := P 5 (tok b κ) (chan h d)

/-- The queries, the keys and the decays are real. -/
structure Real : Prop where
  q : ∀ b ρ h x, ∃ r : ℝ, P 3 (tok b ρ) (chan h x) = r
  k : ∀ b ρ h x, ∃ r : ℝ, P 4 (tok b ρ) (chan h x) = r
  s : ∀ b h κ, ∃ r : ℝ, S b h κ = r

theorem sum_of_real {ι : Type} (A : Finset ι) (f : ι → EReal) (hf : ∀ x, ∃ r : ℝ, f x = r) : ∃ r : ℝ, ∑ x ∈ A, f x = r := by
  choose g hg using hf
  refine ⟨∑ x ∈ A, g x, ?_⟩
  simp only [hg]
  induction A using Finset.cons_induction with
  | empty => rfl
  | cons a A ha ih => rw [Finset.sum_cons, Finset.sum_cons, ih, EReal.coe_add]

variable {P S}

theorem Real.seen (H : Real P S) (b : Fin 2) (h : Fin 8) (ρ κ : Fin 4096) :
    ∃ r : ℝ, ∑ x, P 3 (tok b ρ) (chan h x) * scale * P 4 (tok b κ) (chan h x) + S b h κ = r := by
  obtain ⟨c, -, hc⟩ := scale_real
  obtain ⟨s, hs⟩ := H.s b h κ
  obtain ⟨w, hw⟩ := sum_of_real Finset.univ (fun x => P 3 (tok b ρ) (chan h x) * scale * P 4 (tok b κ) (chan h x)) fun x => by
    obtain ⟨q, hq⟩ := H.q b ρ h x
    obtain ⟨k, hk⟩ := H.k b κ h x
    exact ⟨q * c * k, by rw [hq, hk, hc, EReal.coe_mul, EReal.coe_mul]⟩
  exact ⟨w + s, by rw [hw, hs, EReal.coe_add]⟩

theorem Real.logit_top (H : Real P S) (b : Fin 2) (h : Fin 8) (ρ κ : Fin 4096) : logit P S b h ρ κ ≠ ⊤ := by
  unfold logit
  split
  · obtain ⟨r, hr⟩ := H.seen b h ρ κ
    rw [hr]; exact EReal.coe_ne_top r
  · exact bot_ne_top

theorem Real.logit_own (H : Real P S) (b : Fin 2) (h : Fin 8) (ρ : Fin 4096) : logit P S b h ρ ρ ≠ ⊥ := by
  unfold logit
  rw [if_pos le_rfl]
  obtain ⟨r, hr⟩ := H.seen b h ρ ρ
  rw [hr]; exact EReal.coe_ne_bot r

end Cert.Fox
-- ==== Proof.FoxBlock.lean ====
/-
  The carried values of the attention kernel's body, tile by tile, and the four stored tiles.
-/
module

public import proofs.«01_k».proof.Proof.FoxTile
public import proofs.«01_k».proof.Proof.FoxSpec

@[expose] public section

set_option maxRecDepth 16384

noncomputable section

namespace Cert.Fox

open Cert.KernelIdeal Cert.KernelIdeal.Gen Idealize.ShloMosaic Idealize.ShloMosaic.TcCoe Idealize.SL.Sem

section
variable (i : grid0.Coords) (q : FVec Ideal S1024x128 .bf16) (q0 : Vec Ideal S1x1024x128 .f32) (K V : Vec Ideal S4096x128 .bf16) (U : Vec Ideal S1x1x16x1x256 .f32)

/-- The state of row tile `T` after `n` earlier blocks. -/
def Tile (T : ℕ) (hT : T < 4) (n : ℕ) (m l : FVec Ideal S256x1 .f32) (a : FVec Ideal S256x128 .f32) : Prop :=
  ∀ (r : Fin 256) (d : Fin 128), Inv (Z (i 2).val q K U ⟨256 * T + r.val, by omega⟩) (fun κ => V (ix2 κ d)) (i 2).val T n
    (m (ix2 r 0)) (l (ix2 r 0)) (a (ix2 r d))

/-- The state of all four. -/
structure Good (n : ℕ) (a : Carry Ideal) : Prop where
  t0 : Tile i q K V U 0 (by decide) n a.1 a.2.1 a.2.2.1
  t1 : Tile i q K V U 1 (by decide) n a.2.2.2.1 a.2.2.2.2.1 a.2.2.2.2.2.1
  t2 : Tile i q K V U 2 (by decide) n a.2.2.2.2.2.2.1 a.2.2.2.2.2.2.2.1 a.2.2.2.2.2.2.2.2.1
  t3 : Tile i q K V U 3 (by decide) n a.2.2.2.2.2.2.2.2.2.1 a.2.2.2.2.2.2.2.2.2.2.1 a.2.2.2.2.2.2.2.2.2.2.2

/-- The logits a row sees are below infinity, and its own is above minus infinity. -/
structure Fine : Prop where
  top : ∀ ρ κ, Z (i 2).val q K U ρ κ ≠ ⊤
  own : ∀ ρ : Fin 1024, Z (i 2).val q K U ρ ⟨1024 * (i 2).val + ρ.val, by have := blk_lt i; omega⟩ ≠ ⊥

variable (h : Fine i q K U)
include h

/-- The first block of a row: the own tile. -/
theorem pre_own {T : ℕ} (hT : T < 4) (s : FVec Ideal S256x256 .f32) (r : Fin 256) (d : Fin 128)
    (hs : ∀ r c : Fin 256, s (ix2 r c) = if c ≤ r then ∑ x, q (ix2 ⟨256 * T + r.val, by omega⟩ x) * own i K ⟨T, hT⟩ (ix2 c x) + bia i U ⟨T, hT⟩ (ix5 0 0 0 0 c) else ⊥) :
    Pre (Z (i 2).val q K U ⟨256 * T + r.val, by omega⟩) (fun κ => V (ix2 κ d)) (i 2).val T (upM negInf (fun x => s (ix2 r x)))
      (upL negInf 0 (fun x => s (ix2 r x))) (upA negInf 0 (fun x => s (ix2 r x)) (fun x => own i V ⟨T, hT⟩ (ix2 x d))) := by
  have hZ : ∀ c : Fin 256, s (ix2 r c) = Z (i 2).val q K U ⟨256 * T + r.val, by omega⟩ ⟨1024 * (i 2).val + 256 * T + c.val, by have := blk_lt i; omega⟩ := fun c =>
    own_Z i q K U hT r c _ (fun c x => own i K ⟨T, hT⟩ (ix2 c x)) _ (hs r c) (fun x => own_apply i K ⟨T, hT⟩ c x) (bia_apply i U ⟨T, hT⟩ c)
  refine Pre.of_start (h.top _) (blk_lt i) hT _ _ hZ (fun c => own_apply i V ⟨T, hT⟩ c d) ⟨r, ?_⟩
  rw [hZ]
  have e : (⟨1024 * (i 2).val + 256 * T + r.val, by have := blk_lt i; omega⟩ : Fin 4096) = ⟨1024 * (i 2).val + (256 * T + r.val), by have := blk_lt i; omega⟩ :=
    Fin.ext (Nat.add_assoc _ _ _)
  rw [e]
  exact h.own ⟨256 * T + r.val, by omega⟩

theorem row0 (r : Fin 256) : (⟨r.val, by omega⟩ : Fin 1024) = ⟨256 * 0 + r.val, by omega⟩ := Fin.ext (by dsimp only; omega)

theorem start_t0 (hq : q = k0_pay57 q0) : Tile i q K V U 0 (by decide) 0 (start i q q0 K V U).1 (start i q q0 K V U).2.1 (start i q q0 K V U).2.2.1 := by
  intro r d
  refine Pre.inv_zero ?_
  show Pre _ _ _ _ (k0_pay62 (k0_pay58 q0 (own i K 0) (bia i U 0)) k0_pay59 (ix2 r 0))
    (k0_pay65 (k0_pay58 q0 (own i K 0) (bia i U 0)) k0_pay59 k0_pay60 (ix2 r 0))
    (k0_pay66 (k0_pay58 q0 (own i K 0) (bia i U 0)) (own i V 0) k0_pay59 k0_pay61 (ix2 r d))
  rw [t0_m, t0_l, t0_a, c59, c60, c61]
  refine pre_own i q K V U h (T := 0) (by decide) _ r d fun r c => ?_
  rw [s58, ← hq, row0 i q K U h r]
  rfl

theorem start_t1 : Tile i q K V U 1 (by decide) 0 (start i q q0 K V U).2.2.2.1 (start i q q0 K V U).2.2.2.2.1 (start i q q0 K V U).2.2.2.2.2.1 := by
  intro r d
  show Inv _ _ _ _ _ (k0_pay76 q (k0_pay71 q io0 io1 (own i K 1) (bia i U 1)) (bef1 i K) (bia i U 0) (ix2 r 0))
    (k0_pay79 q (k0_pay67 q io0 io1 (own i K 1) (bia i U 1)) k0_pay69 (k0_pay71 q io0 io1 (own i K 1) (bia i U 1))
     (k0_pay72 q io0 io1 (own i K 1) (bia i U 1)) (bef1 i K) (bia i U 0) (ix2 r 0))
    (k0_pay80 q (k0_pay67 q io0 io1 (own i K 1) (bia i U 1)) (own i V 1) k0_pay70 (k0_pay71 q io0 io1 (own i K 1) (bia i U 1))
     (k0_pay72 q io0 io1 (own i K 1) (bia i U 1)) (bef1 i K) (bia i U 0) (bef1 i V) (ix2 r d))
  rw [p1_m, p1_l, p1_a, o1_e, o1_m, c69, c70]
  refine Pre.before (h.top _) (blk_lt i) (by decide) (N := 256) rfl ?_ _ _ (fun c => ?_) (fun c => bef1_apply i V c d)
  · exact pre_own i q K V U h (T := 1) (by decide) _ r d fun r c => s67 q _ _ r c
  · exact all_Z i q K U _ _ (by have := c.isLt; dsimp only; omega) _ _ (fun x => bef1 i K (ix2 c x)) (s75 q _ _ r c) (fun x => bef1_apply i K c x)
      ((bia_apply i U 0 c).trans (congrArg _ (Fin.ext (by show 256 * (4 * (i 2).val + 0) + c.val = 1024 * (i 2).val + c.val; omega))))

theorem start_t2 : Tile i q K V U 2 (by decide) 0 (start i q q0 K V U).2.2.2.2.2.2.1 (start i q q0 K V U).2.2.2.2.2.2.2.1 (start i q q0 K V U).2.2.2.2.2.2.2.2.1 := by
  intro r d
  show Inv _ _ _ _ _ (k0_pay90 (k0_pay83 q io0 io1 (own i K 2) (bia i U 2)) (k0_pay88 q (bef2 i K)) (bia i U 0) (bia i U 1) (ix2 r 0))
    (k0_pay93 (k0_pay83 q io0 io1 (own i K 2) (bia i U 2)) (k0_pay86 q io0 io1 (own i K 2) (bia i U 2)) (k0_pay88 q (bef2 i K)) (bia i U 0) (bia i U 1) (ix2 r 0))
    (k0_pay94 (k0_pay83 q io0 io1 (own i K 2) (bia i U 2)) (k0_pay87 q io0 io1 (own i K 2) (bia i U 2) (own i V 2)) (k0_pay88 q (bef2 i K))
     (bia i U 0) (bia i U 1) (bef2 i V) (ix2 r d))
  rw [w2_m, w2_l, w2_a, o2_m, o2_l, o2_a]
  refine Pre.before (h.top _) (blk_lt i) (by decide) (N := 512) rfl ?_ _ _ (fun c => ?_) (fun c => bef2_apply i V c d)
  · exact pre_own i q K V U h (T := 2) (by decide) _ r d fun r c => s81 q _ _ r c
  · exact all_Z i q K U _ _ (by have := c.isLt; dsimp only; omega) _ _ (fun x => bef2 i K (ix2 c x)) (s89 q _ _ _ r c) (fun x => bef2_apply i K c x)
      (cat2_ub i U c)

theorem start_t3 : Tile i q K V U 3 (by decide) 0 (start i q q0 K V U).2.2.2.2.2.2.2.2.2.1 (start i q q0 K V U).2.2.2.2.2.2.2.2.2.2.1 (start i q q0 K V U).2.2.2.2.2.2.2.2.2.2.2 := by
  intro r d
  show Inv _ _ _ _ _ (k0_pay108 (k0_pay99 io0 io1 (k0_pay95 q (own i K 3)) (k0_pay96 (bia i U 3))) (k0_pay104 q (bef3 i K)) (k0_pay105 (bia i U 0)) (k0_pay106 (bia i U 1)) (bia i U 2) (ix2 r 0))
    (k0_pay111 (k0_pay99 io0 io1 (k0_pay95 q (own i K 3)) (k0_pay96 (bia i U 3))) (k0_pay102 io0 io1 (k0_pay95 q (own i K 3)) (k0_pay96 (bia i U 3)))
     (k0_pay104 q (bef3 i K)) (k0_pay105 (bia i U 0)) (k0_pay106 (bia i U 1)) (bia i U 2) (ix2 r 0))
    (k0_pay112 (k0_pay99 io0 io1 (k0_pay95 q (own i K 3)) (k0_pay96 (bia i U 3))) (k0_pay103 io0 io1 (k0_pay95 q (own i K 3)) (k0_pay96 (bia i U 3)) (own i V 3))
     (k0_pay104 q (bef3 i K)) (k0_pay105 (bia i U 0)) (k0_pay106 (bia i U 1)) (bia i U 2) (bef3 i V) (ix2 r d))
  rw [w3_m, w3_l, w3_a, o3_m, o3_l, o3_a]
  refine Pre.before (h.top _) (blk_lt i) (by decide) (N := 768) rfl ?_ _ _ (fun c => ?_) (fun c => bef3_apply i V c d)
  · exact pre_own i q K V U h (T := 3) (by decide) _ r d fun r c => s97 q _ _ r c
  · exact all_Z i q K U _ _ (by have := c.isLt; dsimp only; omega) _ _ (fun x => bef3 i K (ix2 c x)) (s107 q _ _ _ _ r c) (fun x => bef3_apply i K c x)
      (cat3_ub i U c)

theorem good_start (hq : q = k0_pay57 q0) : Good i q K V U 0 (start i q q0 K V U) :=
  ⟨start_t0 i q q0 K V U h hq, start_t1 i q q0 K V U h, start_t2 i q q0 K V U h, start_t3 i q q0 K V U h⟩

/-- A logit of an earlier block. -/
theorem loop_Z {T : ℕ} (hT : T < 4) (k : Fin (k0_t1_loop i).trips) (r : Fin 256) (c : Fin 1024) (s : EReal)
    (hs : s = ∑ x, q (ix2 ⟨256 * T + r.val, by omega⟩ x) * blo i K k (ix2 c x)
      + cat4 (fun j => blb i U k 0 (ix5 0 0 0 0 j)) (fun j => blb i U k 1 (ix5 0 0 0 0 j)) (fun j => blb i U k 2 (ix5 0 0 0 0 j)) (fun j => blb i U k 3 (ix5 0 0 0 0 j)) c) :
    s = Z (i 2).val q K U ⟨256 * T + r.val, by omega⟩ ⟨1024 * k.val + c.val, by have := trip_lt i k; omega⟩ :=
  all_Z i q K U _ _ (by have := k.isLt; have := trips_eq i; have := c.isLt; dsimp only; omega) _ _ (fun x => blo i K k (ix2 c x)) hs
    (fun x => blo_apply i K k c x) (cat4_ub i U k c)

theorem good_step (k : Fin (k0_t1_loop i).trips) (a : Carry Ideal) (g : Good i q K V U k.val a) :
    Good i q K V U (k.val + 1) (stepV q (blo i K k) (blo i V k) (blb i U k 0) (blb i U k 1) (blb i U k 2) (blb i U k 3) a) := by
  have hk : k.val < (i 2).val := by have := k.isLt; have := trips_eq i; omega
  obtain ⟨g0, g1, g2, g3⟩ := g
  unfold stepV
  refine ⟨fun r d => ?_, fun r d => ?_, fun r d => ?_, fun r d => ?_⟩
  · dsimp only
    rw [l0_m, l0_l, l0_a]
    refine Inv.step (h.top _) (blk_lt i) hk (g0 r d) _ _ (fun c => ?_) (fun c => blo_apply i V k c d)
    refine loop_Z i q K U h (T := 0) (by decide) k r c _ ?_
    rw [← row0 i q K U h r]
    exact s20 q _ _ _ _ _ r c
  · dsimp only
    rw [l1_m, l1_l, l1_a]
    exact Inv.step (h.top _) (blk_lt i) hk (g1 r d) _ _ (fun c => loop_Z i q K U h (T := 1) (by decide) k r c _ (s26 q _ _ _ _ _ r c)) (fun c => blo_apply i V k c d)
  · dsimp only
    rw [l2_m, l2_l, l2_a]
    exact Inv.step (h.top _) (blk_lt i) hk (g2 r d) _ _ (fun c => loop_Z i q K U h (T := 2) (by decide) k r c _ (s32 q _ _ _ _ _ r c)) (fun c => blo_apply i V k c d)
  · dsimp only
    rw [l3_m, l3_l, l3_a]
    exact Inv.step (h.top _) (blk_lt i) hk (g3 r d) _ _ (fun c => loop_Z i q K U h (T := 3) (by decide) k r c _ (s2 q _ _ _ _ _ r c)) (fun c => blo_apply i V k c d)

theorem good_iter (a : Carry Ideal) (g : Good i q K V U 0 a) : ∀ n : ℕ, n ≤ (k0_t1_loop i).trips → Good i q K V U n (iter i q K V U a n)
  | 0, _ => g
  | n + 1, hn => by
    have hn' : n < (k0_t1_loop i).trips := hn
    rw [iter, dif_pos hn']
    exact good_step i q K V U h ⟨n, hn'⟩ _ (good_iter a g n (Nat.le_of_lt hn'))

omit h in
theorem good_fin (h : Fine i (k0_pay57 q0) K U) : Good i (k0_pay57 q0) K V U (i 2).val (fin i q0 K V U) := by
  have := good_iter i (k0_pay57 q0) K V U h _ (good_start i (k0_pay57 q0) q0 K V U h rfl) _ le_rfl
  rw [trips_eq] at this
  unfold fin
  rw [trips_eq]
  exact this

theorem tile_final {T : ℕ} (hT : T < 4) (m l : FVec Ideal S256x1 .f32) (a : FVec Ideal S256x128 .f32) (g : Tile i q K V U T hT (i 2).val m l a)
    (r : Fin 256) (d : Fin 128) (M : EReal) (hM : ∃ x : ℝ, M = x) :
    Ideal.div (a (ix2 r d)) (l (ix2 r 0)) = att (Z (i 2).val q K U ⟨256 * T + r.val, by omega⟩) (fun κ => V (ix2 κ d)) M := by
  refine Inv.final (h.top _) (g r d) (fun κ hκ => ?_) (h.own _) M hM
  unfold Z
  rw [if_neg (by dsimp only; have := r.isLt; omega)]

/-- One stored tile. -/
theorem tile_piece {T : ℕ} (hT : T < 4) (m l : FVec Ideal S256x1 .f32) (a : FVec Ideal S256x128 .f32) (g : Tile i q K V U T hT (i 2).val m l a)
    (p : FVec Ideal S256x128 .f32) (hp : ∀ r d, p (ix2 r d) = Ideal.div (a (ix2 r d)) (l (ix2 r 0))) (M : Fin 1024 → EReal) (hM : ∀ ρ, ∃ x : ℝ, M ρ = x)
    (hin : ∀ a, (![256 * T, 0] : Fin 2 → ℕ) a + S256x128.size a ≤ S1024x128.size a) (x : S256x128.Idx) :
    p x = (fun y : S1024x128.Idx => att (Z (i 2).val q K U (y 0)) (fun κ => V (ix2 κ (y 1))) (M (y 0)))
      ((Rect.unit (s := S1024x128) ![256 * T, 0] S256x128.size hin).emb x) := by
  obtain ⟨r, e, rfl⟩ : ∃ (r : Fin 256) (e : Fin 128), x = ix2 r e := ⟨x 0, x 1, eq_ix2 x⟩
  have hemb : (Rect.unit (s := S1024x128) ![256 * T, 0] S256x128.size hin).emb (ix2 r e) = ix2 (⟨256 * T + r.val, by omega⟩ : Fin 1024) e := by
    funext a; apply Fin.ext
    match a with
    | ⟨0, _⟩ => show 256 * T + 1 * r.val = 256 * T + r.val; omega
    | ⟨1, _⟩ => show 0 + 1 * e.val = e.val; omega
  rw [hemb, hp]
  exact tile_final i q K V U h hT m l a g r e _ (hM _)

omit h in
/-- The block the body leaves. -/
theorem block (h : Fine i (k0_pay57 q0) K U) (M : Fin 1024 → EReal) (hM : ∀ ρ, ∃ x : ℝ, M ρ = x) (ρ : Fin 1024) (d : Fin 128)
    (hcov : ∃ p ∈ pieces (fin i q0 K V U), ix2 ρ d ∈ p.1.set) :
    View.canon (pieces (fin i q0 K V U)) (ix2 ρ d) = att (Z (i 2).val (k0_pay57 q0) K U ρ) (fun κ => V (ix2 κ d)) (M ρ) := by
  have g := good_fin i q0 K V U h
  refine View.canon_apply_of_pieces (Val := Elt Ideal) (fun y : S1024x128.Idx => att (Z (i 2).val (k0_pay57 q0) K U (y 0)) (fun κ => V (ix2 κ (y 1))) (M (y 0))) _ ?_ (ix2 ρ d) hcov
  intro p hp
  simp only [pieces, List.mem_cons, List.not_mem_nil, or_false] at hp
  rcases hp with rfl | rfl | rfl | rfl
  · exact tile_piece i _ K V U h (T := 3) (by decide) _ _ _ g.t3 _ (s18 _ _) M hM inb_S1024x128_S256x128_768_0
  · exact tile_piece i _ K V U h (T := 2) (by decide) _ _ _ g.t2 _ (s17 _ _) M hM inb_S1024x128_S256x128_512_0
  · exact tile_piece i _ K V U h (T := 1) (by decide) _ _ _ g.t1 _ (s16 _ _) M hM inb_S1024x128_S256x128_256_0
  · exact tile_piece i _ K V U h (T := 0) (by decide) _ _ _ g.t0 _ (s15 _ _) M hM inb_S1024x128_S256x128_0_0

end

end Cert.Fox
-- ==== Proof.FoxValue.lean ====
/-
  The attention call's result: the blocks its grid points read, the two scratch buffers along the points of one head, and the
  array the grid leaves.
-/
module

public import proofs.«01_k».proof.Proof.FoxBlock
public import Idealize.ShloMosaic.Lib.Pipeline.ValueKit

@[expose] public section

set_option maxRecDepth 16384

noncomputable section

namespace Cert.Fox

open Cert.KernelIdeal Cert.KernelIdeal.Gen Idealize.ShloMosaic Idealize.ShloMosaic.TcCoe Idealize.SL.Sem

variable (m : (ℓ : Loc nD τ sig) → Buf (Elt Ideal) ℓ) (c : Dev nD)

abbrev aP : Fin 10 → Fin 8448 → Fin 1024 → EReal := fun a r k => m ((c : Thread nD τ).loc main_arg0) (ix3 a r k)
abbrev aS : Fin 2 → Fin 8 → Fin 4096 → EReal := fun b h κ =>
  m ((c : Thread nD τ).loc main_arg1) (ix5 b h (⟨κ.val / 256, by omega⟩ : Fin 16) (0 : Fin 1) (⟨κ.val % 256, by omega⟩ : Fin 256))

theorem idx_facts : ∀ t : Fin cfg0.N,
    win0_0.index t = ![3, t.val / 32 * 4 + t.val % 4, t.val / 4 % 8] ∧ win0_1.index t = ![4, t.val / 32, t.val / 4 % 8]
    ∧ win0_2.index t = ![5, t.val / 32, t.val / 4 % 8] ∧ win0_3.index t = ![t.val / 32, t.val / 4 % 8, 0, 0, 0]
    ∧ win0_4.index t = ![t.val / 32 * 4 + t.val % 4, t.val / 4 % 8] :=
  (by decide +kernel : ∀ t : Fin grid0.N, _)

theorem tlt (t : Fin cfg0.N) : t.val < 64 := lt_of_lt_of_eq t.isLt N_0

/-- The sequence, the head and the row block of point `t`. -/
def seq (t : Fin cfg0.N) : Fin 2 := ⟨t.val / 32, by have := tlt t; omega⟩
def head (t : Fin cfg0.N) : Fin 8 := ⟨t.val / 4 % 8, by omega⟩

theorem coord2 (t : Fin cfg0.N) : (grid0.coords t 2).val = t.val % 4 := by
  have : (grid0.coords t 2).val = t.val / 1 % 4 := Pipeline.Grid.coords_val t 2 (by decide) rfl
  rw [this, Nat.div_one]

/-- The position of row `r` of point `t`'s block. -/
def pos (t : Fin cfg0.N) (r : Fin 1024) : Fin 4096 := ⟨1024 * (t.val % 4) + r.val, by omega⟩

theorem blk_q (t : Fin cfg0.N) (r : Fin 1024) (x : Fin 128) : X0_0 m c t (ix3 0 r x) = aP m c 3 (tok (seq t) (pos t r)) (chan (head t) x) := by
  obtain ⟨e, -⟩ := idx_facts t
  unfold X0_0 Pipeline.Window.fill
  rw [dif_pos (moved0_0 t _)]
  unfold iblk
  rw [View.read_apply]
  show V m c main_arg0 _ = _
  rw [V_main_arg0]
  show m ((c : Thread nD τ).loc main_arg0) _ = m ((c : Thread nD τ).loc main_arg0) _
  congr 1
  funext a; apply Fin.ext
  match a with
  | ⟨0, _⟩ => show win0_0.index t 0 * 1 + 1 * 0 = 3; rw [e]; rfl
  | ⟨1, _⟩ => show win0_0.index t 1 * 1024 + 1 * r.val = 4096 * (t.val / 32) + (1024 * (t.val % 4) + r.val); rw [e]; show (t.val / 32 * 4 + t.val % 4) * 1024 + 1 * r.val = _; omega
  | ⟨2, _⟩ => show win0_0.index t 2 * 128 + 1 * x.val = 128 * (t.val / 4 % 8) + x.val; rw [e]; show (t.val / 4 % 8) * 128 + 1 * x.val = _; omega

theorem blk_k (t : Fin cfg0.N) (κ : Fin 4096) (x : Fin 128) : X0_1 m c t (ix3 0 κ x) = aP m c 4 (tok (seq t) κ) (chan (head t) x) := by
  obtain ⟨-, e, -⟩ := idx_facts t
  unfold X0_1 Pipeline.Window.fill
  rw [dif_pos (moved0_1 t _)]
  unfold iblk
  rw [View.read_apply]
  show V m c main_arg0 _ = _
  rw [V_main_arg0]
  show m ((c : Thread nD τ).loc main_arg0) _ = m ((c : Thread nD τ).loc main_arg0) _
  congr 1
  funext a; apply Fin.ext
  match a with
  | ⟨0, _⟩ => show win0_1.index t 0 * 1 + 1 * 0 = 4; rw [e]; rfl
  | ⟨1, _⟩ => show win0_1.index t 1 * 4096 + 1 * κ.val = 4096 * (t.val / 32) + κ.val; rw [e]; show (t.val / 32) * 4096 + 1 * κ.val = _; omega
  | ⟨2, _⟩ => show win0_1.index t 2 * 128 + 1 * x.val = 128 * (t.val / 4 % 8) + x.val; rw [e]; show (t.val / 4 % 8) * 128 + 1 * x.val = _; omega

theorem blk_v (t : Fin cfg0.N) (κ : Fin 4096) (x : Fin 128) : X0_2 m c t (ix3 0 κ x) = aP m c 5 (tok (seq t) κ) (chan (head t) x) := by
  obtain ⟨-, -, e, -⟩ := idx_facts t
  unfold X0_2 Pipeline.Window.fill
  rw [dif_pos (moved0_2 t _)]
  unfold iblk
  rw [View.read_apply]
  show V m c main_arg0 _ = _
  rw [V_main_arg0]
  show m ((c : Thread nD τ).loc main_arg0) _ = m ((c : Thread nD τ).loc main_arg0) _
  congr 1
  funext a; apply Fin.ext
  match a with
  | ⟨0, _⟩ => show win0_2.index t 0 * 1 + 1 * 0 = 5; rw [e]; rfl
  | ⟨1, _⟩ => show win0_2.index t 1 * 4096 + 1 * κ.val = 4096 * (t.val / 32) + κ.val; rw [e]; show (t.val / 32) * 4096 + 1 * κ.val = _; omega
  | ⟨2, _⟩ => show win0_2.index t 2 * 128 + 1 * x.val = 128 * (t.val / 4 % 8) + x.val; rw [e]; show (t.val / 4 % 8) * 128 + 1 * x.val = _; omega

theorem blk_s (t : Fin cfg0.N) (κ : Fin 4096) : ub (iblk m c 3 t) κ = aS m c (seq t) (head t) κ := by
  obtain ⟨-, -, -, e, -⟩ := idx_facts t
  unfold ub iblk
  rw [View.read_apply]
  show V m c main_arg1 _ = _
  rw [V_main_arg1]
  show m ((c : Thread nD τ).loc main_arg1) _ = m ((c : Thread nD τ).loc main_arg1) _
  congr 1
  funext a; apply Fin.ext
  match a with
  | ⟨0, _⟩ => show win0_3.index t 0 * 1 + 1 * 0 = t.val / 32; rw [e]; show (t.val / 32) * 1 + 1 * 0 = _; omega
  | ⟨1, _⟩ => show win0_3.index t 1 * 1 + 1 * 0 = t.val / 4 % 8; rw [e]; show (t.val / 4 % 8) * 1 + 1 * 0 = _; omega
  | ⟨2, _⟩ => show win0_3.index t 2 * 16 + 1 * (κ.val / 256) = κ.val / 256; rw [e]; show 0 * 16 + 1 * (κ.val / 256) = _; omega
  | ⟨3, _⟩ => show win0_3.index t 3 * 1 + 1 * 0 = 0; rw [e]; rfl
  | ⟨4, _⟩ => show win0_3.index t 4 * 256 + 1 * (κ.val % 256) = κ.val % 256; rw [e]; show 0 * 256 + 1 * (κ.val % 256) = _; omega

theorem pay55_apply (x : Vec Ideal S1x4096x128 .f32) (κ : Fin 4096) (d : Fin 128) : k0_pay55 x (ix2 κ d) = x (ix3 0 κ d) := by
  unfold k0_pay55
  pointwise

theorem pay56_apply (x : Vec Ideal S1x4096x128 .f32) (κ : Fin 4096) (d : Fin 128) : k0_pay56 x (ix2 κ d) = x (ix3 0 κ d) := by
  unfold k0_pay56
  pointwise

theorem keysA (t : Fin cfg0.N) (κ : Fin 4096) (d : Fin 128) : k0_pay55 (X0_1 m c t) (ix2 κ d) = aP m c 4 (tok (seq t) κ) (chan (head t) d) :=
  (pay55_apply _ κ d).trans (blk_k m c t κ d)
theorem valuesA (t : Fin cfg0.N) (κ : Fin 4096) (d : Fin 128) : k0_pay56 (X0_2 m c t) (ix2 κ d) = aP m c 5 (tok (seq t) κ) (chan (head t) d) :=
  (pay56_apply _ κ d).trans (blk_v m c t κ d)

/-- The scratch buffers hold the keys and the values of the point's head. -/
theorem scratch : ∀ (n : ℕ) (hn : n < cfg0.N), (∀ (κ : Fin 4096) (d : Fin 128),
      (outsAt0 m c n hn).2.1 (ix2 κ d) = aP m c 4 (tok (seq ⟨n, hn⟩) κ) (chan (head ⟨n, hn⟩) d))
    ∧ ∀ (κ : Fin 4096) (d : Fin 128), (outsAt0 m c n hn).2.2 (ix2 κ d) = aP m c 5 (tok (seq ⟨n, hn⟩) κ) (chan (head ⟨n, hn⟩) d) := by
  intro n
  induction n with
  | zero =>
    intro hn
    rw [outsAt0_A m c ⟨0, hn⟩ rfl]
    dsimp only
    rw [sout0_A, sout1_A]
    exact ⟨keysA m c _, valuesA m c _⟩
  | succ n ih =>
    intro hn
    by_cases h0 : (n + 1) % 4 = 0
    · rw [outsAt0_A m c ⟨n + 1, hn⟩ h0]
      dsimp only
      rw [sout0_A, sout1_A]
      exact ⟨keysA m c _, valuesA m c _⟩
    · have hn' : n < cfg0.N := Nat.lt_of_succ_lt hn
      have hs : seq ⟨n + 1, hn⟩ = seq ⟨n, hn'⟩ := Fin.ext (by show (n + 1) / 32 = n / 32; omega)
      have hh : head ⟨n + 1, hn⟩ = head ⟨n, hn'⟩ := Fin.ext (by show (n + 1) / 4 % 8 = n / 4 % 8; omega)
      rw [hs, hh, outsAt0_B m c ⟨n + 1, hn⟩ h0]
      exact ih hn'

section
variable (H : Real (aP m c) (aS m c))

/-- The logits of the body are the layer's. -/
theorem Z_eq (t : Fin cfg0.N) (K : Vec Ideal S4096x128 .bf16) (hK : ∀ κ d, K (ix2 κ d) = aP m c 4 (tok (seq t) κ) (chan (head t) d)) (ρ : Fin 1024) :
    Z (grid0.coords t 2).val (k0_pay57 (X0_0 m c t)) K (iblk m c 3 t) ρ = logit (aP m c) (aS m c) (seq t) (head t) (pos t ρ) := by
  funext κ
  unfold Z logit
  have e : ∑ x, k0_pay57 (X0_0 m c t) (ix2 ρ x) * K (ix2 κ x)
      = ∑ x, aP m c 3 (tok (seq t) (pos t ρ)) (chan (head t) x) * scale * aP m c 4 (tok (seq t) κ) (chan (head t) x) :=
    Finset.sum_congr rfl fun x _ => congrArg₂ _ ((s57 (X0_0 m c t) ρ x).trans (congrArg (· * scale) (blk_q m c t ρ x))) (hK κ x)
  rw [e, blk_s, coord2]
  rfl

include H in
theorem fine (t : Fin cfg0.N) (K : Vec Ideal S4096x128 .bf16) (hK : ∀ κ d, K (ix2 κ d) = aP m c 4 (tok (seq t) κ) (chan (head t) d)) :
    Fine (grid0.coords t) (k0_pay57 (X0_0 m c t)) K (iblk m c 3 t) where
  top ρ κ := by rw [Z_eq m c t K hK]; exact H.logit_top _ _ _ _
  own ρ := by
    rw [Z_eq m c t K hK]
    have e : (⟨1024 * (grid0.coords t 2).val + ρ.val, by have := blk_lt (grid0.coords t); omega⟩ : Fin 4096) = pos t ρ :=
      Fin.ext (by show 1024 * (grid0.coords t 2).val + ρ.val = 1024 * (t.val % 4) + ρ.val; rw [coord2])
    rw [e]
    exact H.logit_own _ _ _

variable (M : Fin 2 → Fin 8 → Fin 4096 → EReal)

/-- Entry (r, q) of the result. -/
def res (r : Fin 8192) (q : Fin 1024) : EReal :=
  let b : Fin 2 := ⟨r.val / 4096, by omega⟩
  let h : Fin 8 := ⟨q.val / 128, by omega⟩
  let ρ : Fin 4096 := ⟨r.val % 4096, by omega⟩
  att (logit (aP m c) (aS m c) b h ρ) (val (aP m c) b h ⟨q.val % 128, by omega⟩) (M b h ρ)

def orow (t : Fin cfg0.N) (r : Fin 1024) : Fin 8192 := ⟨(t.val / 32 * 4 + t.val % 4) * 1024 + r.val, by have := tlt t; omega⟩
def ocol (t : Fin cfg0.N) (q : Fin 128) : Fin 1024 := ⟨(t.val / 4 % 8) * 128 + q.val, by omega⟩

theorem res_at (t : Fin cfg0.N) (r : Fin 1024) (q : Fin 128) : res m c M (orow t r) (ocol t q)
    = att (logit (aP m c) (aS m c) (seq t) (head t) (pos t r)) (val (aP m c) (seq t) (head t) q) (M (seq t) (head t) (pos t r)) := by
  have := tlt t
  have h1 : (⟨(orow t r).val / 4096, by omega⟩ : Fin 2) = seq t := Fin.ext (by show ((t.val / 32 * 4 + t.val % 4) * 1024 + r.val) / 4096 = t.val / 32; omega)
  have h2 : (⟨(ocol t q).val / 128, by omega⟩ : Fin 8) = head t := Fin.ext (by show ((t.val / 4 % 8) * 128 + q.val) / 128 = t.val / 4 % 8; omega)
  have h3 : (⟨(orow t r).val % 4096, by omega⟩ : Fin 4096) = pos t r := Fin.ext (by show ((t.val / 32 * 4 + t.val % 4) * 1024 + r.val) % 4096 = 1024 * (t.val % 4) + r.val; omega)
  have h4 : (⟨(ocol t q).val % 128, by omega⟩ : Fin 128) = q := Fin.ext (by show ((t.val / 4 % 8) * 128 + q.val) % 128 = q.val; omega)
  unfold res
  dsimp only
  rw [h1, h2, h3, h4]

variable (hM : ∀ b h ρ, ∃ x : ℝ, M b h ρ = x)
include H hM

theorem point (t : Fin cfg0.N) (K V : Vec Ideal S4096x128 .bf16) (hK : ∀ κ d, K (ix2 κ d) = aP m c 4 (tok (seq t) κ) (chan (head t) d))
    (hV : ∀ κ d, V (ix2 κ d) = aP m c 5 (tok (seq t) κ) (chan (head t) d)) (r : Fin 1024) (q : Fin 128)
    (hcov : ∃ p ∈ pieces (fin (grid0.coords t) (X0_0 m c t) K V (iblk m c 3 t)), ix2 r q ∈ p.1.set) :
    View.canon (pieces (fin (grid0.coords t) (X0_0 m c t) K V (iblk m c 3 t))) (ix2 r q) = res m c M (orow t r) (ocol t q) := by
  refine (block (grid0.coords t) (X0_0 m c t) K V (iblk m c 3 t) (fine m c H t K hK) (fun ρ => M (seq t) (head t) (pos t ρ)) (fun ρ => hM _ _ _) r q hcov).trans ?_
  rw [res_at, Z_eq m c t K hK]
  congr 1
  funext κ
  exact hV κ q

end
end Cert.Fox
-- ==== Proof.FoxArray.lean ====
/-
  The array the attention call leaves: every block at once.
-/
module

public import proofs.«01_k».proof.Proof.FoxValue

@[expose] public section

set_option maxRecDepth 16384

noncomputable section

namespace Cert.Fox

open Cert.KernelIdeal Cert.KernelIdeal.Gen Cert.KernelIdeal.Value Idealize.ShloMosaic Idealize.ShloMosaic.TcCoe Idealize.SL.Sem

variable (m : (ℓ : Loc nD τ sig) → Buf (Elt Ideal) ℓ) (c : Dev nD)

/-- The four stores cover the block. -/
theorem covered (a : Carry Ideal) (r : Fin 1024) (q : Fin 128) : ∃ p ∈ pieces a, ix2 r q ∈ p.1.set := by
  have hq := q.isLt
  have key : ∀ (o : ℕ) (inb) (hr : o ≤ r.val ∧ r.val < o + 256),
      ix2 r q ∈ (Rect.unit (s := S1024x128) ![o, 0] S256x128.size inb).set := by
    intro o inb hr
    refine Rect.mem_set_unit.2 fun b => ?_
    match b with
    | ⟨0, _⟩ => exact hr
    | ⟨1, _⟩ => exact ⟨Nat.zero_le _, by show q.val < 0 + 128; omega⟩
  unfold pieces
  by_cases h3 : 768 ≤ r.val
  · exact ⟨_, List.mem_cons_self, key 768 inb_S1024x128_S256x128_768_0 (by omega)⟩
  by_cases h2 : 512 ≤ r.val
  · exact ⟨_, List.mem_cons_of_mem _ List.mem_cons_self, key 512 inb_S1024x128_S256x128_512_0 (by omega)⟩
  by_cases h1 : 256 ≤ r.val
  · exact ⟨_, List.mem_cons_of_mem _ (List.mem_cons_of_mem _ List.mem_cons_self), key 256 inb_S1024x128_S256x128_256_0 (by omega)⟩
  · exact ⟨_, List.mem_cons_of_mem _ (List.mem_cons_of_mem _ (List.mem_cons_of_mem _ List.mem_cons_self)), key 0 inb_S1024x128_S256x128_0_0 (by omega)⟩

variable (H : Real (aP m c) (aS m c)) (M : Fin 2 → Fin 8 → Fin 4096 → EReal) (hM : ∀ b h ρ, ∃ x : ℝ, M b h ρ = x)

/-- The kernel's result array. -/
def G : Buf (Elt Ideal) ((c : Thread nD τ).loc main_v0) := fun i => res m c M (i 0) (i 1)

include H hM in
theorem flushed_at (t : Fin cfg0.N) (r : Fin 1024) (q : Fin 128) :
    (dats m 0 c).flushed 4 t (ix2 r q) = res m c M (orow t r) (ocol t q) := by
  by_cases h0 : t.val % 4 = 0
  · rw [flushed4_A m c t h0, out_A]
    exact point m c H M hM t _ _ (keysA m c t) (valuesA m c t) r q (covered _ r q)
  · have ht := tlt t
    have hn' : t.val - 1 < cfg0.N := Nat.lt_of_le_of_lt (Nat.sub_le _ _) t.isLt
    have hs : seq t = seq ⟨t.val - 1, hn'⟩ := Fin.ext (by show t.val / 32 = (t.val - 1) / 32; omega)
    have hh : head t = head ⟨t.val - 1, hn'⟩ := Fin.ext (by show t.val / 4 % 8 = (t.val - 1) / 4 % 8; omega)
    rw [flushed4_B m c t h0, out_B]
    refine point m c H M hM t _ _ ?_ ?_ r q (covered _ r q)
    · rw [hs, hh]; exact (scratch m c (t.val - 1) hn').1
    · rw [hs, hh]; exact (scratch m c (t.val - 1) hn').2

include H hM in
theorem result : (dats m 0 c).arrAt 4 cfg0.N = G m c M := by
  refine (dats m 0 c).arrAt_eq_of_covers 4 _ (by decide +kernel) fun t hf y => ?_
  obtain ⟨-, -, -, -, e⟩ := idx_facts t
  blk_simp
  obtain ⟨r, q, rfl⟩ : ∃ (r : Fin 1024) (q : Fin 128), y = ix2 r q := ⟨y 0, y 1, eq_ix2 y⟩
  have hemb : (win0_4.blk t).view.emb (ix2 r q) = ix2 (orow t r) (ocol t q) := by blk_ext [e, orow, ocol]
  rw [hemb]
  exact flushed_at m c H M hM t r q

end Cert.Fox
-- ==== Proof.FoxRef.lean ====
/-
  The attention's reference at an index: the softmax of the row's logits, averaging the values.
-/
module

public import proofs.«01_k».proof.Proof.FoxSpec
public import proofs.«01_k».proof.Proof.Gen.ReferenceIdeal.Read
public import Idealize.ShloMosaic.Lib.Pointwise
public import Idealize.ShloMosaic.Lib.Affine

@[expose] public section

set_option maxRecDepth 16384

noncomputable section

namespace Cert.Fox

open Cert.ReferenceIdeal Cert.ReferenceIdeal.Read Idealize.ShloMosaic Idealize.ShloMosaic.TcCoe Idealize.SL.Sem

variable (x0 : (⟨S10x8448x1024, .f32⟩ : BufTy).Contents (Elt Ideal)) (x1 : (⟨S2x8x16x1x256, .f32⟩ : BufTy).Contents (Elt Ideal))

/-- The projections, and the decays by key. -/
def rP (a : Fin 10) (r : Fin 8448) (k : Fin 1024) : EReal := x0 (ix3 a r k)
def rS (b : Fin 2) (h : Fin 8) (κ : Fin 4096) : EReal := x1 (ix5 b h ⟨κ.val / 256, by omega⟩ 0 ⟨κ.val % 256, by omega⟩)

theorem row_nat (b : Fin 2) (ρ : Fin 4096) (h : Fin 8) (x : Fin 128) :
    ((((b.val * 4096 + ρ.val) * 8 + h.val) * 128 + x.val) / 1024 * 1024 + (((b.val * 4096 + ρ.val) * 8 + h.val) * 128 + x.val) % 1024) / 1024 % 8192
      = 4096 * b.val + ρ.val := by omega
theorem col_nat (b : Fin 2) (ρ : Fin 4096) (h : Fin 8) (x : Fin 128) :
    ((((b.val * 4096 + ρ.val) * 8 + h.val) * 128 + x.val) / 1024 * 1024 + (((b.val * 4096 + ρ.val) * 8 + h.val) * 128 + x.val) % 1024) % 1024
      = 128 * h.val + x.val := by omega

/-- The queries by sequence, position, head and channel. -/
theorem rq (b : Fin 2) (ρ : Fin 4096) (h : Fin 8) (x : Fin 128) : val_main_v2 (F := Ideal) x0 (ix4 b ρ h x) = rP x0 3 (tok b ρ) (chan h x) := by
  rw [val_main_v2_apply, val_main_v1_apply, val_main_v0_apply]
  unfold rP
  congr 1
  funext a; apply Fin.ext
  match a with
  | ⟨0, _⟩ => rfl
  | ⟨1, _⟩ => exact row_nat b ρ h x
  | ⟨2, _⟩ => exact col_nat b ρ h x

/-- The keys by sequence, position, head and channel. -/
theorem rk (b : Fin 2) (ρ : Fin 4096) (h : Fin 8) (x : Fin 128) : val_main_v5 (F := Ideal) x0 (ix4 b ρ h x) = rP x0 4 (tok b ρ) (chan h x) := by
  rw [val_main_v5_apply, val_main_v4_apply, val_main_v3_apply]
  unfold rP
  congr 1
  funext a; apply Fin.ext
  match a with
  | ⟨0, _⟩ => rfl
  | ⟨1, _⟩ => exact row_nat b ρ h x
  | ⟨2, _⟩ => exact col_nat b ρ h x

/-- The values by sequence, position, head and channel. -/
theorem rv (b : Fin 2) (ρ : Fin 4096) (h : Fin 8) (x : Fin 128) : val_main_v8 (F := Ideal) x0 (ix4 b ρ h x) = rP x0 5 (tok b ρ) (chan h x) := by
  rw [val_main_v8_apply, val_main_v7_apply, val_main_v6_apply]
  unfold rP
  congr 1
  funext a; apply Fin.ext
  match a with
  | ⟨0, _⟩ => rfl
  | ⟨1, _⟩ => exact row_nat b ρ h x
  | ⟨2, _⟩ => exact col_nat b ρ h x

theorem rs (b : Fin 2) (h : Fin 8) (κ : Fin 4096) : val_main_v9 (F := Ideal) x1 (ix3 b h κ) = rS x1 b h κ := by
  rw [val_main_v9_apply]
  unfold rS
  congr 1
  funext a; apply Fin.ext
  match a with
  | ⟨0, _⟩ => show ((b.val * 8 + h.val) * 4096 + κ.val) / 32768 = b.val; omega
  | ⟨1, _⟩ => show ((b.val * 8 + h.val) * 4096 + κ.val) / 4096 % 8 = h.val; omega
  | ⟨2, _⟩ => show ((b.val * 8 + h.val) * 4096 + κ.val) / 256 % 16 = κ.val / 256; omega
  | ⟨3, _⟩ => rfl
  | ⟨4, _⟩ => show ((b.val * 8 + h.val) * 4096 + κ.val) % 256 = κ.val % 256; omega

/-- The products of a query with a key, scaled after the sum, are those of the scaled query. -/
theorem rdot (b : Fin 2) (h : Fin 8) (ρ κ : Fin 4096) : val_main_v13 (F := Ideal) x0 (ix4 b h ρ κ)
    = ∑ x, rP x0 3 (tok b ρ) (chan h x) * scale * rP x0 4 (tok b κ) (chan h x) := by
  rw [val_main_v13_apply, val_main_v11_apply, val_main_v12_apply]
  have e : ∀ k : Fin 128, val_main_v2 (F := Ideal) x0 (lidx_main_v11 (ix4 b h ρ κ) k) * val_main_v5 (F := Ideal) x0 (ridx_main_v11 (ix4 b h ρ κ) k)
      = rP x0 3 (tok b ρ) (chan h k) * rP x0 4 (tok b κ) (chan h k) := fun k => by
    refine congrArg₂ (· * ·) ((congrArg _ ?_).trans (rq x0 b ρ h k)) ((congrArg _ ?_).trans (rk x0 b κ h k)) <;>
    · funext a; apply Fin.ext
      match a with
      | ⟨0, _⟩ => rfl
      | ⟨1, _⟩ => rfl
      | ⟨2, _⟩ => rfl
      | ⟨3, _⟩ => rfl
  rw [Finset.sum_congr rfl fun k _ => e k]
  obtain ⟨c, h0, hc⟩ := scale_real
  show (∑ k : Fin 128, _) * scale = _
  rw [mul_comm, hc, mul_sum_real c h0]
  refine Finset.sum_congr rfl fun k _ => ?_
  rw [mul_comm (rP x0 3 _ _) (c : EReal), mul_assoc]

/-- The mask: key `κ` is not after `ρ`. -/
theorem rmask (b : Fin 2) (h : Fin 8) (ρ κ : Fin 4096) : val_main_call0_v1 (F := Ideal) (ix4 b h ρ κ) = BitVec.ofBool (decide (κ ≤ ρ)) := by
  have e : val_main_call0_v1 (F := Ideal) (ix4 b h ρ κ) = IntOp.cmpi .sle (BitVec.ofNat 32 κ.val) (BitVec.ofNat 32 ρ.val) := by
    rw [val_main_call0_v1_apply, val_main_v21_apply, val_main_v19_apply, val_main_v20_apply, val_main_v17_apply, val_main_v18_apply]
    rfl
  rw [e]
  have hp : ∀ n : Fin 4096, (BitVec.ofNat 32 n.val).toInt = n.val := fun n => by
    rw [BitVec.toInt_eq_toNat_of_lt (by rw [BitVec.toNat_ofNat]; omega), BitVec.toNat_ofNat, Nat.mod_eq_of_lt (by omega)]
  by_cases hk : κ ≤ ρ
  · rw [decide_eq_true hk]
    exact IntOp.cmpi_sle.2 (by rw [hp, hp]; exact_mod_cast hk)
  · rw [decide_eq_false hk]
    have h1 : ¬ IntOp.cmpi .sle (BitVec.ofNat 32 κ.val) (BitVec.ofNat 32 ρ.val) = 1#1 := fun h => hk (by
      have := IntOp.cmpi_sle.1 h
      rw [hp, hp] at this
      exact_mod_cast this)
    generalize IntOp.cmpi .sle (BitVec.ofNat 32 κ.val) (BitVec.ofNat 32 ρ.val) = w at h1
    revert w; decide

theorem rlogit (b : Fin 2) (h : Fin 8) (ρ κ : Fin 4096) : val_main_v22 (F := Ideal) x0 x1 (ix4 b h ρ κ) = logit (rP x0) (rS x1) b h ρ κ := by
  rw [val_main_v22_apply, rmask, val_main_v16_apply, rdot, val_main_v15_apply, val_main_v14_apply, val_main_call0_v2_apply]
  unfold logit
  by_cases hk : κ ≤ ρ
  · rw [decide_eq_true hk, if_pos hk]
    show _ + _ = _
    refine congrArg (_ + ·) ((congrArg _ ?_).trans (rs x1 b h κ))
    funext a; apply Fin.ext
    match a with
    | ⟨0, _⟩ => rfl
    | ⟨1, _⟩ => rfl
    | ⟨2, _⟩ => rfl
  · rw [decide_eq_false hk, if_neg hk]
    exact negInf_eq

/-- The largest logit of a row, as the reference subtracts it. -/
def rmax (b : Fin 2) (h : Fin 8) (ρ : Fin 4096) : EReal := val_main_v25 (F := Ideal) x0 x1 (ix3 b h ρ)

theorem rmax_real (H : Real (rP x0) (rS x1)) (b : Fin 2) (h : Fin 8) (ρ : Fin 4096) : ∃ r : ℝ, rmax x0 x1 b h ρ = r := by
  have e : rmax x0 x1 b h ρ = max negInf (Finset.univ.fold max negInf fun κ => logit (rP x0) (rS x1) b h ρ κ) := by
    unfold rmax
    rw [val_main_v25_apply, val_main_v24_apply]
    refine congrArg (max negInf) ?_
    unfold val_main_v23
    have hl := fun κ => rlogit x0 x1 b h ρ κ
    generalize val_main_v22 (F := Ideal) x0 x1 = y at hl
    pointwise
    simp only [hl]
    rfl
  rw [e, negInf_eq, bot_sup_eq, ← negInf_eq]
  exact real_of_ne (fold_ne_top _ fun κ => H.logit_top b h ρ κ) (fold_ne_bot _ ⟨ρ, H.logit_own b h ρ⟩)

theorem rexp (b : Fin 2) (h : Fin 8) (ρ κ : Fin 4096) : val_main_v29 (F := Ideal) x0 x1 (ix4 b h ρ κ)
    = Ideal.exp (logit (rP x0) (rS x1) b h ρ κ - rmax x0 x1 b h ρ) := by
  rw [val_main_v29_apply, val_main_v28_apply, rlogit, val_main_v27_apply, val_main_v26_apply]
  show Ideal.exp (_ - _) = _
  unfold rmax
  congr 3
  funext a; apply Fin.ext
  match a with
  | ⟨0, _⟩ => rfl
  | ⟨1, _⟩ => rfl
  | ⟨2, _⟩ => rfl

theorem rweight (b : Fin 2) (h : Fin 8) (ρ κ : Fin 4096) : val_main_v33 (F := Ideal) x0 x1 (ix4 b h ρ κ)
    = Ideal.div (Ideal.exp (logit (rP x0) (rS x1) b h ρ κ - rmax x0 x1 b h ρ))
        (∑ k, Ideal.exp (logit (rP x0) (rS x1) b h ρ k - rmax x0 x1 b h ρ)) := by
  rw [val_main_v33_apply, rexp, val_main_v32_apply, val_main_v31_apply, val_main_v30_apply]
  refine congrArg (Ideal.div _) ?_
  have z : ∀ i, val_main_cst_3 (F := Ideal) i = 0 := fun _ => Ideal.ofBits_zero .f32
  rw [z, zero_add]
  refine Finset.sum_congr rfl fun k _ => (congrArg _ ?_).trans (rexp x0 x1 b h ρ k)
  funext a; apply Fin.ext
  match a with
  | ⟨0, _⟩ => rfl
  | ⟨1, _⟩ => rfl
  | ⟨2, _⟩ => rfl
  | ⟨3, _⟩ => rfl

/-- The reference's result. -/
theorem ref_apply (r : Fin 8192) (q : Fin 1024) : val_main_v36 (F := Ideal) x0 x1 (ix2 r q)
    = att (logit (rP x0) (rS x1) ⟨r.val / 4096, by omega⟩ ⟨q.val / 128, by omega⟩ ⟨r.val % 4096, by omega⟩)
        (val (rP x0) ⟨r.val / 4096, by omega⟩ ⟨q.val / 128, by omega⟩ ⟨q.val % 128, by omega⟩)
        (rmax x0 x1 ⟨r.val / 4096, by omega⟩ ⟨q.val / 128, by omega⟩ ⟨r.val % 4096, by omega⟩) := by
  rw [val_main_v36_apply, val_main_v35_apply, val_main_v34_apply]
  unfold att
  refine Finset.sum_congr rfl fun κ _ => ?_
  rw [mul_comm]
  refine congrArg₂ (· * ·) ((congrArg _ ?_).trans (rweight x0 x1 _ _ _ κ)) ((congrArg _ ?_).trans (rv x0 _ κ _ _))
  · funext a; apply Fin.ext
    match a with
    | ⟨0, _⟩ => show (r.val * 1024 + q.val) / 4194304 = r.val / 4096; omega
    | ⟨1, _⟩ => show (r.val * 1024 + q.val) / 128 % 8 = q.val / 128; omega
    | ⟨2, _⟩ => show (r.val * 1024 + q.val) / 1024 % 4096 = r.val % 4096; omega
    | ⟨3, _⟩ => rfl
  · funext a; apply Fin.ext
    match a with
    | ⟨0, _⟩ => show (r.val * 1024 + q.val) / 4194304 = r.val / 4096; omega
    | ⟨1, _⟩ => rfl
    | ⟨2, _⟩ => show (r.val * 1024 + q.val) / 128 % 8 = q.val / 128; omega
    | ⟨3, _⟩ => show (r.val * 1024 + q.val) % 128 = q.val % 128; omega

end Cert.Fox
-- ==== Proof.FoxClaim.lean ====
/-
  The attention call: its frames, and that it ends with the array of its reference when queries, keys and decays are finite.
-/
module

public import proofs.«01_k».proof.Defs
public import proofs.«01_k».proof.Proof.FoxArray
public import proofs.«01_k».proof.Proof.FoxRef
public import proofs.«01_k».proof.Proof.Gen.Kernel.Frame
public import proofs.«01_k».proof.Proof.Gen.ReferenceIdeal.Run
public import proofs.«01_k».proof.Proof.Gen.Pre_logits_finite
public import Idealize.ShloMosaic.Lib.Quiescent
public import Idealize.ShloMosaic.Lib.ReduceAll

@[expose] public section

set_option maxRecDepth 16384

noncomputable section

namespace Cert.Fox

open Idealize.ShloMosaic Idealize.ShloMosaic.TcCoe Idealize.SL.Sem

theorem frame_kernel : Cert.quiescent_Kernel := fun m ρ _ => Cert.Kernel.Gen.frame m ρ

theorem frame_kernel_ideal : Cert.quiescent_KernelIdeal := fun m ρ _ => Cert.KernelIdeal.Gen.frame m ρ

theorem frame_kernel_pre : Cert.quiescent_KernelIdeal_pre_logits_finite := fun m ρ _ => Cert.KernelIdeal.Gen.frame m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

theorem frame_reference_pre : Cert.quiescent_ReferenceIdeal_pre_logits_finite := fun m ρ _ => frame_reference m ρ trivial

/-- A number whose absolute value is below infinity is real. -/
theorem real_of_abs (x : EReal) (h : Ideal.cmp .olt (max x (-x)) (Ideal.ofBits .f32 0x7F800000#32) = 1#1) : ∃ r : ℝ, x = r := by
  have hi : Ideal.ofBits .f32 0x7F800000#32 = (⊤ : EReal) := by
    unfold Ideal.ofBits
    simp [Ideal.ieee]
  rw [hi] at h
  have hx : max x (-x) < ⊤ := by
    by_contra hn
    unfold Ideal.cmp at h
    dsimp only at h
    rw [decide_eq_false hn] at h
    revert h; decide
  refine real_of_ne (fun e => ?_) (fun e => ?_)
  · rw [e] at hx; simp at hx
  · rw [e] at hx; simp at hx

/-- The precondition: queries, keys and decays are real. -/
theorem real_of_fn (x0 : Vec Ideal Cert.Pre_logits_finite.S10x8448x1024 .f32) (x1 : Vec Ideal Cert.Pre_logits_finite.S2x8x16x1x256 .f32)
    (h : Cert.Pre_logits_finite.fn (F := Ideal) x0 x1 = fun _ => 1#1) :
    (∀ (r : Fin 8192) (k : Fin 1024), ∃ y : ℝ, x0 (ix3 (3 : Fin 10) (⟨r.val, by omega⟩ : Fin 8448) k) = y)
    ∧ (∀ (r : Fin 8192) (k : Fin 1024), ∃ y : ℝ, x0 (ix3 (4 : Fin 10) (⟨r.val, by omega⟩ : Fin 8448) k) = y)
    ∧ ∀ i, ∃ y : ℝ, x1 i = y := by
  have h := congrFun h (Shape.Idx.first Cert.Pre_logits_finite.Facts.h_S_)
  unfold Cert.Pre_logits_finite.fn at h
  dsimp only at h
  obtain ⟨h12, h3⟩ := IntOp.andi_eq_one.1 h
  obtain ⟨h1, h2⟩ := IntOp.andi_eq_one.1 h12
  have : Subsingleton Cert.Pre_logits_finite.S_.Idx := ⟨fun a b => funext fun i => i.elim0⟩
  refine ⟨fun r k => ?_, fun r k => ?_, fun i => real_of_abs _ (Host.reduce_andi_all _ _ _ _ _ h3 i)⟩
  · have := Host.reduce_andi_all _ _ _ _ _ h1 (ix2 r k)
    refine real_of_abs _ ?_
    rw [← this]
    clear this h h12 h1 h2 h3
    pointwise
    rfl
  · have := Host.reduce_andi_all _ _ _ _ _ h2 (ix2 r k)
    refine real_of_abs _ ?_
    rw [← this]
    clear this h h12 h1 h2 h3
    pointwise
    rfl

theorem real_of_pre (m : (ℓ : Loc Cert.KernelIdeal.nD Cert.KernelIdeal.τ Cert.KernelIdeal.sig) → Buf (Elt Ideal) ℓ)
    (h : Cert.Pre_KernelIdeal_logits_finite m) (c : Dev Cert.KernelIdeal.nD) : Real (aP m c) (aS m c) := by
  obtain ⟨hq, hk, hs⟩ := real_of_fn _ _ (h c)
  exact ⟨fun b ρ h x => hq ⟨4096 * b.val + ρ.val, by omega⟩ (chan h x), fun b ρ h x => hk ⟨4096 * b.val + ρ.val, by omega⟩ (chan h x), fun b h κ => hs _⟩

/-- The reference's array, with the row maxima it subtracts itself. -/
theorem ref_res (m : (ℓ : Loc Cert.KernelIdeal.nD Cert.KernelIdeal.τ Cert.KernelIdeal.sig) → Buf (Elt Ideal) ℓ) (c : Dev Cert.KernelIdeal.nD)
    (x0 : (⟨Cert.ReferenceIdeal.S10x8448x1024, .f32⟩ : BufTy).Contents (Elt Ideal)) (x1 : (⟨Cert.ReferenceIdeal.S2x8x16x1x256, .f32⟩ : BufTy).Contents (Elt Ideal))
    (h0 : rP x0 = aP m c) (h1 : rS x1 = aS m c) :
    Cert.ReferenceIdeal.Read.val_main_v36 (F := Ideal) x0 x1 = G m c (rmax x0 x1) := by
  have e : ∀ (r : Fin 8192) (q : Fin 1024), Cert.ReferenceIdeal.Read.val_main_v36 (F := Ideal) x0 x1 (ix2 r q) = res m c (rmax x0 x1) r q := fun r q => by
    rw [ref_apply, h0, h1]
    rfl
  funext i
  rw [eq_ix2 i]
  exact e (i 0) (i 1)

/-- Kernel and reference end with the same array. -/
theorem algebraic : Cert.algebraic_KernelIdeal_ReferenceIdeal_pre_logits_finite := by
  intro m ρ m' ρ' hpre hagree
  have H := fun c => real_of_pre m hpre c
  let M := fun c : Dev Cert.KernelIdeal.nD => rmax (m ((c.tc : Thread Cert.KernelIdeal.nD Cert.KernelIdeal.τ).loc Cert.KernelIdeal.main_arg0)) (m ((c.tc : Thread Cert.KernelIdeal.nD Cert.KernelIdeal.τ).loc Cert.KernelIdeal.main_arg1))
  refine ⟨fun c => G m c (M c), (θ_run Cert.KernelIdeal.defs _ _).mono
    (fun r h c => ⟨(h c).1.trans (result m c (H c) (M c) (rmax_real _ _ (H c))), (h c).2⟩) (Cert.KernelIdeal.Value.run_blocks m ρ), ?_⟩
  refine (θ_run Cert.ReferenceIdeal.defs _ _).mono (fun r h c => ⟨?_, (h c).2⟩) (Cert.ReferenceIdeal.Value.run m' ρ')
  obtain ⟨e0, e1⟩ := hagree c
  rw [(h c).1]
  rw [Cert.ReferenceIdeal.Read.val_main_v36_eq, e0, e1]
  exact ref_res m c _ _ rfl rfl

end Cert.Fox
-- ==== Proof.ProjSpec.lean ====
/-
  The projections, written out: root-mean-square normalised rows times the columns of the input weight, ten groups of
  1024 columns (queries and keys normalised per head, values as they are, gates through the logistic function) and eight
  columns of log forget gates.
-/
module

public import Idealize.ShloMosaic.Lib.Pointwise

@[expose] public section

noncomputable section

namespace Cert.Proj

open Idealize.ShloMosaic

/-- Channel `d` of head `a`. -/
def chan (a : Fin 8) (d : Fin 128) : Fin 1024 := ⟨a.val * 128 + d.val, by omega⟩
/-- The head of a channel. -/
def headOf (q : Fin 1024) : Fin 8 := ⟨q.val / 128, by omega⟩
/-- The channel within its head. -/
def within (q : Fin 1024) : Fin 128 := ⟨q.val % 128, by omega⟩

/-- Column `q` of group `j` in the input weight: the eight forget columns lie behind the sixth group. -/
def col (j : Fin 10) (q : Fin 1024) : Fin 10248 := ⟨j.val * 1024 + q.val + if j.val < 6 then 0 else 8, by split <;> omega⟩
/-- Forget column `a`. -/
def fcol (a : Fin 8) : Fin 10248 := ⟨6144 + a.val, by omega⟩

/-- A row `y` of products, normalised per head with gains `g`. -/
def headNorm (y : Fin 1024 → EReal) (g : Fin 128 → EReal) (q : Fin 1024) : EReal :=
  y q * Ideal.rsqrt (Ideal.div (∑ d : Fin 128, y (chan (headOf q) d) * y (chan (headOf q) d)) (Ideal.ofBits .f32 0x43000000#32)
    + Ideal.ofBits .f32 0x358637BD#32) * g (within q)

section Spec
variable (X : Fin 8448 → Fin 2048 → EReal) (g : Fin 2048 → EReal) (W : Fin 2048 → Fin 10248 → EReal) (b : Fin 8 → EReal)
  (g0 g1 g3 g4 : Fin 128 → EReal)

/-- One over the root mean square of row `r`. -/
def rowScale (r : Fin 8448) : EReal :=
  Ideal.rsqrt (Ideal.div (∑ k, X r k * X r k) (Ideal.ofBits .f32 0x45000000#32) + Ideal.ofBits .f32 0x358637BD#32)

/-- The normalised row. -/
def normed (r : Fin 8448) (k : Fin 2048) : EReal := X r k * rowScale X r * g k

/-- Row `r` of the products. -/
def prod (r : Fin 8448) (n : Fin 10248) : EReal := ∑ k, normed X g r k * W k n

/-- The gains of a group that is normalised per head. -/
def gain (j : Fin 10) (d : Fin 128) : EReal :=
  if j.val = 0 then g0 d else if j.val = 1 then g1 d else if j.val = 3 then g3 d else g4 d

/-- Group `j`, row `r`, channel `q` of the first result. -/
def group (j : Fin 10) (r : Fin 8448) (q : Fin 1024) : EReal :=
  if 6 ≤ j.val then Ideal.logistic (prod X g W r (col j q))
  else if j.val = 2 ∨ j.val = 5 then prod X g W r (col j q)
  else headNorm (fun q => prod X g W r (col j q)) (gain g0 g1 g3 g4 j) q

/-- The logarithm of the logistic function. -/
def logSigmoid (x : EReal) : EReal := min x 0 - Ideal.log1p (Ideal.exp (0 - max x (-x)))

/-- The log forget gate of row `r` and head `a`. -/
def logf (r : Fin 8448) (a : Fin 8) : EReal := logSigmoid (prod X g W r (fcol a) + b a)

end Spec

theorem exp_neg_abs (x : EReal) : ∃ e : ℝ, 0 ≤ e ∧ Ideal.exp (-max x (-x)) = (e : EReal) := by
  induction x with
  | bot => exact ⟨0, le_refl _, by rw [show -max (⊥ : EReal) (-⊥) = ⊥ by simp]; rfl⟩
  | top => exact ⟨0, le_refl _, by rw [show -max (⊤ : EReal) (-⊤) = ⊥ by simp]; rfl⟩
  | coe r =>
    refine ⟨Real.exp (-max r (-r)), (Real.exp_pos _).le, ?_⟩
    rw [← EReal.coe_neg, ← EReal.coe_strictMono.monotone.map_max, ← EReal.coe_neg]
    rfl

theorem log1p_real (x : EReal) : ∃ l : ℝ, Ideal.log1p (Ideal.exp (-max x (-x))) = (l : EReal) := by
  obtain ⟨e, he, h⟩ := exp_neg_abs x
  refine ⟨Real.log (1 + e), ?_⟩
  rw [h]
  unfold Ideal.log1p
  rw [← EReal.coe_one, ← EReal.coe_add]
  show (if (1 + e : ℝ) ≤ 0 then (⊥ : EReal) else (Real.log (1 + e) : EReal)) = _
  rw [if_neg (by linarith)]

/-- The logarithm of the logistic function, by way of the softplus of the opposite. -/
theorem logSigmoid_eq (x : EReal) :
    -(max (-x) 0 + Ideal.log1p (Ideal.exp (-max (-x) x))) = logSigmoid x := by
  unfold logSigmoid
  rw [zero_sub, max_comm (-x) x]
  obtain ⟨l, hl⟩ := log1p_real x
  rw [hl, EReal.neg_add (.inr (EReal.coe_ne_top l)) (.inr (EReal.coe_ne_bot l))]
  congr 1
  rcases le_total x 0 with h | h
  · rw [max_eq_left (by simpa using h), min_eq_left h, neg_neg]
  · rw [max_eq_right (by simpa using h), min_eq_right h, neg_zero]

end Cert.Proj
-- ==== Proof.ProjRunIdeal.lean ====
/- The runs of the projection kernel's body, one for each way its conditions can fall: the first
   group of a row block, the other query and key groups, the value groups and the gate groups. Each
   says what the body's stores leave in the buffers it writes, as a list of stored pieces. -/
module

public import proofs.«01_k».proof.Proof.Gen.Kernel3Ideal.Frame
public import proofs.«01_k».proof.Proof.Gen.Kernel3Ideal.Skeleton

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 2000000 in
/-- The first group of a row block: the normalised rows and the forget gate are computed too. -/
def runA (c : Dev nD) (i : grid0.Coords) (arg2 : Memref sig .tc .vmem S768x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S1x128 .f32) (harg6 : arg6.IsWhole) (arg7 : Memref sig .tc .vmem S1x1x1024 .f32) (harg7 : arg7.IsWhole) (arg8 : Memref sig .tc .vmem S1x768x1024 .f32) (harg8 : arg8.IsWhole) (arg9 : Memref sig .tc .vmem S768x128 .f32) (harg9 : arg9.IsWhole) (arg10 : Memref sig .tc .vmem S768x2048 .bf16) (harg10 : arg10.IsWhole) (hc1 : k0_cond1 i = 1#1) (hc2 : k0_cond2 i = 1#1) (hc3 : ¬k0_cond3 i = 1#1) (hc4 : ¬k0_cond4 i = 1#1)
    (x0 : Vec F S768x2048 .f32) (x1 : Vec F S1x2048 .f32) (x2 : Vec F S2048x1024 .bf16) (x3 : Vec F S2048x128 .bf16) (x4 : Vec F S1x128 .f32) (x5 : Vec F S1x1x1024 .f32)  :
    Σ' (L6 : List (View.Piece (Elt F) S1x768x1024 .f32)) (L7 : List (View.Piece (Elt F) S768x128 .f32)), { LS : List (View.Piece (Elt F) S768x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS)) -∗ K ⟨⟩))
          ⊢ wp frame (wpE (defs₀ (F := F)) Variants.none c none) E (cc0_proj i arg2 harg2 arg3 harg3 arg4 harg4 arg5 harg5 arg6 harg6 arg7 harg7 arg8 harg8 arg9 harg9 arg10 harg10) K } := by
  refine ⟨?_, ?_, ?_, fun E K => ?run⟩
  case run =>
    simp only [cc0_proj_eq_skeleton]; unfold cc0_proj_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexists _; iexact HS

set_option maxHeartbeats 2000000 in
/-- A later query or key group. -/
def runB (c : Dev nD) (i : grid0.Coords) (arg2 : Memref sig .tc .vmem S768x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S1x128 .f32) (harg6 : arg6.IsWhole) (arg7 : Memref sig .tc .vmem S1x1x1024 .f32) (harg7 : arg7.IsWhole) (arg8 : Memref sig .tc .vmem S1x768x1024 .f32) (harg8 : arg8.IsWhole) (arg9 : Memref sig .tc .vmem S768x128 .f32) (harg9 : arg9.IsWhole) (arg10 : Memref sig .tc .vmem S768x2048 .bf16) (harg10 : arg10.IsWhole) (hc1 : ¬k0_cond1 i = 1#1) (hc2 : k0_cond2 i = 1#1) (hc3 : ¬k0_cond3 i = 1#1) (hc4 : ¬k0_cond4 i = 1#1)
    (x0 : Vec F S768x2048 .f32) (x1 : Vec F S1x2048 .f32) (x2 : Vec F S2048x1024 .bf16) (x3 : Vec F S2048x128 .bf16) (x4 : Vec F S1x128 .f32) (x5 : Vec F S1x1x1024 .f32) (xs : Vec F S768x2048 .bf16) :
    { L6 : List (View.Piece (Elt F) S1x768x1024 .f32) //
      ∀ (xi : Vec F S768x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xi ∗ owns (c : Thread nD τ) arg10 fullShare xs) -∗ K ⟨⟩))
          ⊢ wp frame (wpE (defs₀ (F := F)) Variants.none c none) E (cc0_proj i arg2 harg2 arg3 harg3 arg4 harg4 arg5 harg5 arg6 harg6 arg7 harg7 arg8 harg8 arg9 harg9 arg10 harg10) K } := by
  refine ⟨?_, fun xi E K => ?run⟩
  case run =>
    simp only [cc0_proj_eq_skeleton]; unfold cc0_proj_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hfs
    sl_exec (disch := first | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    iexists _; isplitr; · ipureintro; exact harg10.read_unread _
    iexact HS

set_option maxHeartbeats 2000000 in
/-- A value group. -/
def runC (c : Dev nD) (i : grid0.Coords) (arg2 : Memref sig .tc .vmem S768x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S1x128 .f32) (harg6 : arg6.IsWhole) (arg7 : Memref sig .tc .vmem S1x1x1024 .f32) (harg7 : arg7.IsWhole) (arg8 : Memref sig .tc .vmem S1x768x1024 .f32) (harg8 : arg8.IsWhole) (arg9 : Memref sig .tc .vmem S768x128 .f32) (harg9 : arg9.IsWhole) (arg10 : Memref sig .tc .vmem S768x2048 .bf16) (harg10 : arg10.IsWhole) (hc1 : ¬k0_cond1 i = 1#1) (hc2 : ¬k0_cond2 i = 1#1) (hc3 : k0_cond3 i = 1#1) (hc4 : ¬k0_cond4 i = 1#1)
    (x0 : Vec F S768x2048 .f32) (x1 : Vec F S1x2048 .f32) (x2 : Vec F S2048x1024 .bf16) (x3 : Vec F S2048x128 .bf16) (x4 : Vec F S1x128 .f32) (x5 : Vec F S1x1x1024 .f32) (xs : Vec F S768x2048 .bf16) :
    { L6 : List (View.Piece (Elt F) S1x768x1024 .f32) //
      ∀ (xi : Vec F S768x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xi ∗ owns (c : Thread nD τ) arg10 fullShare xs) -∗ K ⟨⟩))
          ⊢ wp frame (wpE (defs₀ (F := F)) Variants.none c none) E (cc0_proj i arg2 harg2 arg3 harg3 arg4 harg4 arg5 harg5 arg6 harg6 arg7 harg7 arg8 harg8 arg9 harg9 arg10 harg10) K } := by
  refine ⟨?_, fun xi E K => ?run⟩
  case run =>
    simp only [cc0_proj_eq_skeleton]; unfold cc0_proj_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hfs
    sl_exec (disch := first | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    iexists _; isplitr; · ipureintro; exact harg10.read_unread _
    iexact HS

set_option maxHeartbeats 2000000 in
/-- A gate group. -/
def runD (c : Dev nD) (i : grid0.Coords) (arg2 : Memref sig .tc .vmem S768x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S1x128 .f32) (harg6 : arg6.IsWhole) (arg7 : Memref sig .tc .vmem S1x1x1024 .f32) (harg7 : arg7.IsWhole) (arg8 : Memref sig .tc .vmem S1x768x1024 .f32) (harg8 : arg8.IsWhole) (arg9 : Memref sig .tc .vmem S768x128 .f32) (harg9 : arg9.IsWhole) (arg10 : Memref sig .tc .vmem S768x2048 .bf16) (harg10 : arg10.IsWhole) (hc1 : ¬k0_cond1 i = 1#1) (hc2 : ¬k0_cond2 i = 1#1) (hc3 : ¬k0_cond3 i = 1#1) (hc4 : k0_cond4 i = 1#1)
    (x0 : Vec F S768x2048 .f32) (x1 : Vec F S1x2048 .f32) (x2 : Vec F S2048x1024 .bf16) (x3 : Vec F S2048x128 .bf16) (x4 : Vec F S1x128 .f32) (x5 : Vec F S1x1x1024 .f32) (xs : Vec F S768x2048 .bf16) :
    { L6 : List (View.Piece (Elt F) S1x768x1024 .f32) //
      ∀ (xi : Vec F S768x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xi ∗ owns (c : Thread nD τ) arg10 fullShare xs) -∗ K ⟨⟩))
          ⊢ wp frame (wpE (defs₀ (F := F)) Variants.none c none) E (cc0_proj i arg2 harg2 arg3 harg3 arg4 harg4 arg5 harg5 arg6 harg6 arg7 harg7 arg8 harg8 arg9 harg9 arg10 harg10) K } := by
  refine ⟨?_, fun xi E K => ?run⟩
  case run =>
    simp only [cc0_proj_eq_skeleton]; unfold cc0_proj_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hfs
    sl_exec (disch := first | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    iexists _; isplitr; · ipureintro; exact harg10.read_unread _
    iexact HS

end Cert.Kernel3Ideal.Hand

end
-- ==== Proof.ProjCasesIdeal.lean ====
/- What each run of the projection kernel's body leaves, in closed form: the normalised rows, the
   log forget gates, and the block of the group's projections. -/
module

public import proofs.«01_k».proof.Proof.ProjRunIdeal
public import Idealize.ShloMosaic.Lib.Pipeline.ValueKit

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl
theorem hz3 : (![0, 0, 0] : Fin 3 → Nat) = fun _ => 0 := funext fun a => by fin_cases a <;> rfl

/-- The stores of a query or key group, the last head first. -/
def heads (v3 : Vec F S768x2048 .bf16) (v4 : Vec F S2048x1024 .bf16) (x5 : Vec F S1x1x1024 .f32) : List (View.Piece (Elt F) S1x768x1024 .f32) :=
  [ ⟨Rect.unit (s := S1x768x1024) ![0, 0, 896] S1x768x128.size inb_S1x768x1024_S1x768x128_0_0_896, k0_pay6 v3 v4 (View.ld x5 (Rect.unit (s := S1x1x1024) ![0, 0, 896] S1x1x128.size inb_S1x1x1024_S1x1x128_0_0_896))⟩,
    ⟨Rect.unit (s := S1x768x1024) ![0, 0, 768] S1x768x128.size inb_S1x768x1024_S1x768x128_0_0_768, k0_pay5 (k0_pay19 (k0_pay4 v3 v4)) (k0_pay20 (View.ld x5 (Rect.unit (s := S1x1x1024) ![0, 0, 768] S1x1x128.size inb_S1x1x1024_S1x1x128_0_0_768))) (k0_pay21 (k0_pay4 v3 v4)) (k0_pay22 (F := F))⟩,
    ⟨Rect.unit (s := S1x768x1024) ![0, 0, 640] S1x768x128.size inb_S1x768x1024_S1x768x128_0_0_640, k0_pay18 (k0_pay4 v3 v4) (View.ld x5 (Rect.unit (s := S1x1x1024) ![0, 0, 640] S1x1x128.size inb_S1x1x1024_S1x1x128_0_0_640))⟩,
    ⟨Rect.unit (s := S1x768x1024) ![0, 0, 512] S1x768x128.size inb_S1x768x1024_S1x768x128_0_0_512, k0_pay17 (k0_pay14 (k0_pay4 v3 v4)) (k0_pay15 (View.ld x5 (Rect.unit (s := S1x1x1024) ![0, 0, 512] S1x1x128.size inb_S1x1x1024_S1x1x128_0_0_512))) (k0_pay16 (k0_pay4 v3 v4))⟩,
    ⟨Rect.unit (s := S1x768x1024) ![0, 0, 384] S1x768x128.size inb_S1x768x1024_S1x768x128_0_0_384, k0_pay13 (k0_pay4 v3 v4) (View.ld x5 (Rect.unit (s := S1x1x1024) ![0, 0, 384] S1x1x128.size inb_S1x1x1024_S1x1x128_0_0_384))⟩,
    ⟨Rect.unit (s := S1x768x1024) ![0, 0, 256] S1x768x128.size inb_S1x768x1024_S1x768x128_0_0_256, k0_pay12 (k0_pay11 (k0_pay4 v3 v4)) (View.ld x5 (Rect.unit (s := S1x1x1024) ![0, 0, 256] S1x1x128.size inb_S1x1x1024_S1x1x128_0_0_256))⟩,
    ⟨Rect.unit (s := S1x768x1024) ![0, 0, 128] S1x768x128.size inb_S1x768x1024_S1x768x128_0_0_128, k0_pay10 (k0_pay4 v3 v4) (View.ld x5 (Rect.unit (s := S1x1x1024) ![0, 0, 128] S1x1x128.size inb_S1x1x1024_S1x1x128_0_0_128))⟩,
    ⟨Rect.unit (s := S1x768x1024) ![0, 0, 0] S1x768x128.size inb_S1x768x1024_S1x768x128_0_0_0, k0_pay9 (k0_pay4 v3 v4) (View.ld x5 (Rect.unit (s := S1x1x1024) ![0, 0, 0] S1x1x128.size inb_S1x1x1024_S1x1x128_0_0_0))⟩ ]

theorem heads_cover (v3 : Vec F S768x2048 .bf16) (v4 : Vec F S2048x1024 .bf16) (x5 : Vec F S1x1x1024 .f32) (y : S1x768x1024.Idx) :
    ∃ pc ∈ heads v3 v4 x5, y ∈ pc.1.set :=
  View.cover_of_tiledL (heads v3 v4 x5) S1x768x128.size (by sl_kernel_rfl) y

section Cases
variable (c : Dev nD) (i : grid0.Coords) (arg2 : Memref sig .tc .vmem S768x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S1x128 .f32) (harg6 : arg6.IsWhole) (arg7 : Memref sig .tc .vmem S1x1x1024 .f32) (harg7 : arg7.IsWhole) (arg8 : Memref sig .tc .vmem S1x768x1024 .f32) (harg8 : arg8.IsWhole) (arg9 : Memref sig .tc .vmem S768x128 .f32) (harg9 : arg9.IsWhole) (arg10 : Memref sig .tc .vmem S768x2048 .bf16) (harg10 : arg10.IsWhole)
  (x0 : Vec F S768x2048 .f32) (x1 : Vec F S1x2048 .f32) (x2 : Vec F S2048x1024 .bf16) (x3 : Vec F S2048x128 .bf16) (x4 : Vec F S1x128 .f32) (x5 : Vec F S1x1x1024 .f32) (xs : Vec F S768x2048 .bf16)

/-- The first group of a row block leaves the normalised rows in the scratch buffer, -/
theorem rows_A (hc1 : k0_cond1 i = 1#1) (hc2 : k0_cond2 i = 1#1) (hc3 : ¬k0_cond3 i = 1#1) (hc4 : ¬k0_cond4 i = 1#1) (f : arg10.view.ty.Contents (Elt F)) :
    arg10.view.read (Elt F) (arg10.view.writes (Elt F) f (runA c i arg2 harg2 arg3 harg3 arg4 harg4 arg5 harg5 arg6 harg6 arg7 harg7 arg8 harg8 arg9 harg9 arg10 harg10 hc1 hc2 hc3 hc4 x0 x1 x2 x3 x4 x5).2.2.1) = k0_pay2 x0 x1 := by
  rw [View.read_writes_eq_canon _ _ _ (fun y => View.cover_of_tiledL (runA c i arg2 harg2 arg3 harg3 arg4 harg4 arg5 harg5 arg6 harg6 arg7 harg7 arg8 harg8 arg9 harg9 arg10 harg10 hc1 hc2 hc3 hc4 x0 x1 x2 x3 x4 x5).2.2.1 S768x2048.size (by sl_kernel_rfl) y)]
  unfold runA
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread,
    View.ld_unit_zero (S := S768x2048) hz, View.ld_unit_zero (S := S1x2048) hz, View.ld_unit_zero (S := S2048x1024) hz, View.ld_unit_zero (S := S2048x128) hz, View.ld_unit_zero (S := S1x128) hz]

/-- the log forget gates in the second output's buffer, -/
theorem gate_A (hc1 : k0_cond1 i = 1#1) (hc2 : k0_cond2 i = 1#1) (hc3 : ¬k0_cond3 i = 1#1) (hc4 : ¬k0_cond4 i = 1#1) (f : arg9.view.ty.Contents (Elt F)) :
    arg9.view.read (Elt F) (arg9.view.writes (Elt F) f (runA c i arg2 harg2 arg3 harg3 arg4 harg4 arg5 harg5 arg6 harg6 arg7 harg7 arg8 harg8 arg9 harg9 arg10 harg10 hc1 hc2 hc3 hc4 x0 x1 x2 x3 x4 x5).2.1) = k0_pay3 x0 x1 x3 x4 := by
  rw [View.read_writes_eq_canon _ _ _ (fun y => View.cover_of_tiledL (runA c i arg2 harg2 arg3 harg3 arg4 harg4 arg5 harg5 arg6 harg6 arg7 harg7 arg8 harg8 arg9 harg9 arg10 harg10 hc1 hc2 hc3 hc4 x0 x1 x2 x3 x4 x5).2.1 S768x128.size (by sl_kernel_rfl) y)]
  unfold runA
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread,
    View.ld_unit_zero (S := S768x2048) hz, View.ld_unit_zero (S := S1x2048) hz, View.ld_unit_zero (S := S2048x1024) hz, View.ld_unit_zero (S := S2048x128) hz, View.ld_unit_zero (S := S1x128) hz]

/-- and its own heads in the first output's buffer. -/
theorem out_A (hc1 : k0_cond1 i = 1#1) (hc2 : k0_cond2 i = 1#1) (hc3 : ¬k0_cond3 i = 1#1) (hc4 : ¬k0_cond4 i = 1#1) (f : arg8.view.ty.Contents (Elt F)) :
    arg8.view.read (Elt F) (arg8.view.writes (Elt F) f (runA c i arg2 harg2 arg3 harg3 arg4 harg4 arg5 harg5 arg6 harg6 arg7 harg7 arg8 harg8 arg9 harg9 arg10 harg10 hc1 hc2 hc3 hc4 x0 x1 x2 x3 x4 x5).1) = View.canon (heads (k0_pay2 x0 x1) x2 x5) := by
  rw [View.read_writes_eq_canon _ _ _ (fun y => View.cover_of_tiledL (runA c i arg2 harg2 arg3 harg3 arg4 harg4 arg5 harg5 arg6 harg6 arg7 harg7 arg8 harg8 arg9 harg9 arg10 harg10 hc1 hc2 hc3 hc4 x0 x1 x2 x3 x4 x5).1 S1x768x128.size (by sl_kernel_rfl) y)]
  unfold runA
  dsimp only
  sl_unfold_words
  simp only [View.readCov_unit_zero (S := S768x2048) _ hz]
  simp only [View.readAt_eq_ld, harg2.read_unread, harg3.read_unread, harg4.read_unread, harg5.read_unread, harg6.read_unread, harg7.read_unread, harg8.read_unread, harg9.read_unread, harg10.read_unread,
    View.ld_unit_zero (S := S768x2048) hz, View.ld_unit_zero (S := S1x2048) hz, View.ld_unit_zero (S := S2048x1024) hz, View.ld_unit_zero (S := S2048x128) hz, View.ld_unit_zero (S := S1x128) hz]
  rfl

/-- A later query or key group leaves its heads, -/
theorem out_B (hc1 : ¬k0_cond1 i = 1#1) (hc2 : k0_cond2 i = 1#1) (hc3 : ¬k0_cond3 i = 1#1) (hc4 : ¬k0_cond4 i = 1#1) (f : arg8.view.ty.Contents (Elt F)) :
    arg8.view.read (Elt F) (arg8.view.writes (Elt F) f (runB c i arg2 harg2 arg3 harg3 arg4 harg4 arg5 harg5 arg6 harg6 arg7 harg7 arg8 harg8 arg9 harg9 arg10 harg10 hc1 hc2 hc3 hc4 x0 x1 x2 x3 x4 x5 xs).1) = View.canon (heads xs x2 x5) := by
  rw [View.read_writes_eq_canon _ _ _ (fun y => View.cover_of_tiledL (runB c i arg2 harg2 arg3 harg3 arg4 harg4 arg5 harg5 arg6 harg6 arg7 harg7 arg8 harg8 arg9 harg9 arg10 harg10 hc1 hc2 hc3 hc4 x0 x1 x2 x3 x4 x5 xs).1 S1x768x128.size (by sl_kernel_rfl) y)]
  unfold runB
  dsimp only
  sl_unfold_words
  simp only [View.readAt_eq_ld, harg2.read_unread, harg3.read_unread, harg4.read_unread, harg5.read_unread, harg6.read_unread, harg7.read_unread, harg8.read_unread, harg9.read_unread, harg10.read_unread,
    View.ld_unit_zero (S := S768x2048) hz, View.ld_unit_zero (S := S1x2048) hz, View.ld_unit_zero (S := S2048x1024) hz, View.ld_unit_zero (S := S2048x128) hz, View.ld_unit_zero (S := S1x128) hz]
  rfl

/-- a value group the product, -/
theorem out_C (hc1 : ¬k0_cond1 i = 1#1) (hc2 : ¬k0_cond2 i = 1#1) (hc3 : k0_cond3 i = 1#1) (hc4 : ¬k0_cond4 i = 1#1) (f : arg8.view.ty.Contents (Elt F)) :
    arg8.view.read (Elt F) (arg8.view.writes (Elt F) f (runC c i arg2 harg2 arg3 harg3 arg4 harg4 arg5 harg5 arg6 harg6 arg7 harg7 arg8 harg8 arg9 harg9 arg10 harg10 hc1 hc2 hc3 hc4 x0 x1 x2 x3 x4 x5 xs).1) = k0_pay7 xs x2 := by
  rw [View.read_writes_eq_canon _ _ _ (fun y => View.cover_of_tiledL (runC c i arg2 harg2 arg3 harg3 arg4 harg4 arg5 harg5 arg6 harg6 arg7 harg7 arg8 harg8 arg9 harg9 arg10 harg10 hc1 hc2 hc3 hc4 x0 x1 x2 x3 x4 x5 xs).1 S1x768x1024.size (by sl_kernel_rfl) y)]
  unfold runC
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread,
    View.ld_unit_zero (S := S768x2048) hz, View.ld_unit_zero (S := S1x2048) hz, View.ld_unit_zero (S := S2048x1024) hz, View.ld_unit_zero (S := S2048x128) hz, View.ld_unit_zero (S := S1x128) hz]

/-- a gate group the sigmoid of the product. -/
theorem out_D (hc1 : ¬k0_cond1 i = 1#1) (hc2 : ¬k0_cond2 i = 1#1) (hc3 : ¬k0_cond3 i = 1#1) (hc4 : k0_cond4 i = 1#1) (f : arg8.view.ty.Contents (Elt F)) :
    arg8.view.read (Elt F) (arg8.view.writes (Elt F) f (runD c i arg2 harg2 arg3 harg3 arg4 harg4 arg5 harg5 arg6 harg6 arg7 harg7 arg8 harg8 arg9 harg9 arg10 harg10 hc1 hc2 hc3 hc4 x0 x1 x2 x3 x4 x5 xs).1) = k0_pay8 xs x2 := by
  rw [View.read_writes_eq_canon _ _ _ (fun y => View.cover_of_tiledL (runD c i arg2 harg2 arg3 harg3 arg4 harg4 arg5 harg5 arg6 harg6 arg7 harg7 arg8 harg8 arg9 harg9 arg10 harg10 hc1 hc2 hc3 hc4 x0 x1 x2 x3 x4 x5 xs).1 S1x768x1024.size (by sl_kernel_rfl) y)]
  unfold runD
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread,
    View.ld_unit_zero (S := S768x2048) hz, View.ld_unit_zero (S := S1x2048) hz, View.ld_unit_zero (S := S2048x1024) hz, View.ld_unit_zero (S := S2048x128) hz, View.ld_unit_zero (S := S1x128) hz]

end Cases

end Cert.Kernel3Ideal.Hand

end
-- ==== Proof.ProjFrameIdeal.lean ====
/- The frame of the projection call. Each row block's first point leaves the normalised rows in the
   scratch buffer and the log forget gates in the second output's buffer; the later points of the
   block find both as the first left them, and the last one writes the gates back. -/
module

public import proofs.«01_k».proof.Proof.ProjCasesIdeal
public import Idealize.ShloMosaic.Lib.Pipeline.TableIdle

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions and the idle points -/

theorem cond1 : ∀ t : Fin cfg0.N, k0_cond1 (grid0.coords t) = 1#1 ↔ t.val % 10 = 0 := by decide +kernel
theorem cond2 : ∀ t : Fin cfg0.N, k0_cond2 (grid0.coords t) = 1#1 ↔ (t.val % 10 = 0 ∨ t.val % 10 = 1 ∨ t.val % 10 = 3 ∨ t.val % 10 = 4) := by decide +kernel
theorem cond3 : ∀ t : Fin cfg0.N, k0_cond3 (grid0.coords t) = 1#1 ↔ (t.val % 10 = 2 ∨ t.val % 10 = 5) := by decide +kernel
theorem cond4 : ∀ t : Fin cfg0.N, k0_cond4 (grid0.coords t) = 1#1 ↔ 6 ≤ t.val % 10 := by decide +kernel
theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl
theorem live5 : ∀ t : Fin cfg0.N, cfg0.idle 5 (grid0.coords t) = false := fun _ => rfl
theorem live6 : ∀ t : Fin cfg0.N, cfg0.idle 6 (grid0.coords t) = false := by decide +kernel
theorem idle7 : ∀ t : Fin cfg0.N, cfg0.idle 7 (grid0.coords t) = !decide (t.val % 10 = 0) := by decide +kernel
theorem step7 : ∀ t : Fin cfg0.N, decide ((t.val + 1) % 10 = 0) = ((cfg0.win 7).flush t || (cfg0.idle 7 (grid0.coords t) && decide (t.val % 10 = 0))) := by
  intro t
  rw [idle7]
  have h := flush0_7 t
  by_cases h9 : t.val % 10 = 9
  · rw [h.2 h9, Bool.true_or]; exact decide_eq_true (by omega)
  · have hf : (cfg0.win 7).flush t = false := by
      cases e : (cfg0.win 7).flush t
      · rfl
      · exact absurd (h.1 e) h9
    rw [hf, Bool.false_or]
    rw [decide_eq_false (show ¬(t.val + 1) % 10 = 0 by omega)]
    by_cases h0 : t.val % 10 = 0 <;> simp [h0]
theorem fresh7 (n : ℕ) (h : n ≤ cfg0.N) : cfg0.fresh 7 n = decide (n % 10 = 0) :=
  cfg0.fresh_tab 7 (fun n => decide (n % 10 = 0)) rfl step7 n h

/-! ## What the buffers hold -/

abbrev ms0 (t : Fin cfg0.N) : Memref sig .tc .vmem S768x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x1024 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x128 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x768x1024 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S768x128 .f32 := win0_7.stage (cfg0.slots t 7)
abbrev hs7 (t : Fin cfg0.N) : (ms7 t).IsWhole := hstage0_7 ((cfg0.slots t 7).cast nbuf0_7)
abbrev scM : Memref sig .tc .vmem S768x2048 .bf16 := Memref.whole cc0_scratch0

theorem PhiA_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

/-- The first point of a point's row block. -/
def rp (t : Fin cfg0.N) : Fin cfg0.N := ⟨t.val / 10 * 10, Nat.lt_of_le_of_lt (Nat.div_mul_le_self _ _) t.isLt⟩

theorem rp_first (t : Fin cfg0.N) (h : t.val % 10 = 0) : rp t = t := Fin.ext (by show t.val / 10 * 10 = t.val; omega)
theorem rp_prev (t t' : Fin cfg0.N) (h : t.val % 10 ≠ 0) (h' : t'.val = t.val - 1) : rp t' = rp t :=
  Fin.ext (by show t'.val / 10 * 10 = t.val / 10 * 10; omega)

/-- The normalised rows of a point's row block. -/
def rows (c : Dev nD) (t : Fin cfg0.N) : Vec F S768x2048 .bf16 := k0_pay2 (iblk m c 0 (rp t)) (iblk m c 1 (rp t))

/-- The log forget gates of a point's row block. -/
def gate (c : Dev nD) (t : Fin cfg0.N) : Vec F S768x128 .f32 :=
  k0_pay3 (iblk m c 0 (rp t)) (iblk m c 1 (rp t)) (iblk m c 3 (rp t)) (iblk m c 4 (rp t))

/-- The block of projections a point computes. -/
def block (c : Dev nD) (t : Fin cfg0.N) : Vec F S1x768x1024 .f32 :=
  if 6 ≤ t.val % 10 then k0_pay8 (rows m c t) (iblk m c 2 t)
  else if t.val % 10 = 2 ∨ t.val % 10 = 5 then k0_pay7 (rows m c t) (iblk m c 2 t)
  else View.canon (heads (rows m c t) (iblk m c 2 t) (iblk m c 5 t))

/-- The scratch buffer before position `n`. -/
def PhiS (c : Dev nD) : (n : ℕ) → n ≤ cfg0.N → sProp 𝕄
  | 0, _ => Pipeline.ΦA spec0 c
  | n + 1, hn => iprop(owns (c : Thread nD τ) scM fullShare (rows m c ⟨n, hn⟩) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(owns (c : Thread nD τ) scM fullShare (rows m c ⟨n, hn⟩) ∗ (∃ r, prngReg c r)) := rfl

theorem PhiS_pos (c : Dev nD) (n : ℕ) (h : n ≤ cfg0.N) (hz : n ≠ 0) :
    PhiS m c n h = iprop(owns (c : Thread nD τ) scM fullShare (rows m c ⟨n - 1, by omega⟩) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => block m c t
    | ⟨7, _⟩ => gate m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = block m c t := by dsimp only [dats]
theorem after7 (c : Dev nD) (t : Fin cfg0.N) : (dats m 0 c).after 7 t = gate m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

theorem gate_prev (c : Dev nD) (t t' : Fin cfg0.N) (h : t.val % 10 ≠ 0) (h' : t'.val = t.val - 1) : gate m c t' = gate m c t := by
  unfold gate; rw [rp_prev t t' h h']
theorem rows_prev (c : Dev nD) (t t' : Fin cfg0.N) (h : t.val % 10 ≠ 0) (h' : t'.val = t.val - 1) : rows m c t' = rows m c t := by
  unfold rows; rw [rp_prev t t' h h']

/-- After the first point of a row block the second output's buffer holds the block's gates. -/
theorem before7 (c : Dev nD) (t : Fin cfg0.N) (h : t.val % 10 ≠ 0) (d) : (dats m 0 c).before 7 t d = gate m c t := by
  refine ((dats m 0 c).before_out_traj 7 rfl (fun _ _ => rfl) (fun t ht hi hf => ?_) t.val t rfl d).trans ?_
  · rw [after7, after7]
    have h0 : ¬t.val % 10 = 0 := by
      intro e; rw [idle7, decide_eq_true e] at hi; exact Bool.false_ne_true hi
    exact (gate_prev m c t _ h0 rfl).symm
  · rw [fresh7 _ (Nat.le_of_lt t.isLt), decide_eq_false h, if_neg Bool.false_ne_true, after7]
    exact gate_prev m c t _ h rfl

/-- … and is handed back so. -/
theorem leaves7 (c : Dev nD) (t : Fin cfg0.N) (h : t.val % 10 ≠ 0) (d : Vec F S768x128 .f32) :
    (owns (c : Thread nD τ) (ms7 t) fullShare (gate m c t) : sProp 𝕄) ⊢ (dats m 0 c).leavesExact 7 t := by
  unfold Dat.leavesExact
  rw [idle7, decide_eq_false h]
  show _ ⊢ (match (cfg0.win 7).flush t with
    | false => iprop(∃ d, owns (c : Thread nD τ) (ms7 t) fullShare ((dats m 0 c).before 7 t d))
    | true => owns (c : Thread nD τ) (ms7 t) fullShare ((dats m 0 c).after 7 t))
  cases (cfg0.win 7).flush t
  · iintro H; iexists d; rw [before7 m c t h]; iexact H
  · rw [after7]

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 9600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ]
  have hN : t.val < 110 := lt_of_lt_of_eq t.isLt (show cfg0.N = 110 from N_0)
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  rw [show (dats m 0 c).leavesExact 6 t = owns (c : Thread nD τ) (ms6 t) fullShare ((dats m 0 c).after 6 t) from by
    unfold Dat.leavesExact; rw [live6 t], after6]
  by_cases h0 : t.val % 10 = 0
  · rw [show (dats m 0 c).leavesExact 7 t = owns (c : Thread nD τ) (ms7 t) fullShare ((dats m 0 c).after 7 t) from by
      unfold Dat.leavesExact; rw [idle7 t, decide_eq_true h0]; rfl, after7]
    have hrows : k0_pay2 (iblk m c 0 t) (iblk m c 1 t) = rows m c t := by unfold rows; rw [rp_first t h0]
    have hgate : k0_pay3 (iblk m c 0 t) (iblk m c 1 t) (iblk m c 3 t) (iblk m c 4 t) = gate m c t := by unfold gate; rw [rp_first t h0]
    have hblock : View.canon (heads (k0_pay2 (iblk m c 0 t) (iblk m c 1 t)) (iblk m c 2 t) (iblk m c 5 t)) = block m c t := by
      rw [hrows]; unfold block; rw [if_neg (by omega), if_neg (by omega)]
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) ((cond1 t).mpr h0) ((cond2 t).mpr (Or.inl h0)) (fun h => by have := (cond3 t).mp h; omega) (fun h => by have := (cond4 t).mp h; omega) (iblk m c 0 t) (iblk m c 1 t) (iblk m c 2 t) (iblk m c 3 t) (iblk m c 4 t) (iblk m c 5 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS]; · iexact HS
      iintro ⟨H0, H1, H2, H3, H4, H5, ⟨%e6, H6⟩, ⟨%e7, H7⟩, ⟨%es, HS⟩⟩
      isplitl [HS Hg]
      · isplitl [HS]
        · unfold owns; iexists _; isplitr
          swap; · iexact HS
          ipureintro; exact (rows_A c _ (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (iblk m c 0 t) (iblk m c 1 t) (iblk m c 2 t) (iblk m c 3 t) (iblk m c 4 t) (iblk m c 5 t) ((cond1 t).mpr h0) ((cond2 t).mpr (Or.inl h0)) (fun h => by have := (cond3 t).mp h; omega) (fun h => by have := (cond4 t).mp h; omega) _).trans hrows
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact (out_A c _ (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (iblk m c 0 t) (iblk m c 1 t) (iblk m c 2 t) (iblk m c 3 t) (iblk m c 4 t) (iblk m c 5 t) ((cond1 t).mpr h0) ((cond2 t).mpr (Or.inl h0)) (fun h => by have := (cond3 t).mp h; omega) (fun h => by have := (cond4 t).mp h; omega) _).trans hblock
      unfold owns; iexists _; isplitr
      swap; · iexact H7
      ipureintro; exact (gate_A c _ (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (iblk m c 0 t) (iblk m c 1 t) (iblk m c 2 t) (iblk m c 3 t) (iblk m c 4 t) (iblk m c 5 t) ((cond1 t).mpr h0) ((cond2 t).mpr (Or.inl h0)) (fun h => by have := (cond3 t).mp h; omega) (fun h => by have := (cond4 t).mp h; omega) _).trans hgate
    · rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) ((cond1 t).mpr h0) ((cond2 t).mpr (Or.inl h0)) (fun h => by have := (cond3 t).mp h; omega) (fun h => by have := (cond4 t).mp h; omega) (iblk m c 0 t) (iblk m c 1 t) (iblk m c 2 t) (iblk m c 3 t) (iblk m c 4 t) (iblk m c 5 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS]; · iexists _; iexact HS
      iintro ⟨H0, H1, H2, H3, H4, H5, ⟨%e6, H6⟩, ⟨%e7, H7⟩, ⟨%es, HS⟩⟩
      isplitl [HS Hg]
      · isplitl [HS]
        · unfold owns; iexists _; isplitr
          swap; · iexact HS
          ipureintro; exact (rows_A c _ (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (iblk m c 0 t) (iblk m c 1 t) (iblk m c 2 t) (iblk m c 3 t) (iblk m c 4 t) (iblk m c 5 t) ((cond1 t).mpr h0) ((cond2 t).mpr (Or.inl h0)) (fun h => by have := (cond3 t).mp h; omega) (fun h => by have := (cond4 t).mp h; omega) _).trans hrows
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact (out_A c _ (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (iblk m c 0 t) (iblk m c 1 t) (iblk m c 2 t) (iblk m c 3 t) (iblk m c 4 t) (iblk m c 5 t) ((cond1 t).mpr h0) ((cond2 t).mpr (Or.inl h0)) (fun h => by have := (cond3 t).mp h; omega) (fun h => by have := (cond4 t).mp h; omega) _).trans hblock
      unfold owns; iexists _; isplitr
      swap; · iexact H7
      ipureintro; exact (gate_A c _ (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (iblk m c 0 t) (iblk m c 1 t) (iblk m c 2 t) (iblk m c 3 t) (iblk m c 4 t) (iblk m c 5 t) ((cond1 t).mpr h0) ((cond2 t).mpr (Or.inl h0)) (fun h => by have := (cond3 t).mp h; omega) (fun h => by have := (cond4 t).mp h; omega) _).trans hgate
  · rw [PhiS_castSucc m c t, PhiS_pos m c _ _ (by omega), rows_prev m c t _ h0 rfl]
    simp only [before7 m c t h0]
    by_cases h6 : 6 ≤ t.val % 10
    · have hblock : k0_pay8 (rows m c t) (iblk m c 2 t) = block m c t := by unfold block; rw [if_pos h6]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runD c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (fun h => h0 ((cond1 t).mp h)) (fun h => by have := (cond2 t).mp h; omega) (fun h => by have := (cond3 t).mp h; omega) ((cond4 t).mpr h6) (iblk m c 0 t) (iblk m c 1 t) (iblk m c 2 t) (iblk m c 3 t) (iblk m c 4 t) (iblk m c 5 t) (rows m c t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS]; · iexact HS
      iintro ⟨H0, H1, H2, H3, H4, H5, ⟨%e6, H6⟩, H7, HS⟩
      isplitl [HS Hg]
      · isplitl [HS]
        · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact (out_D c _ (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (iblk m c 0 t) (iblk m c 1 t) (iblk m c 2 t) (iblk m c 3 t) (iblk m c 4 t) (iblk m c 5 t) (rows m c t) (fun h => h0 ((cond1 t).mp h)) (fun h => by have := (cond2 t).mp h; omega) (fun h => by have := (cond3 t).mp h; omega) ((cond4 t).mpr h6) _).trans hblock
      iapply (leaves7 m c t h0 d7); iexact H7
    by_cases h2 : t.val % 10 = 2 ∨ t.val % 10 = 5
    · have hblock : k0_pay7 (rows m c t) (iblk m c 2 t) = block m c t := by unfold block; rw [if_neg h6, if_pos h2]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runC c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (fun h => h0 ((cond1 t).mp h)) (fun h => by have := (cond2 t).mp h; omega) ((cond3 t).mpr h2) (fun h => h6 ((cond4 t).mp h)) (iblk m c 0 t) (iblk m c 1 t) (iblk m c 2 t) (iblk m c 3 t) (iblk m c 4 t) (iblk m c 5 t) (rows m c t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS]; · iexact HS
      iintro ⟨H0, H1, H2, H3, H4, H5, ⟨%e6, H6⟩, H7, HS⟩
      isplitl [HS Hg]
      · isplitl [HS]
        · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact (out_C c _ (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (iblk m c 0 t) (iblk m c 1 t) (iblk m c 2 t) (iblk m c 3 t) (iblk m c 4 t) (iblk m c 5 t) (rows m c t) (fun h => h0 ((cond1 t).mp h)) (fun h => by have := (cond2 t).mp h; omega) ((cond3 t).mpr h2) (fun h => h6 ((cond4 t).mp h)) _).trans hblock
      iapply (leaves7 m c t h0 d7); iexact H7
    · have hblock : View.canon (heads (rows m c t) (iblk m c 2 t) (iblk m c 5 t)) = block m c t := by unfold block; rw [if_neg h6, if_neg h2]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runB c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (fun h => h0 ((cond1 t).mp h)) ((cond2 t).mpr (by omega)) (fun h => h2 ((cond3 t).mp h)) (fun h => h6 ((cond4 t).mp h)) (iblk m c 0 t) (iblk m c 1 t) (iblk m c 2 t) (iblk m c 3 t) (iblk m c 4 t) (iblk m c 5 t) (rows m c t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS]; · iexact HS
      iintro ⟨H0, H1, H2, H3, H4, H5, ⟨%e6, H6⟩, H7, HS⟩
      isplitl [HS Hg]
      · isplitl [HS]
        · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact (out_B c _ (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (iblk m c 0 t) (iblk m c 1 t) (iblk m c 2 t) (iblk m c 3 t) (iblk m c 4 t) (iblk m c 5 t) (rows m c t) (fun h => h0 ((cond1 t).mp h)) ((cond2 t).mpr (by omega)) (fun h => h2 ((cond3 t).mp h)) (fun h => h6 ((cond4 t).mp h)) _).trans hblock
      iapply (leaves7 m c t h0 d7); iexact H7

theorem row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]

theorem hout (c : Dev nD) : (dats m 0 c).Φ (Fin.last cfg0.N) ⊢ Pipeline.ΦA spec0 c := by
  rw [show (dats m 0 c).Φ (Fin.last cfg0.N) = PhiS m c cfg0.N (Nat.le_refl _) from rfl,
    PhiS_pos m c _ _ (by have : cfg0.N = 110 := N_0; omega), PhiA_eq]
  iintro ⟨HS, Hg⟩
  isplitl [HS]
  · iexists _; iexact HS
  iexact Hg

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- Every run of the call ends with its arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

end Cert.Kernel3Ideal.Hand

end
-- ==== Proof.ProjPay.lean ====
/-
  What the projection kernel's body stores, read at an index.
-/
module

public import proofs.«01_k».proof.Proof.ProjSpec
public import proofs.«01_k».proof.Proof.ProjFrameIdeal
public import Idealize.ShloMosaic.Lib.Pointwise
public import Idealize.ShloMosaic.Lib.Pipeline.ValueKit

@[expose] public section

set_option maxRecDepth 16384

noncomputable section

namespace Cert.Proj

open Idealize.ShloMosaic Idealize.ShloMosaic.TcCoe Idealize.SL.Sem
open Cert.Kernel3Ideal Cert.Kernel3Ideal.Gen Cert.Kernel3Ideal.Hand

theorem pay1_apply (x : Vec Ideal S768x2048 .f32) (g : Vec Ideal S1x2048 .f32) (r : Fin 768) (k : Fin 2048) :
    k0_pay1 x g (ix2 r k) = x (ix2 r k) * Ideal.rsqrt (Ideal.div (∑ k, x (ix2 r k) * x (ix2 r k))
      (Ideal.ofBits .f32 0x45000000#32) + Ideal.ofBits .f32 0x358637BD#32) * g (ix2 0 k) := by
  unfold k0_pay1
  pointwise

theorem pay2_apply (x : Vec Ideal S768x2048 .f32) (g : Vec Ideal S1x2048 .f32) (r : Fin 768) (k : Fin 2048) :
    k0_pay2 x g (ix2 r k) = k0_pay1 x g (ix2 r k) := by
  unfold k0_pay2
  generalize k0_pay1 x g = y
  pointwise

theorem pay3_apply (x : Vec Ideal S768x2048 .f32) (g : Vec Ideal S1x2048 .f32) (w : Vec Ideal S2048x128 .bf16)
    (b : Vec Ideal S1x128 .f32) (r : Fin 768) (l : Fin 128) :
    k0_pay3 x g w b (ix2 r l) = logSigmoid (∑ k, k0_pay1 x g (ix2 r k) * w (ix2 k l) + b (ix2 0 l)) := by
  unfold k0_pay3
  generalize k0_pay1 x g = y
  pointwise [dot_S768x2048_S2048x128_S768x128_1_0_0_1_n_n]
  rfl

theorem pay4_apply (y : Vec Ideal S768x2048 .bf16) (w : Vec Ideal S2048x1024 .bf16) (r : Fin 768) (q : Fin 1024) :
    k0_pay4 y w (ix2 r q) = ∑ k, y (ix2 r k) * w (ix2 k q) := by
  unfold k0_pay4
  pointwise [dot_S768x2048_S2048x1024_S768x1024_1_0_0_1_n_n]

theorem pay7_apply (y : Vec Ideal S768x2048 .bf16) (w : Vec Ideal S2048x1024 .bf16) (r : Fin 768) (q : Fin 1024) :
    k0_pay7 y w (ix3 0 r q) = k0_pay4 y w (ix2 r q) := by
  unfold k0_pay7
  generalize k0_pay4 y w = z
  pointwise

theorem pay8_apply (y : Vec Ideal S768x2048 .bf16) (w : Vec Ideal S2048x1024 .bf16) (r : Fin 768) (q : Fin 1024) :
    k0_pay8 y w (ix3 0 r q) = Ideal.logistic (k0_pay4 y w (ix2 r q)) := by
  unfold k0_pay8
  generalize k0_pay4 y w = z
  pointwise

/-- Head `o / 128` of a row block's products, normalised: what each of the eight stores writes. -/
def piece (z : Vec Ideal S768x1024 .f32) (g : Vec Ideal S1x1x128 .f32) (a : Fin 8) (r : Fin 768) (d : Fin 128) : EReal :=
  z (ix2 r (chan a d)) * Ideal.rsqrt (Ideal.div (∑ e : Fin 128, z (ix2 r (chan a e)) * z (ix2 r (chan a e)))
    (Ideal.ofBits .f32 0x43000000#32) + Ideal.ofBits .f32 0x358637BD#32) * g (ix3 0 0 d)

variable (z : Vec Ideal S768x1024 .f32) (g : Vec Ideal S1x1x128 .f32) (r : Fin 768) (d : Fin 128)

theorem store0_apply : k0_pay9 z g (ix3 0 r d) = piece z g 0 r d := by
  unfold k0_pay9
  pointwise
  have e : ∀ d : Fin 128, chan 0 d = ⟨d.val, by omega⟩ := fun d => Fin.ext (by show 0 * 128 + d.val = d.val; omega)
  unfold piece
  simp only [e]
theorem store1_apply : k0_pay10 z g (ix3 0 r d) = piece z g 1 r d := by
  unfold k0_pay10
  pointwise
  rfl
theorem store2_apply : k0_pay12 (k0_pay11 z) g (ix3 0 r d) = piece z g 2 r d := by
  unfold k0_pay12 k0_pay11
  pointwise
  rfl
theorem store3_apply : k0_pay13 z g (ix3 0 r d) = piece z g 3 r d := by
  unfold k0_pay13
  pointwise
  rfl
theorem store4_apply : k0_pay17 (k0_pay14 z) (k0_pay15 g) (k0_pay16 z) (ix3 0 r d) = piece z g 4 r d := by
  unfold k0_pay17 k0_pay16 k0_pay15 k0_pay14
  pointwise
  rfl
theorem store5_apply : k0_pay18 z g (ix3 0 r d) = piece z g 5 r d := by
  unfold k0_pay18
  pointwise
  rfl
theorem store6_apply : k0_pay5 (k0_pay19 z) (k0_pay20 g) (k0_pay21 z) k0_pay22 (ix3 0 r d) = piece z g 6 r d := by
  unfold k0_pay5 k0_pay22 k0_pay21 k0_pay20 k0_pay19
  pointwise
  rfl
theorem store7_apply (y : Vec Ideal S768x2048 .bf16) (w : Vec Ideal S2048x1024 .bf16) :
    k0_pay6 y w g (ix3 0 r d) = piece (k0_pay4 y w) g 7 r d := by
  unfold k0_pay6
  generalize k0_pay4 y w = z
  pointwise
  rfl

end Cert.Proj
-- ==== Proof.ProjArg.lean ====
/-
  What the projection call finds in the arrays its host code prepared: the weight without its forget columns, the forget
  columns and their bias in the first eight of 128 lanes, and the per-head gains repeated over the heads of each group.
-/
module

public import proofs.«01_k».proof.Proof.ProjPay

@[expose] public section

set_option maxRecDepth 16384

noncomputable section

namespace Cert.Proj

open Idealize.ShloMosaic Idealize.ShloMosaic.TcCoe Idealize.SL.Sem
open Cert.Kernel3Ideal Cert.Kernel3Ideal.Gen Cert.Kernel3Ideal.Hand

/-! ## The host code's arrays, read at an index -/

theorem weight_apply (w : FVec Ideal S1x2048x10248 .f32) (k : Fin 2048) (n : Fin 10240) :
    truncf (F := Ideal) (φ := .f32) .bf16 (concatenate S2048x10240 1
      [⟨S2048x6144, extractStridedSlice S2048x6144 ![0, 0] (shapeCast S2048x10248 w shapeCasts_S1x2048x10248_S2048x10248) slices_S2048x10248_S2048x6144_0_0⟩,
       ⟨S2048x4096, extractStridedSlice S2048x4096 ![0, 6152] (shapeCast S2048x10248 w shapeCasts_S1x2048x10248_S2048x10248) slices_S2048x10248_S2048x4096_0_6152⟩]
      concatenates_S2048x6144_S2048x4096_S2048x10240_d1) bitsLt_bf16_f32 (ix2 k n)
    = w (ix3 0 k ⟨n.val + if n.val < 6144 then 0 else 8, by split <;> omega⟩) := by
  pointwise
  by_cases h : n.val < 6144
  · simp only [dif_pos h, if_pos h, Nat.add_zero]
  · simp only [dif_neg h, if_neg h]
    have e : 6152 + (n.val - 6144) = n.val + 8 := by omega
    exact congrArg w (congrArg (ix3 0 k) (Fin.ext e))

theorem forget_weight_apply (w : FVec Ideal S1x2048x10248 .f32) (z : FVec Ideal S_ .f32) (k : Fin 2048) (l : Fin 128) (hl : l.val < 8) :
    truncf (F := Ideal) (φ := .f32) .bf16 (pad S2048x128 ![0, 0] ![0, 120] ![0, 0]
      (extractStridedSlice S2048x8 ![0, 6144] (shapeCast S2048x10248 w shapeCasts_S1x2048x10248_S2048x10248) slices_S2048x10248_S2048x8_0_6144)
      z pads_S2048x8_S2048x128_000_01200 h_S_) bitsLt_bf16_f32 (ix2 k l)
    = w (ix3 0 k (fcol ⟨l.val, hl⟩)) := by
  pointwise
  rw [dif_pos hl]
  rfl

theorem forget_bias_apply (b : FVec Ideal S1x8 .f32) (z : FVec Ideal S_ .f32) (l : Fin 128) (hl : l.val < 8) :
    shapeCast S1x128 (pad S128 ![0] ![120] ![0] (shapeCast S8 b shapeCasts_S1x8_S8) z pads_S8_S128_01200 h_S_) shapeCasts_S128_S1x128 (ix2 0 l)
    = b (ix2 0 ⟨l.val, hl⟩) := by
  pointwise
  rw [dif_pos hl]

/-- A head's gains, repeated over the eight heads. -/
def tile (g : FVec Ideal S1x128 .f32) : FVec Ideal S1024 .f32 :=
  shapeCast S1024 (broadcastInDim S8x128 ![0, 1] bcast_S1x128_S8x128_0_1 (shapeCast S1x128 (shapeCast S128 g shapeCasts_S1x128_S128) shapeCasts_S128_S1x128)) shapeCasts_S8x128_S1024

def ones : FVec Ideal S1024 .f32 := broadcastInDim S1024 ![] bcast_S_S1024 (constant (F := Ideal) S_ .f32 0x3F800000#32)

theorem tile_apply (g : FVec Ideal S1x128 .f32) (q : Fin 1024) : tile g (ix1 q) = g (ix2 0 (within q)) := by
  unfold tile
  pointwise
  rfl

theorem gains_apply (t0 t1 t2 t3 t4 t5 t6 t7 t8 t9 : FVec Ideal S1024 .f32) (j : Fin 10) (q : Fin 1024) :
    shapeCast S10x1x1024 (concatenate S10x1024 0 [⟨S1x1024, (broadcastInDim S1x1024 ![1] bcast_S1024_S1x1024_1 (t0) : (⟨S1x1024, .f32⟩ : BufTy).Contents (Elt Ideal))⟩, ⟨S1x1024, (broadcastInDim S1x1024 ![1] bcast_S1024_S1x1024_1 (t1) : (⟨S1x1024, .f32⟩ : BufTy).Contents (Elt Ideal))⟩, ⟨S1x1024, (broadcastInDim S1x1024 ![1] bcast_S1024_S1x1024_1 (t2) : (⟨S1x1024, .f32⟩ : BufTy).Contents (Elt Ideal))⟩, ⟨S1x1024, (broadcastInDim S1x1024 ![1] bcast_S1024_S1x1024_1 (t3) : (⟨S1x1024, .f32⟩ : BufTy).Contents (Elt Ideal))⟩, ⟨S1x1024, (broadcastInDim S1x1024 ![1] bcast_S1024_S1x1024_1 (t4) : (⟨S1x1024, .f32⟩ : BufTy).Contents (Elt Ideal))⟩, ⟨S1x1024, (broadcastInDim S1x1024 ![1] bcast_S1024_S1x1024_1 (t5) : (⟨S1x1024, .f32⟩ : BufTy).Contents (Elt Ideal))⟩, ⟨S1x1024, (broadcastInDim S1x1024 ![1] bcast_S1024_S1x1024_1 (t6) : (⟨S1x1024, .f32⟩ : BufTy).Contents (Elt Ideal))⟩, ⟨S1x1024, (broadcastInDim S1x1024 ![1] bcast_S1024_S1x1024_1 (t7) : (⟨S1x1024, .f32⟩ : BufTy).Contents (Elt Ideal))⟩, ⟨S1x1024, (broadcastInDim S1x1024 ![1] bcast_S1024_S1x1024_1 (t8) : (⟨S1x1024, .f32⟩ : BufTy).Contents (Elt Ideal))⟩, ⟨S1x1024, (broadcastInDim S1x1024 ![1] bcast_S1024_S1x1024_1 (t9) : (⟨S1x1024, .f32⟩ : BufTy).Contents (Elt Ideal))⟩] concatenates_S1x1024_S1x1024_S1x1024_S1x1024_S1x1024_S1x1024_S1x1024_S1x1024_S1x1024_S1x1024_S10x1024_d0 : (⟨S10x1024, .f32⟩ : BufTy).Contents (Elt Ideal))
      shapeCasts_S10x1024_S10x1x1024 (ix3 j 0 q)
    = (![t0, t1, t2, t3, t4, t5, t6, t7, t8, t9] j) (ix1 q) := by
  pointwise
  fin_cases j <;> rfl

/-! ## The arrays as the call finds them -/

section Arrays
variable (m : (ℓ : Loc nD τ sig) → Buf (Elt Ideal) ℓ) (c : Dev nD)

abbrev aX : Fin 8448 → Fin 2048 → EReal := fun r k => m ((c : Thread nD τ).loc main_arg0) (ix2 r k)
abbrev aG : Fin 2048 → EReal := fun k => m ((c : Thread nD τ).loc main_arg1) (ix2 0 k)
abbrev aW : Fin 2048 → Fin 10248 → EReal := fun k n => m ((c : Thread nD τ).loc main_arg2) (ix3 0 k n)
abbrev aB : Fin 8 → EReal := fun a => m ((c : Thread nD τ).loc main_arg3) (ix2 0 a)
abbrev aG0 : Fin 128 → EReal := fun d => m ((c : Thread nD τ).loc main_arg4) (ix2 0 d)
abbrev aG1 : Fin 128 → EReal := fun d => m ((c : Thread nD τ).loc main_arg5) (ix2 0 d)
abbrev aG3 : Fin 128 → EReal := fun d => m ((c : Thread nD τ).loc main_arg6) (ix2 0 d)
abbrev aG4 : Fin 128 → EReal := fun d => m ((c : Thread nD τ).loc main_arg7) (ix2 0 d)

theorem norm_apply (g : FVec Ideal S1x2048 .f32) (k : Fin 2048) :
    shapeCast S1x2048 (shapeCast S2048 g shapeCasts_S1x2048_S2048) shapeCasts_S2048_S1x2048 (ix2 0 k) = g (ix2 0 k) := by
  pointwise

theorem V_norm (k : Fin 2048) : V m c main_v41 (ix2 0 k) = aG m c k := by
  have e : V m c main_v41 = shapeCast S1x2048 (shapeCast S2048 (m ((c : Thread nD τ).loc main_arg1)) shapeCasts_S1x2048_S2048) shapeCasts_S2048_S1x2048 := by
    simp only [V, hostOps0, hostOps0_1, hostOps0_2, hostOps0_3, hostOps0_4, List.flatten_cons, List.flatten_nil, List.append_nil, List.cons_append, List.nil_append]
    after_results_simp <;> rfl
  rw [e]
  exact norm_apply _ k

theorem V_weight (k : Fin 2048) (n : Fin 10240) : V m c main_v4 (ix2 k n) = aW m c k ⟨n.val + if n.val < 6144 then 0 else 8, by split <;> omega⟩ := by
  have e : V m c main_v4 = truncf (F := Ideal) (φ := .f32) .bf16 (concatenate S2048x10240 1
      [⟨S2048x6144, extractStridedSlice S2048x6144 ![0, 0] (shapeCast S2048x10248 (m ((c : Thread nD τ).loc main_arg2)) shapeCasts_S1x2048x10248_S2048x10248) slices_S2048x10248_S2048x6144_0_0⟩,
       ⟨S2048x4096, extractStridedSlice S2048x4096 ![0, 6152] (shapeCast S2048x10248 (m ((c : Thread nD τ).loc main_arg2)) shapeCasts_S1x2048x10248_S2048x10248) slices_S2048x10248_S2048x4096_0_6152⟩]
      concatenates_S2048x6144_S2048x4096_S2048x10240_d1) bitsLt_bf16_f32 := by
    simp only [V, hostOps0, hostOps0_1, hostOps0_2, hostOps0_3, hostOps0_4, List.flatten_cons, List.flatten_nil, List.append_nil, List.cons_append, List.nil_append]
    after_results_simp <;> rfl
  rw [e]
  exact weight_apply _ k n

theorem V_forget (k : Fin 2048) (l : Fin 128) (hl : l.val < 8) : V m c main_v7 (ix2 k l) = aW m c k (fcol ⟨l.val, hl⟩) := by
  have e : V m c main_v7 = truncf (F := Ideal) (φ := .f32) .bf16 (pad S2048x128 ![0, 0] ![0, 120] ![0, 0]
      (extractStridedSlice S2048x8 ![0, 6144] (shapeCast S2048x10248 (m ((c : Thread nD τ).loc main_arg2)) shapeCasts_S1x2048x10248_S2048x10248) slices_S2048x10248_S2048x8_0_6144)
      (sitofp (F := Ideal) .f32 (constantI S_ 32 0#32)) pads_S2048x8_S2048x128_000_01200 h_S_) bitsLt_bf16_f32 := by
    simp only [V, hostOps0, hostOps0_1, hostOps0_2, hostOps0_3, hostOps0_4, List.flatten_cons, List.flatten_nil, List.append_nil, List.cons_append, List.nil_append]
    after_results_simp <;> rfl
  rw [e]
  exact forget_weight_apply _ _ k l hl

theorem V_bias (l : Fin 128) (hl : l.val < 8) : V m c main_v10 (ix2 0 l) = aB m c ⟨l.val, hl⟩ := by
  have e : V m c main_v10 = shapeCast S1x128 (pad S128 ![0] ![120] ![0] (shapeCast S8 (m ((c : Thread nD τ).loc main_arg3)) shapeCasts_S1x8_S8)
      (sitofp (F := Ideal) .f32 (constantI S_ 32 0#32)) pads_S8_S128_01200 h_S_) shapeCasts_S128_S1x128 := by
    simp only [V, hostOps0, hostOps0_1, hostOps0_2, hostOps0_3, hostOps0_4, List.flatten_cons, List.flatten_nil, List.append_nil, List.cons_append, List.nil_append]
    after_results_simp <;> rfl
  rw [e]
  exact forget_bias_apply _ _ l hl

theorem V_gain (j : Fin 10) (h2 : ¬(j.val = 2 ∨ j.val = 5)) (h6 : ¬6 ≤ j.val) (q : Fin 1024) :
    V m c main_v39 (ix3 j 0 q) = gain (aG0 m c) (aG1 m c) (aG3 m c) (aG4 m c) j (within q) := by
  have e : V m c main_v39 = shapeCast S10x1x1024 (concatenate S10x1024 0 [⟨S1x1024, (broadcastInDim S1x1024 ![1] bcast_S1024_S1x1024_1 (tile (m ((c : Thread nD τ).loc main_arg4))) : (⟨S1x1024, .f32⟩ : BufTy).Contents (Elt Ideal))⟩, ⟨S1x1024, (broadcastInDim S1x1024 ![1] bcast_S1024_S1x1024_1 (tile (m ((c : Thread nD τ).loc main_arg5))) : (⟨S1x1024, .f32⟩ : BufTy).Contents (Elt Ideal))⟩, ⟨S1x1024, (broadcastInDim S1x1024 ![1] bcast_S1024_S1x1024_1 (ones) : (⟨S1x1024, .f32⟩ : BufTy).Contents (Elt Ideal))⟩, ⟨S1x1024, (broadcastInDim S1x1024 ![1] bcast_S1024_S1x1024_1 (tile (m ((c : Thread nD τ).loc main_arg6))) : (⟨S1x1024, .f32⟩ : BufTy).Contents (Elt Ideal))⟩, ⟨S1x1024, (broadcastInDim S1x1024 ![1] bcast_S1024_S1x1024_1 (tile (m ((c : Thread nD τ).loc main_arg7))) : (⟨S1x1024, .f32⟩ : BufTy).Contents (Elt Ideal))⟩, ⟨S1x1024, (broadcastInDim S1x1024 ![1] bcast_S1024_S1x1024_1 (ones) : (⟨S1x1024, .f32⟩ : BufTy).Contents (Elt Ideal))⟩, ⟨S1x1024, (broadcastInDim S1x1024 ![1] bcast_S1024_S1x1024_1 (ones) : (⟨S1x1024, .f32⟩ : BufTy).Contents (Elt Ideal))⟩, ⟨S1x1024, (broadcastInDim S1x1024 ![1] bcast_S1024_S1x1024_1 (ones) : (⟨S1x1024, .f32⟩ : BufTy).Contents (Elt Ideal))⟩, ⟨S1x1024, (broadcastInDim S1x1024 ![1] bcast_S1024_S1x1024_1 (ones) : (⟨S1x1024, .f32⟩ : BufTy).Contents (Elt Ideal))⟩, ⟨S1x1024, (broadcastInDim S1x1024 ![1] bcast_S1024_S1x1024_1 (ones) : (⟨S1x1024, .f32⟩ : BufTy).Contents (Elt Ideal))⟩] concatenates_S1x1024_S1x1024_S1x1024_S1x1024_S1x1024_S1x1024_S1x1024_S1x1024_S1x1024_S1x1024_S10x1024_d0 : (⟨S10x1024, .f32⟩ : BufTy).Contents (Elt Ideal)) shapeCasts_S10x1024_S10x1x1024 := by
    simp only [V, hostOps0, hostOps0_1, hostOps0_2, hostOps0_3, hostOps0_4, List.flatten_cons, List.flatten_nil, List.append_nil, List.cons_append, List.nil_append]
    after_results_simp <;> rfl
  rw [e]
  refine (gains_apply _ _ _ _ _ _ _ _ _ _ j q).trans ?_
  fin_cases j
  · exact tile_apply _ q
  · exact tile_apply _ q
  · exact absurd (Or.inl rfl) h2
  · exact tile_apply _ q
  · exact tile_apply _ q
  · exact absurd (Or.inr rfl) h2
  all_goals exact absurd (by decide) h6

end Arrays

end Cert.Proj
-- ==== Proof.ProjValue.lean ====
/-
  The value of the projection call: its blocks read from the arrays, the eight heads of a normalised group put together,
  and the two result arrays written out.
-/
module

public import proofs.«01_k».proof.Proof.ProjArg

@[expose] public section

set_option maxRecDepth 16384

noncomputable section

namespace Cert.Proj

open Idealize.ShloMosaic Idealize.ShloMosaic.TcCoe Idealize.SL.Sem
open Cert.Kernel3Ideal Cert.Kernel3Ideal.Gen Cert.Kernel3Ideal.Hand

/-! ## The eight heads of a normalised group -/

/-- One head of a group normalised from the products `z` with the gain row `g`. -/
def headed (z : Vec Ideal S768x1024 .f32) (g : Vec Ideal S1x1x1024 .f32) : Vec Ideal S1x768x1024 .f32 := fun y =>
  z (ix2 (y 1) (y 2)) * Ideal.rsqrt (Ideal.div (∑ e : Fin 128, z (ix2 (y 1) (chan (headOf (y 2)) e)) * z (ix2 (y 1) (chan (headOf (y 2)) e)))
    (Ideal.ofBits .f32 0x43000000#32) + Ideal.ofBits .f32 0x358637BD#32) * g (ix3 0 0 (y 2))

theorem headOf_chan (a : Fin 8) (d : Fin 128) : headOf (chan a d) = a := Fin.ext (by show (a.val * 128 + d.val) / 128 = a.val; omega)

/-- One of the eight stores writes its head. -/
theorem head_piece (z : Vec Ideal S768x1024 .f32) (g : Vec Ideal S1x1x1024 .f32) (a : Fin 8) (o : ℕ) (ho : o = a.val * 128)
    (hin : ∀ b, (![0, 0, o] : Fin 3 → ℕ) b + S1x768x128.size b ≤ S1x768x1024.size b)
    (hg : ∀ b, (![0, 0, o] : Fin 3 → ℕ) b + S1x1x128.size b ≤ S1x1x1024.size b)
    (p : Vec Ideal S1x768x128 .f32)
    (hp : ∀ r d, p (ix3 0 r d) = piece z (View.ld g (Rect.unit (s := S1x1x1024) ![0, 0, o] S1x1x128.size hg)) a r d) (x : S1x768x128.Idx) :
    p x = headed z g ((Rect.unit (s := S1x768x1024) ![0, 0, o] S1x768x128.size hin).emb x) := by
  obtain ⟨u, r, d, rfl⟩ : ∃ (u : Fin 1) (r : Fin 768) (d : Fin 128), x = ix3 u r d := ⟨x 0, x 1, x 2, eq_ix3 x⟩
  obtain rfl : u = 0 := Subsingleton.elim _ _
  have hemb : (Rect.unit (s := S1x768x1024) ![0, 0, o] S1x768x128.size hin).emb (ix3 0 r d) = ix3 0 r (chan a d) := by
    funext b; apply Fin.ext
    match b with
    | ⟨0, _⟩ => rfl
    | ⟨1, _⟩ => show 0 + 1 * r.val = r.val; omega
    | ⟨2, _⟩ => show o + 1 * d.val = a.val * 128 + d.val; omega
  have hld : View.ld g (Rect.unit (s := S1x1x1024) ![0, 0, o] S1x1x128.size hg) (ix3 0 0 d) = g (ix3 0 0 (chan a d)) := by
    unfold View.ld
    congr 1
    funext b; apply Fin.ext
    match b with
    | ⟨0, _⟩ => rfl
    | ⟨1, _⟩ => rfl
    | ⟨2, _⟩ => show o + 1 * d.val = a.val * 128 + d.val; omega
  rw [hemb, hp]
  unfold piece
  rw [hld]
  show _ = z (ix2 r (chan a d)) * Ideal.rsqrt (Ideal.div (∑ e : Fin 128, z (ix2 r (chan (headOf (chan a d)) e)) * z (ix2 r (chan (headOf (chan a d)) e)))
    (Ideal.ofBits .f32 0x43000000#32) + Ideal.ofBits .f32 0x358637BD#32) * g (ix3 0 0 (chan a d))
  rw [headOf_chan]

theorem heads_canon (y : Vec Ideal S768x2048 .bf16) (w : Vec Ideal S2048x1024 .bf16) (g : Vec Ideal S1x1x1024 .f32) (i : S1x768x1024.Idx) :
    View.canon (heads y w g) i = headed (k0_pay4 y w) g i := by
  refine View.canon_apply_of_pieces (Val := Elt Ideal) (headed (k0_pay4 y w) g) _ ?_ i (heads_cover y w g i)
  intro p hp
  simp only [heads, List.mem_cons, List.not_mem_nil, or_false] at hp
  rcases hp with rfl | rfl | rfl | rfl | rfl | rfl | rfl | rfl
  · exact head_piece _ g 7 896 rfl inb_S1x768x1024_S1x768x128_0_0_896 inb_S1x1x1024_S1x1x128_0_0_896 _ (fun r d => store7_apply _ r d _ _)
  · exact head_piece _ g 6 768 rfl inb_S1x768x1024_S1x768x128_0_0_768 inb_S1x1x1024_S1x1x128_0_0_768 _ (fun r d => store6_apply _ _ r d)
  · exact head_piece _ g 5 640 rfl inb_S1x768x1024_S1x768x128_0_0_640 inb_S1x1x1024_S1x1x128_0_0_640 _ (fun r d => store5_apply _ _ r d)
  · exact head_piece _ g 4 512 rfl inb_S1x768x1024_S1x768x128_0_0_512 inb_S1x1x1024_S1x1x128_0_0_512 _ (fun r d => store4_apply _ _ r d)
  · exact head_piece _ g 3 384 rfl inb_S1x768x1024_S1x768x128_0_0_384 inb_S1x1x1024_S1x1x128_0_0_384 _ (fun r d => store3_apply _ _ r d)
  · exact head_piece _ g 2 256 rfl inb_S1x768x1024_S1x768x128_0_0_256 inb_S1x1x1024_S1x1x128_0_0_256 _ (fun r d => store2_apply _ _ r d)
  · exact head_piece _ g 1 128 rfl inb_S1x768x1024_S1x768x128_0_0_128 inb_S1x1x1024_S1x1x128_0_0_128 _ (fun r d => store1_apply _ _ r d)
  · exact head_piece _ g 0 0 rfl inb_S1x768x1024_S1x768x128_0_0_0 inb_S1x1x1024_S1x1x128_0_0_0 _ (fun r d => store0_apply _ _ r d)

/-! ## The blocks a point reads -/

theorem idx_facts : ∀ t : Fin cfg0.N,
    win0_0.index t (0 : Fin 2) = t.val / 10 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val % 10
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val % 10 ∧ win0_5.index t (1 : Fin 3) = 0 ∧ win0_5.index t (2 : Fin 3) = 0
    ∧ win0_6.index t (0 : Fin 3) = t.val % 10 ∧ win0_6.index t (1 : Fin 3) = t.val / 10 ∧ win0_6.index t (2 : Fin 3) = 0
    ∧ win0_7.index t (0 : Fin 2) = t.val / 10 ∧ win0_7.index t (1 : Fin 2) = 0 :=
  (by decide +kernel : ∀ t : Fin grid0.N, _)

theorem tlt (t : Fin cfg0.N) : t.val < 110 := lt_of_lt_of_eq t.isLt N_0

/-- Row `r` of point `t`'s row block. -/
def rowOf (t : Fin cfg0.N) (r : Fin 768) : Fin 8448 := ⟨t.val / 10 * 768 + r.val, by have := tlt t; omega⟩
/-- The group a point computes. -/
def grp (t : Fin cfg0.N) : Fin 10 := ⟨t.val % 10, by omega⟩
/-- Column `q` of point `t`'s group in the weight without its forget columns. -/
def wcol (t : Fin cfg0.N) (q : Fin 1024) : Fin 10240 := ⟨t.val % 10 * 1024 + q.val, by omega⟩

theorem wcol_col (t : Fin cfg0.N) (q : Fin 1024) (h : (wcol t q).val + (if (wcol t q).val < 6144 then 0 else 8) < 10248) :
    (⟨(wcol t q).val + if (wcol t q).val < 6144 then 0 else 8, h⟩ : Fin 10248) = col (grp t) q := by
  apply Fin.ext
  show (t.val % 10 * 1024 + q.val + if t.val % 10 * 1024 + q.val < 6144 then 0 else 8) = t.val % 10 * 1024 + q.val + if t.val % 10 < 6 then 0 else 8
  have := q.isLt
  by_cases h : t.val % 10 < 6
  · rw [if_pos h, if_pos (by omega)]
  · rw [if_neg h, if_neg (by omega)]

section Value
variable (m : (ℓ : Loc nD τ sig) → Buf (Elt Ideal) ℓ) (c : Dev nD)

theorem blk_x (t : Fin cfg0.N) (r : Fin 768) (k : Fin 2048) : iblk m c 0 t (ix2 r k) = aX m c (rowOf t r) k := by
  obtain ⟨e0, e1, -, -, -, -, -, -, -, -, -, -, -, -, -, -, -, -⟩ := idx_facts t
  have hV := V_main_arg0 m c
  unfold iblk
  rw [View.read_apply]
  show V m c main_arg0 _ = _
  rw [hV]
  show m ((c : Thread nD τ).loc main_arg0) _ = m ((c : Thread nD τ).loc main_arg0) _
  congr 1
  funext a; apply Fin.ext
  match a with
  | ⟨0, _⟩ => show win0_0.index t 0 * 768 + 1 * r.val = t.val / 10 * 768 + r.val; rw [e0]; omega
  | ⟨1, _⟩ => show win0_0.index t 1 * 2048 + 1 * k.val = k.val; rw [e1]; omega

theorem blk_norm (t : Fin cfg0.N) (k : Fin 2048) : iblk m c 1 t (ix2 0 k) = aG m c k := by
  obtain ⟨-, -, e0, e1, -, -, -, -, -, -, -, -, -, -, -, -, -, -⟩ := idx_facts t
  rw [← V_norm m c]
  unfold iblk
  rw [View.read_apply]
  show V m c main_v41 _ = V m c main_v41 _
  congr 1
  funext a; apply Fin.ext
  match a with
  | ⟨0, _⟩ => show win0_1.index t 0 * 1 + 1 * 0 = 0; rw [e0]
  | ⟨1, _⟩ => show win0_1.index t 1 * 2048 + 1 * k.val = k.val; rw [e1]; omega

theorem blk_weight (t : Fin cfg0.N) (k : Fin 2048) (q : Fin 1024) : iblk m c 2 t (ix2 k q) = aW m c k (col (grp t) q) := by
  obtain ⟨-, -, -, -, e0, e1, -, -, -, -, -, -, -, -, -, -, -, -⟩ := idx_facts t
  rw [← wcol_col t q (by split <;> omega), ← V_weight m c k (wcol t q)]
  unfold iblk
  rw [View.read_apply]
  show V m c main_v4 _ = V m c main_v4 _
  congr 1
  funext a; apply Fin.ext
  match a with
  | ⟨0, _⟩ => show win0_2.index t 0 * 2048 + 1 * k.val = k.val; rw [e0]; omega
  | ⟨1, _⟩ => show win0_2.index t 1 * 1024 + 1 * q.val = t.val % 10 * 1024 + q.val; rw [e1]; omega

theorem blk_forget (t : Fin cfg0.N) (k : Fin 2048) (l : Fin 128) : iblk m c 3 t (ix2 k l) = V m c main_v7 (ix2 k l) := by
  obtain ⟨-, -, -, -, -, -, e0, e1, -, -, -, -, -, -, -, -, -, -⟩ := idx_facts t
  unfold iblk
  rw [View.read_apply]
  show V m c main_v7 _ = V m c main_v7 _
  congr 1
  funext a; apply Fin.ext
  match a with
  | ⟨0, _⟩ => show win0_3.index t 0 * 2048 + 1 * k.val = k.val; rw [e0]; omega
  | ⟨1, _⟩ => show win0_3.index t 1 * 128 + 1 * l.val = l.val; rw [e1]; omega

theorem blk_bias (t : Fin cfg0.N) (l : Fin 128) : iblk m c 4 t (ix2 0 l) = V m c main_v10 (ix2 0 l) := by
  obtain ⟨-, -, -, -, -, -, -, -, e0, e1, -, -, -, -, -, -, -, -⟩ := idx_facts t
  unfold iblk
  rw [View.read_apply]
  show V m c main_v10 _ = V m c main_v10 _
  congr 1
  funext a; apply Fin.ext
  match a with
  | ⟨0, _⟩ => show win0_4.index t 0 * 1 + 1 * 0 = 0; rw [e0]
  | ⟨1, _⟩ => show win0_4.index t 1 * 128 + 1 * l.val = l.val; rw [e1]; omega

theorem blk_gain (t : Fin cfg0.N) (q : Fin 1024) : iblk m c 5 t (ix3 0 0 q) = V m c main_v39 (ix3 (grp t) 0 q) := by
  obtain ⟨-, -, -, -, -, -, -, -, -, -, e0, e1, e2, -, -, -, -, -⟩ := idx_facts t
  unfold iblk
  rw [View.read_apply]
  show V m c main_v39 _ = V m c main_v39 _
  congr 1
  funext a; apply Fin.ext
  match a with
  | ⟨0, _⟩ => show win0_5.index t 0 * 1 + 1 * 0 = t.val % 10; rw [e0]; omega
  | ⟨1, _⟩ => show win0_5.index t 1 * 1 + 1 * 0 = 0; rw [e1]
  | ⟨2, _⟩ => show win0_5.index t 2 * 1024 + 1 * q.val = q.val; rw [e2]; omega

/-! ## What a point computes -/

theorem rowOf_rp (t : Fin cfg0.N) (r : Fin 768) : rowOf (rp t) r = rowOf t r :=
  Fin.ext (by show t.val / 10 * 10 / 10 * 768 + r.val = t.val / 10 * 768 + r.val; omega)

theorem rows_first (t : Fin cfg0.N) (r : Fin 768) (k : Fin 2048) :
    k0_pay1 (iblk m c 0 (rp t)) (iblk m c 1 (rp t)) (ix2 r k) = normed (aX m c) (aG m c) (rowOf t r) k := by
  have h := fun k => blk_x m c (rp t) r k
  simp only [rowOf_rp] at h
  refine (pay1_apply _ _ r k).trans ?_
  unfold normed rowScale
  simp only [h, blk_norm]

theorem rows_at (t : Fin cfg0.N) (r : Fin 768) (k : Fin 2048) :
    rows m c t (ix2 r k) = normed (aX m c) (aG m c) (rowOf t r) k :=
  (pay2_apply _ _ r k).trans (rows_first m c t r k)

theorem prod_at (t : Fin cfg0.N) (r : Fin 768) (q : Fin 1024) :
    k0_pay4 (rows m c t) (iblk m c 2 t) (ix2 r q) = prod (aX m c) (aG m c) (aW m c) (rowOf t r) (col (grp t) q) :=
  (pay4_apply _ _ r q).trans (Finset.sum_congr rfl fun k _ => congrArg₂ (· * ·) (rows_at m c t r k) (blk_weight m c t k q))

/-- What a point stores in the first result. -/
theorem block_at (t : Fin cfg0.N) (r : Fin 768) (q : Fin 1024) :
    block m c t (ix3 0 r q)
      = group (aX m c) (aG m c) (aW m c) (aG0 m c) (aG1 m c) (aG3 m c) (aG4 m c) (grp t) (rowOf t r) q := by
  unfold block group
  show _ = if 6 ≤ t.val % 10 then _ else if t.val % 10 = 2 ∨ t.val % 10 = 5 then _ else _
  by_cases h6 : 6 ≤ t.val % 10
  · rw [if_pos h6, if_pos h6]
    exact (pay8_apply _ _ r q).trans (congrArg Ideal.logistic (prod_at m c t r q))
  rw [if_neg h6, if_neg h6]
  by_cases h2 : t.val % 10 = 2 ∨ t.val % 10 = 5
  · rw [if_pos h2, if_pos h2]
    exact (pay7_apply _ _ r q).trans (prod_at m c t r q)
  rw [if_neg h2, if_neg h2]
  refine (heads_canon _ _ _ _).trans ?_
  have hg : iblk m c 5 t (ix3 0 0 q) = gain (aG0 m c) (aG1 m c) (aG3 m c) (aG4 m c) (grp t) (within q) :=
    (blk_gain m c t q).trans (V_gain m c (grp t) h2 h6 q)
  have hz := fun q => prod_at m c t r q
  show k0_pay4 (rows m c t) (iblk m c 2 t) (ix2 r q)
      * Ideal.rsqrt (Ideal.div (∑ e : Fin 128, k0_pay4 (rows m c t) (iblk m c 2 t) (ix2 r (chan (headOf q) e)) * k0_pay4 (rows m c t) (iblk m c 2 t) (ix2 r (chan (headOf q) e)))
        (Ideal.ofBits .f32 0x43000000#32) + Ideal.ofBits .f32 0x358637BD#32) * iblk m c 5 t (ix3 0 0 q) = _
  unfold headNorm
  simp only [hz, hg]

/-- The kernel's second result on all 128 lanes. -/
def lanes (r : Fin 8448) (l : Fin 128) : EReal :=
  logSigmoid (∑ k, normed (aX m c) (aG m c) r k * V m c main_v7 (ix2 k l) + V m c main_v10 (ix2 0 l))

theorem lanes_head (r : Fin 8448) (l : Fin 128) (hl : l.val < 8) :
    lanes m c r l = logf (aX m c) (aG m c) (aW m c) (aB m c) r ⟨l.val, hl⟩ := by
  unfold lanes logf prod
  rw [V_bias m c l hl]
  congr 2
  exact Finset.sum_congr rfl fun k _ => congrArg _ (V_forget m c k l hl)

theorem gate_at (t : Fin cfg0.N) (r : Fin 768) (l : Fin 128) : gate m c t (ix2 r l) = lanes m c (rowOf t r) l := by
  refine (pay3_apply _ _ _ _ r l).trans ?_
  unfold lanes
  exact congrArg logSigmoid (congrArg₂ (· + ·) (Finset.sum_congr rfl fun k _ => congrArg₂ (· * ·) (rows_first m c t r k)
    (blk_forget m c (rp t) k l)) (blk_bias m c (rp t) l))

/-! ## The result arrays -/

/-- The kernel's first result. -/
def G0 : Buf (Elt Ideal) ((c : Thread nD τ).loc main_v42_0) := fun i =>
  group (aX m c) (aG m c) (aW m c) (aG0 m c) (aG1 m c) (aG3 m c) (aG4 m c) (i 0) (i 1) (i 2)

/-- The kernel's second result. -/
def G1 : Buf (Elt Ideal) ((c : Thread nD τ).loc main_v42_1) := fun i => lanes m c (i 0) (i 1)

theorem result0 : (dats m 0 c).arrAt 6 cfg0.N = G0 m c := by
  refine (dats m 0 c).arrAt_eq_of_covers 6 _ (by decide +kernel) fun t hf y => ?_
  obtain ⟨-, -, -, -, -, -, -, -, -, -, -, -, -, e0, e1, e2, -, -⟩ := idx_facts t
  blk_simp
  obtain ⟨u, r, q, rfl⟩ : ∃ (u : Fin 1) (r : Fin 768) (q : Fin 1024), y = ix3 u r q := ⟨y 0, y 1, y 2, eq_ix3 y⟩
  obtain rfl : u = 0 := Subsingleton.elim _ _
  have hemb : (win0_6.blk t).view.emb (ix3 0 r q) = ix3 (grp t) (rowOf t r) q := by
    funext a; apply Fin.ext
    match a with
    | ⟨0, _⟩ => show win0_6.index t 0 * 1 + 1 * 0 = t.val % 10; rw [e0]; omega
    | ⟨1, _⟩ => show win0_6.index t 1 * 768 + 1 * r.val = t.val / 10 * 768 + r.val; rw [e1]; omega
    | ⟨2, _⟩ => show win0_6.index t 2 * 1024 + 1 * q.val = q.val; rw [e2]; omega
  rw [hemb, after6]
  exact block_at m c t r q

theorem result1 : (dats m 0 c).arrAt 7 cfg0.N = G1 m c := by
  refine (dats m 0 c).arrAt_eq_of_covers 7 _ (by decide +kernel) fun t hf y => ?_
  obtain ⟨-, -, -, -, -, -, -, -, -, -, -, -, -, -, -, -, e0, e1⟩ := idx_facts t
  blk_simp
  obtain ⟨r, l, rfl⟩ : ∃ (r : Fin 768) (l : Fin 128), y = ix2 r l := ⟨y 0, y 1, eq_ix2 y⟩
  have hemb : (win0_7.blk t).view.emb (ix2 r l) = ix2 (rowOf t r) l := by
    funext a; apply Fin.ext
    match a with
    | ⟨0, _⟩ => show win0_7.index t 0 * 768 + 1 * r.val = t.val / 10 * 768 + r.val; rw [e0]; omega
    | ⟨1, _⟩ => show win0_7.index t 1 * 128 + 1 * l.val = l.val; rw [e1]; omega
  rw [hemb, after7]
  exact gate_at m c t r l

end Value

end Cert.Proj
-- ==== Proof.ProjRef.lean ====
/-
  The projections' reference, read at an index.
-/
module

public import proofs.«01_k».proof.Proof.ProjSpec
public import proofs.«01_k».proof.Proof.Gen.Reference3Ideal.Run
public import proofs.«01_k».proof.Proof.Gen.Reference3Ideal.Read
public import Idealize.ShloMosaic.Lib.Pointwise

@[expose] public section

set_option maxRecDepth 16384

noncomputable section

namespace Cert.Proj

open Idealize.ShloMosaic Idealize.ShloMosaic.TcCoe Idealize.SL.Sem
open Cert.Reference3Ideal Cert.Reference3Ideal.Gen Cert.Reference3Ideal.Read

variable (x0 : (⟨S8448x2048, .f32⟩ : BufTy).Contents (Elt Ideal)) (x1 : (⟨S1x2048, .f32⟩ : BufTy).Contents (Elt Ideal))
  (x2 : (⟨S1x2048x10248, .f32⟩ : BufTy).Contents (Elt Ideal)) (x3 : (⟨S1x8, .f32⟩ : BufTy).Contents (Elt Ideal))
  (x4 x5 x6 x7 : (⟨S1x128, .f32⟩ : BufTy).Contents (Elt Ideal))

abbrev rX : Fin 8448 → Fin 2048 → EReal := fun r k => x0 (ix2 r k)
abbrev rG : Fin 2048 → EReal := fun k => x1 (ix2 0 k)
abbrev rW : Fin 2048 → Fin 10248 → EReal := fun k n => x2 (ix3 0 k n)
abbrev rB : Fin 8 → EReal := fun a => x3 (ix2 0 a)
abbrev rH (y : (⟨S1x128, .f32⟩ : BufTy).Contents (Elt Ideal)) : Fin 128 → EReal := fun d => y (ix2 0 d)

theorem normed_apply (r : Fin 8448) (k : Fin 2048) :
    val_main_v13 (F := Ideal) x0 x1 (ix2 r k) = normed (rX x0) (rG x1) r k := by
  unfold val_main_v13 val_main_v12 val_main_v11 val_main_v10 val_main_v9 val_main_v8 val_main_v7 val_main_v6 val_main_cst_1
    val_main_v5 val_main_v4 val_main_cst_0 val_main_v3 val_main_v2 val_main_cst val_main_v1 val_main_v0
  pointwise
  rfl

theorem prod_apply (r : Fin 8448) (n : Fin 10248) :
    val_main_v15 (F := Ideal) x0 x1 x2 (ix2 r n) = prod (rX x0) (rG x1) (rW x2) r n := by
  have h := fun k => normed_apply x0 x1 r k
  unfold val_main_v15 val_main_v14
  generalize val_main_v13 (F := Ideal) x0 x1 = y at h ⊢
  pointwise [dot_S8448x2048_S2048x10248_S8448x10248_1_0_0_1_n_n]
  simp only [h]
  rfl

/-- Rows normalised per head. -/
theorem heads_apply (y : FVec Ideal S8448x1024 .f32) (g : FVec Ideal S1x128 .f32) (r : Fin 8448) (q : Fin 1024) :
    shapeCast S8448x1024 (mulf (mulf (shapeCast S8448x8x128 y shapeCasts_S8448x1024_S8448x8x128)
        (broadcastInDim S8448x8x128 ![0, 1, 2] bcast_S8448x8x1_S8448x8x128_0_1_2
          (Host.rsqrt (addf (Host.divf (broadcastInDim S8448x8x1 ![0, 1] bcast_S8448x8_S8448x8x1_0_1
            (Host.reduceAdd (mulf (shapeCast S8448x8x128 y shapeCasts_S8448x1024_S8448x8x128) (shapeCast S8448x8x128 y shapeCasts_S8448x1024_S8448x8x128))
              (constant (F := Ideal) S_ .f32 0x00000000#32) reducesTo_S8448x8x128_S8448x8_d2 h_S_))
            (broadcastInDim S8448x8x1 ![] bcast_S_S8448x8x1 (constant (F := Ideal) S_ .f32 0x43000000#32)))
            (broadcastInDim S8448x8x1 ![] bcast_S_S8448x8x1 (constant (F := Ideal) S_ .f32 0x358637BD#32))))))
        (broadcastInDim S8448x8x128 ![0, 1, 2] bcast_S1x1x128_S8448x8x128_0_1_2
          (broadcastInDim S1x1x128 ![2] bcast_S128_S1x1x128_2 (shapeCast S128 g shapeCasts_S1x128_S128))))
      shapeCasts_S8448x8x128_S8448x1024 (ix2 r q)
    = headNorm (fun q => y (ix2 r q)) (rH g) q := by
  pointwise
  rfl

theorem pieces_apply (y0 y1 y2 y3 y4 y5 y6 y7 y8 y9 : (⟨S8448x1024, .f32⟩ : BufTy).Contents (Elt Ideal)) (j : Fin 10) (r : Fin 8448) (q : Fin 1024) :
    (concatenate S10x8448x1024 0 [⟨S1x8448x1024, (broadcastInDim S1x8448x1024 ![1, 2] bcast_S8448x1024_S1x8448x1024_1_2 y0 : (⟨S1x8448x1024, .f32⟩ : BufTy).Contents (Elt Ideal))⟩,
      ⟨S1x8448x1024, (broadcastInDim S1x8448x1024 ![1, 2] bcast_S8448x1024_S1x8448x1024_1_2 y1 : (⟨S1x8448x1024, .f32⟩ : BufTy).Contents (Elt Ideal))⟩,
      ⟨S1x8448x1024, (broadcastInDim S1x8448x1024 ![1, 2] bcast_S8448x1024_S1x8448x1024_1_2 y2 : (⟨S1x8448x1024, .f32⟩ : BufTy).Contents (Elt Ideal))⟩,
      ⟨S1x8448x1024, (broadcastInDim S1x8448x1024 ![1, 2] bcast_S8448x1024_S1x8448x1024_1_2 y3 : (⟨S1x8448x1024, .f32⟩ : BufTy).Contents (Elt Ideal))⟩,
      ⟨S1x8448x1024, (broadcastInDim S1x8448x1024 ![1, 2] bcast_S8448x1024_S1x8448x1024_1_2 y4 : (⟨S1x8448x1024, .f32⟩ : BufTy).Contents (Elt Ideal))⟩,
      ⟨S1x8448x1024, (broadcastInDim S1x8448x1024 ![1, 2] bcast_S8448x1024_S1x8448x1024_1_2 y5 : (⟨S1x8448x1024, .f32⟩ : BufTy).Contents (Elt Ideal))⟩,
      ⟨S1x8448x1024, (broadcastInDim S1x8448x1024 ![1, 2] bcast_S8448x1024_S1x8448x1024_1_2 y6 : (⟨S1x8448x1024, .f32⟩ : BufTy).Contents (Elt Ideal))⟩,
      ⟨S1x8448x1024, (broadcastInDim S1x8448x1024 ![1, 2] bcast_S8448x1024_S1x8448x1024_1_2 y7 : (⟨S1x8448x1024, .f32⟩ : BufTy).Contents (Elt Ideal))⟩,
      ⟨S1x8448x1024, (broadcastInDim S1x8448x1024 ![1, 2] bcast_S8448x1024_S1x8448x1024_1_2 y8 : (⟨S1x8448x1024, .f32⟩ : BufTy).Contents (Elt Ideal))⟩,
      ⟨S1x8448x1024, (broadcastInDim S1x8448x1024 ![1, 2] bcast_S8448x1024_S1x8448x1024_1_2 y9 : (⟨S1x8448x1024, .f32⟩ : BufTy).Contents (Elt Ideal))⟩]
      concatenates_S1x8448x1024_S1x8448x1024_S1x8448x1024_S1x8448x1024_S1x8448x1024_S1x8448x1024_S1x8448x1024_S1x8448x1024_S1x8448x1024_S1x8448x1024_S10x8448x1024_d0
        : (⟨S10x8448x1024, .f32⟩ : BufTy).Contents (Elt Ideal)) (ix3 j r q)
    = (![y0, y1, y2, y3, y4, y5, y6, y7, y8, y9] j) (ix2 r q) := by
  pointwise
  fin_cases j <;> rfl

/-- The logistic function, written out. -/
theorem gate_apply (y : FVec Ideal S8448x2048 .f32) (r : Fin 8448) (q : Fin 2048) :
    Host.divf (broadcastInDim S8448x2048 ![] bcast_S_S8448x2048 (constant (F := Ideal) S_ .f32 0x3F800000#32))
      (addf (broadcastInDim S8448x2048 ![] bcast_S_S8448x2048 (constant (F := Ideal) S_ .f32 0x3F800000#32)) (Host.exp (Host.negf y))) (ix2 r q)
    = Ideal.logistic (y (ix2 r q)) := by
  pointwise
  try rfl

theorem forget_apply (r : Fin 8448) (a : Fin 8) :
    val_main_v20 (F := Ideal) x0 x1 x2 x3 (ix2 r a) = prod (rX x0) (rG x1) (rW x2) r (fcol a) + rB x3 a := by
  have h := fun n => prod_apply x0 x1 x2 r n
  unfold val_main_v20 val_main_v19 val_main_v18 val_main_v17 val_main_v16
  generalize val_main_v15 (F := Ideal) x0 x1 x2 = y at h ⊢
  pointwise
  rw [← h]
  rfl

theorem logf_apply (r : Fin 8448) (a : Fin 8) :
    val_main_v21 (F := Ideal) x0 x1 x2 x3 (ix2 r a) = logf (rX x0) (rG x1) (rW x2) (rB x3) r a := by
  have h := forget_apply x0 x1 x2 x3 r a
  unfold val_main_v21 val_main_call0_v1 val_main_call0_call0_v11 val_main_call0_call0_v10 val_main_call0_call0_v9
    val_main_call0_call0_v8 val_main_call0_call0_v7 val_main_call0_call0_v6 val_main_call0_call0_v5 val_main_call0_call0_v4
    val_main_call0_call0_v3 val_main_call0_call0_v2 val_main_call0_call0_v1 val_main_call0_call0_v0 val_main_call0_call0_cst val_main_call0_v0
  generalize val_main_v20 (F := Ideal) x0 x1 x2 x3 = y at h ⊢
  pointwise
  rw [h]
  unfold logf
  rw [← logSigmoid_eq, if_neg (not_not.mpr rfl)]
  generalize prod (rX x0) (rG x1) (rW x2) r (fcol a) + rB x3 a = t
  show -(max (-t) 0 + Ideal.log1p (Ideal.exp (-max (-t) (-(-t))))) = _
  rw [neg_neg]

theorem second_apply (r : Fin 8448) (l : Fin 128) (hl : l.val < 8) :
    val_main_v121 (F := Ideal) x0 x1 x2 x3 (ix2 r l) = logf (rX x0) (rG x1) (rW x2) (rB x3) r ⟨l.val, hl⟩ := by
  have h := fun a => logf_apply x0 x1 x2 x3 r a
  unfold val_main_v121
  generalize val_main_v21 (F := Ideal) x0 x1 x2 x3 = y at h ⊢
  generalize val_main_call1_v0 (F := Ideal) = z
  pointwise
  rw [dif_pos hl]
  exact h _

theorem slice0_apply (r : Fin 8448) (q : Fin 1024) :
    val_main_v37 (F := Ideal) x0 x1 x2 (ix2 r q) = prod (rX x0) (rG x1) (rW x2) r (col 0 q) := by
  have h := fun n => prod_apply x0 x1 x2 r n
  unfold val_main_v37
  generalize val_main_v15 (F := Ideal) x0 x1 x2 = y at h ⊢
  pointwise
  rw [← h]
  congr 2
  apply Fin.ext
  show q.val = 0 * 1024 + q.val + if 0 < 6 then 0 else 8
  rw [if_pos (by decide)]
  omega

theorem slice1_apply (r : Fin 8448) (q : Fin 1024) :
    val_main_v54 (F := Ideal) x0 x1 x2 (ix2 r q) = prod (rX x0) (rG x1) (rW x2) r (col 1 q) := by
  have h := fun n => prod_apply x0 x1 x2 r n
  unfold val_main_v54
  generalize val_main_v15 (F := Ideal) x0 x1 x2 = y at h ⊢
  pointwise
  rw [← h]
  congr 2

theorem slice2_apply (r : Fin 8448) (q : Fin 1024) :
    val_main_v70 (F := Ideal) x0 x1 x2 (ix2 r q) = prod (rX x0) (rG x1) (rW x2) r (col 2 q) := by
  have h := fun n => prod_apply x0 x1 x2 r n
  unfold val_main_v70
  generalize val_main_v15 (F := Ideal) x0 x1 x2 = y at h ⊢
  pointwise
  rw [← h]
  congr 2

theorem slice3_apply (r : Fin 8448) (q : Fin 1024) :
    val_main_v72 (F := Ideal) x0 x1 x2 (ix2 r q) = prod (rX x0) (rG x1) (rW x2) r (col 3 q) := by
  have h := fun n => prod_apply x0 x1 x2 r n
  unfold val_main_v72
  generalize val_main_v15 (F := Ideal) x0 x1 x2 = y at h ⊢
  pointwise
  rw [← h]
  congr 2

theorem slice4_apply (r : Fin 8448) (q : Fin 1024) :
    val_main_v89 (F := Ideal) x0 x1 x2 (ix2 r q) = prod (rX x0) (rG x1) (rW x2) r (col 4 q) := by
  have h := fun n => prod_apply x0 x1 x2 r n
  unfold val_main_v89
  generalize val_main_v15 (F := Ideal) x0 x1 x2 = y at h ⊢
  pointwise
  rw [← h]
  congr 2

theorem slice5_apply (r : Fin 8448) (q : Fin 1024) :
    val_main_v105 (F := Ideal) x0 x1 x2 (ix2 r q) = prod (rX x0) (rG x1) (rW x2) r (col 5 q) := by
  have h := fun n => prod_apply x0 x1 x2 r n
  unfold val_main_v105
  generalize val_main_v15 (F := Ideal) x0 x1 x2 = y at h ⊢
  pointwise
  rw [← h]
  congr 2

theorem gate_a (r : Fin 8448) (q : Fin 2048) :
    val_main_v28 (F := Ideal) x0 x1 x2 (ix2 r q) = Ideal.logistic (prod (rX x0) (rG x1) (rW x2) r ⟨6152 + q.val, by omega⟩) := by
  have h := fun n => prod_apply x0 x1 x2 r n
  have e : val_main_v22 (F := Ideal) x0 x1 x2 (ix2 r q) = prod (rX x0) (rG x1) (rW x2) r ⟨6152 + q.val, by omega⟩ := by
    unfold val_main_v22
    generalize val_main_v15 (F := Ideal) x0 x1 x2 = y at h ⊢
    pointwise
    rw [← h]
    try rfl
  rw [← e]
  exact gate_apply _ r q

theorem gate_b (r : Fin 8448) (q : Fin 2048) :
    val_main_v35 (F := Ideal) x0 x1 x2 (ix2 r q) = Ideal.logistic (prod (rX x0) (rG x1) (rW x2) r ⟨8200 + q.val, by omega⟩) := by
  have h := fun n => prod_apply x0 x1 x2 r n
  have e : val_main_v29 (F := Ideal) x0 x1 x2 (ix2 r q) = prod (rX x0) (rG x1) (rW x2) r ⟨8200 + q.val, by omega⟩ := by
    unfold val_main_v29
    generalize val_main_v15 (F := Ideal) x0 x1 x2 = y at h ⊢
    pointwise
    rw [← h]
    try rfl
  rw [← e]
  exact gate_apply _ r q

theorem slice6_apply (r : Fin 8448) (q : Fin 1024) :
    val_main_v106 (F := Ideal) x0 x1 x2 (ix2 r q) = Ideal.logistic (prod (rX x0) (rG x1) (rW x2) r (col 6 q)) := by
  have h := fun n => gate_a x0 x1 x2 r n
  have e : col 6 q = ⟨6152 + (0 + q.val), by omega⟩ := by
    apply Fin.ext
    show 6 * 1024 + q.val + (if 6 < 6 then 0 else 8) = 6152 + (0 + q.val)
    rw [if_neg (by decide)]
    omega
  rw [e]
  refine Eq.trans ?_ (h ⟨0 + q.val, by omega⟩)
  unfold val_main_v106
  generalize val_main_v28 (F := Ideal) x0 x1 x2 = y
  pointwise
  try rfl

theorem slice7_apply (r : Fin 8448) (q : Fin 1024) :
    val_main_v107 (F := Ideal) x0 x1 x2 (ix2 r q) = Ideal.logistic (prod (rX x0) (rG x1) (rW x2) r (col 7 q)) := by
  have h := fun n => gate_a x0 x1 x2 r n
  have e : col 7 q = ⟨6152 + (1024 + q.val), by omega⟩ := by
    apply Fin.ext
    show 7 * 1024 + q.val + (if 7 < 6 then 0 else 8) = 6152 + (1024 + q.val)
    rw [if_neg (by decide)]
    omega
  rw [e]
  refine Eq.trans ?_ (h ⟨1024 + q.val, by omega⟩)
  unfold val_main_v107
  generalize val_main_v28 (F := Ideal) x0 x1 x2 = y
  pointwise
  try rfl

theorem slice8_apply (r : Fin 8448) (q : Fin 1024) :
    val_main_v108 (F := Ideal) x0 x1 x2 (ix2 r q) = Ideal.logistic (prod (rX x0) (rG x1) (rW x2) r (col 8 q)) := by
  have h := fun n => gate_b x0 x1 x2 r n
  have e : col 8 q = ⟨8200 + (0 + q.val), by omega⟩ := by
    apply Fin.ext
    show 8 * 1024 + q.val + (if 8 < 6 then 0 else 8) = 8200 + (0 + q.val)
    rw [if_neg (by decide)]
    omega
  rw [e]
  refine Eq.trans ?_ (h ⟨0 + q.val, by omega⟩)
  unfold val_main_v108
  generalize val_main_v35 (F := Ideal) x0 x1 x2 = y
  pointwise
  try rfl

theorem slice9_apply (r : Fin 8448) (q : Fin 1024) :
    val_main_v109 (F := Ideal) x0 x1 x2 (ix2 r q) = Ideal.logistic (prod (rX x0) (rG x1) (rW x2) r (col 9 q)) := by
  have h := fun n => gate_b x0 x1 x2 r n
  have e : col 9 q = ⟨8200 + (1024 + q.val), by omega⟩ := by
    apply Fin.ext
    show 9 * 1024 + q.val + (if 9 < 6 then 0 else 8) = 8200 + (1024 + q.val)
    rw [if_neg (by decide)]
    omega
  rw [e]
  refine Eq.trans ?_ (h ⟨1024 + q.val, by omega⟩)
  unfold val_main_v109
  generalize val_main_v35 (F := Ideal) x0 x1 x2 = y
  pointwise
  try rfl

theorem first_apply (j : Fin 10) (r : Fin 8448) (q : Fin 1024) :
    val_main_v120 (F := Ideal) x0 x1 x2 x4 x5 x6 x7 (ix3 j r q)
      = group (rX x0) (rG x1) (rW x2) (rH x4) (rH x5) (rH x6) (rH x7) j r q := by
  refine (pieces_apply (val_main_v52 (F := Ideal) x0 x1 x2 x4) (val_main_v69 (F := Ideal) x0 x1 x2 x5) (val_main_v70 (F := Ideal) x0 x1 x2)
    (val_main_v87 (F := Ideal) x0 x1 x2 x6) (val_main_v104 (F := Ideal) x0 x1 x2 x7) (val_main_v105 (F := Ideal) x0 x1 x2)
    (val_main_v106 (F := Ideal) x0 x1 x2) (val_main_v107 (F := Ideal) x0 x1 x2) (val_main_v108 (F := Ideal) x0 x1 x2)
    (val_main_v109 (F := Ideal) x0 x1 x2) j r q).trans ?_
  fin_cases j
  · refine (heads_apply (val_main_v37 (F := Ideal) x0 x1 x2) x4 r q).trans ?_
    exact congrArg (fun y => headNorm y (rH x4) q) (funext fun q => slice0_apply x0 x1 x2 r q)
  · refine (heads_apply (val_main_v54 (F := Ideal) x0 x1 x2) x5 r q).trans ?_
    exact congrArg (fun y => headNorm y (rH x5) q) (funext fun q => slice1_apply x0 x1 x2 r q)
  · exact slice2_apply x0 x1 x2 r q
  · refine (heads_apply (val_main_v72 (F := Ideal) x0 x1 x2) x6 r q).trans ?_
    exact congrArg (fun y => headNorm y (rH x6) q) (funext fun q => slice3_apply x0 x1 x2 r q)
  · refine (heads_apply (val_main_v89 (F := Ideal) x0 x1 x2) x7 r q).trans ?_
    exact congrArg (fun y => headNorm y (rH x7) q) (funext fun q => slice4_apply x0 x1 x2 r q)
  · exact slice5_apply x0 x1 x2 r q
  · exact slice6_apply x0 x1 x2 r q
  · exact slice7_apply x0 x1 x2 r q
  · exact slice8_apply x0 x1 x2 r q
  · exact slice9_apply x0 x1 x2 r q

end Cert.Proj
-- ==== Proof.ProjClaim.lean ====
/-
  The projections' claims: the frames of the call's two readings and of the reference, and equality of the two results,
  of the second on the eight lanes that stand for heads.
-/
module

public import proofs.«01_k».proof.Defs
public import proofs.«01_k».proof.Proof.ProjValue
public import proofs.«01_k».proof.Proof.ProjRef
public import proofs.«01_k».proof.Proof.ProjFrame
public import proofs.«01_k».proof.Proof.Gen.On_head_lanes
public import Idealize.ShloMosaic.Lib.Quiescent

@[expose] public section

set_option maxRecDepth 16384

noncomputable section

namespace Cert.Proj

open Idealize.ShloMosaic Idealize.ShloMosaic.TcCoe Idealize.SL.Sem

theorem frame_kernel : Cert.quiescent_Kernel3 := fun m ρ _ => Cert.Kernel3.Hand.frame m ρ

theorem frame_kernel_ideal : Cert.quiescent_Kernel3Ideal := fun m ρ _ => Cert.Kernel3Ideal.Hand.frame m ρ

theorem frame_reference : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run m ρ)

/-- A lane under eight, read as a signed comparison. -/
theorem lane_lt : ∀ l : Fin 128, Scalar.cmpi .slt (BitVec.ofNat 32 l.val) 8#32 = 1#1 → l.val < 8 := by decide +kernel

/-- Where the second mask holds, the lane is one of the eight heads. -/
theorem mask_lane (a0 : FVec Ideal Cert.On_head_lanes.S8448x2048 .f32) (a1 : FVec Ideal Cert.On_head_lanes.S1x2048 .f32)
    (a2 : FVec Ideal Cert.On_head_lanes.S1x2048x10248 .f32) (a3 : FVec Ideal Cert.On_head_lanes.S1x8 .f32)
    (a4 a5 a6 a7 : FVec Ideal Cert.On_head_lanes.S1x128 .f32) (r : Fin 8448) (l : Fin 128)
    (h : (Cert.On_head_lanes.fn (F := Ideal) a0 a1 a2 a3 a4 a5 a6 a7).2 (ix2 r l) = 1#1) : l.val < 8 :=
  lane_lt l h

/-- The common second result: the log forget gates on the head lanes. -/
def G1h (m : (ℓ : Loc Cert.Kernel3Ideal.nD Cert.Kernel3Ideal.τ Cert.Kernel3Ideal.sig) → Buf (Elt Ideal) ℓ)
    (c : Dev Cert.Kernel3Ideal.nD) :
    Buf (Elt Ideal) ((c : Thread Cert.Kernel3Ideal.nD Cert.Kernel3Ideal.τ).loc Cert.Kernel3Ideal.main_v42_1) := fun i =>
  if h : (i 1).val < 8 then logf (aX m c) (aG m c) (aW m c) (aB m c) (i 0) ⟨(i 1).val, h⟩ else (0 : EReal)

/-- Kernel and reference end with the same arrays, the second on the head lanes. -/
theorem algebraic : Cert.algebraic_Kernel3Ideal_Reference3Ideal_on_head_lanes := by
  intro m ρ m' ρ' _ hagree
  refine ⟨fun c => G0 m c, fun c => G1h m c, (θ_run Cert.Kernel3Ideal.defs _ _).mono
    (fun r h c => ⟨fun i _ => congrFun (((h.1 c).1 6).trans (result0 m c)) i, fun i hi => ?_, (h.2.1 c)⟩)
    (θ_run_and (Cert.Kernel3Ideal.Hand.run_main m ρ) (Cert.Kernel3Ideal.Hand.frame m ρ)),
    (θ_run Cert.Reference3Ideal.defs _ _).mono (fun r h c => ⟨fun i _ => ?_, fun i hi => ?_, (h c).2.2⟩)
      (Cert.Reference3Ideal.Value.run m' ρ')⟩
  · obtain ⟨p, l, rfl⟩ : ∃ (p : Fin 8448) (l : Fin 128), i = ix2 p l := ⟨i 0, i 1, eq_ix2 i⟩
    have hl := mask_lane _ _ _ _ _ _ _ _ p l hi
    refine (congrFun (((h.1 c).1 7).trans (result1 m c)) (ix2 p l)).trans ?_
    show lanes m c p l = if h : l.val < 8 then logf (aX m c) (aG m c) (aW m c) (aB m c) p ⟨l.val, h⟩ else (0 : EReal)
    rw [dif_pos hl]
    exact lanes_head m c p l hl
  · obtain ⟨e0, e1, e2, e3, e4, e5, e6, e7⟩ := hagree c
    obtain ⟨j, p, q, rfl⟩ : ∃ (j : Fin 10) (p : Fin 8448) (q : Fin 1024), i = ix3 j p q := ⟨i 0, i 1, i 2, eq_ix3 i⟩
    rw [(h c).1, Cert.Reference3Ideal.Read.val_main_v120_eq, e0, e1, e2, e4, e5, e6, e7]
    exact first_apply _ _ _ _ _ _ _ j p q
  · obtain ⟨e0, e1, e2, e3, e4, e5, e6, e7⟩ := hagree c
    obtain ⟨p, l, rfl⟩ : ∃ (p : Fin 8448) (l : Fin 128), i = ix2 p l := ⟨i 0, i 1, eq_ix2 i⟩
    have hl := mask_lane _ _ _ _ _ _ _ _ p l hi
    rw [(h c).2.1, Cert.Reference3Ideal.Read.val_main_v121_eq, e0, e1, e2, e3]
    refine (second_apply _ _ _ _ p l hl).trans ?_
    show _ = if h : l.val < 8 then logf (aX m c) (aG m c) (aW m c) (aB m c) p ⟨l.val, h⟩ else (0 : EReal)
    rw [dif_pos hl]

end Cert.Proj
-- ==== Proof.SufSpec.lean ====
/-
  The suffix sums of the log forget values, written out, and the algebra that leads to them: the three-way split of a factor
  adds up to the factor, and the sums within a page and over the later pages add up to the sum over all later positions.
-/
module

public import Idealize.ShloMosaic.PureOps.Ideal
public import Mathlib.Algebra.BigOperators.Fin

@[expose] public section

set_option maxRecDepth 16384

noncomputable section

namespace Cert.Suffix

open Idealize.ShloMosaic

/-! ## Sums -/

theorem sum_split {M : Type} [AddCommMonoid M] (a n N : ℕ) (hN : a * n = N) (g : Fin N → M) :
    ∑ k, g k = ∑ i : Fin a, ∑ d : Fin n, g ⟨i.val * n + d.val, by
      have h := (finProdFinEquiv (i, d)).isLt
      have e : (finProdFinEquiv (i, d)).val = d.val + n * i.val := rfl
      rw [e, Nat.mul_comm] at h; omega⟩ := by
  subst hN
  rw [← finProdFinEquiv.sum_comp, Fintype.sum_prod_type]
  refine Finset.sum_congr rfl fun i _ => Finset.sum_congr rfl fun d _ => congrArg g (Fin.ext ?_)
  show d.val + n * i.val = i.val * n + d.val
  rw [Nat.mul_comm, Nat.add_comm]

/-- The parts that the split of a number below infinity leaves add up to the number. -/
theorem parts (x : EReal) (h : x ≠ ⊤) : x + (x - x) + (x - x - (x - x)) = x := by
  induction x with
  | bot => simp
  | top => exact absurd rfl h
  | coe r => rw [← EReal.coe_sub, sub_self]; simp

/-- Three products with the parts of a factor, where the other factor is zero or one. -/
theorem parts_sum {n : ℕ} (x w : Fin n → EReal) (hx : ∀ k, x k ≠ ⊤) (hw : ∀ k, w k = 0 ∨ w k = 1) :
    ∑ k, x k * w k + ∑ k, (x k - x k) * w k + ∑ k, (x k - x k - (x k - x k)) * w k = ∑ k, x k * w k := by
  rw [← Finset.sum_add_distrib, ← Finset.sum_add_distrib]
  refine Finset.sum_congr rfl fun k _ => ?_
  rcases hw k with h | h
  · rw [h]; simp
  · rw [h]; simp only [mul_one]; exact parts _ (hx k)

theorem sum_ne_top {n : ℕ} (x : Fin n → EReal) (hx : ∀ k, x k ≠ ⊤) (s : Finset (Fin n)) : ∑ k ∈ s, x k ≠ ⊤ := by
  classical
  induction s using Finset.induction with
  | empty => simp
  | insert a s ha ih => rw [Finset.sum_insert ha]; exact EReal.add_ne_top (hx a) ih

/-! ## The result -/

/-- The head of a channel. -/
def headOf (q : Fin 1024) : Fin 8 := ⟨q.val / 128, by omega⟩
/-- The position within its page. -/
def within (q : Fin 1024) : Fin 128 := ⟨q.val % 128, by omega⟩
/-- Position `d` of head `a`. -/
def chan (a : Fin 8) (d : Fin 128) : Fin 1024 := ⟨a.val * 128 + d.val, by omega⟩
theorem headOf_chan (a : Fin 8) (d : Fin 128) : headOf (chan a d) = a := Fin.ext (by show (a.val * 128 + d.val) / 128 = a.val; omega)
theorem within_chan (a : Fin 8) (d : Fin 128) : within (chan a d) = d := Fin.ext (by show (a.val * 128 + d.val) % 128 = d.val; omega)

section Spec
variable (f : Fin 4096 → Fin 8 → EReal)

/-- The sum of head `h`'s log forget values after position `s`. -/
def suf (s : Fin 4096) (h : Fin 8) : EReal := ∑ j : Fin 4096, if s.val < j.val then f j h else 0

/-- The pages of suffix sums, a page's rows side by side; pages past the sequence are zero. -/
def pages (p : Fin 128) (q : Fin 1024) : EReal :=
  if hp : p.val < 32 then suf f ⟨p.val * 128 + q.val % 128, by omega⟩ (headOf q) else 0

/-- The pages of log forget values; pages past the sequence are zero. -/
def page (p : Fin 128) (q : Fin 1024) : EReal :=
  if hp : p.val < 32 then f ⟨p.val * 128 + q.val % 128, by omega⟩ (headOf q) else 0

/-- One where the position comes after within the page, of the same head. -/
def wm (k q : Fin 1024) : EReal := if headOf k = headOf q ∧ within q < within k then 1 else 0
/-- One at the same head. -/
def bm (k q : Fin 1024) : EReal := if headOf k = headOf q then 1 else 0
/-- One where the page comes after. -/
def um (p k : Fin 128) : EReal := if p < k then 1 else 0

theorem wm_or (k q : Fin 1024) : wm k q = 0 ∨ wm k q = 1 := by unfold wm; split <;> simp
theorem bm_or (k q : Fin 1024) : bm k q = 0 ∨ bm k q = 1 := by unfold bm; split <;> simp
theorem um_or (p k : Fin 128) : um p k = 0 ∨ um p k = 1 := by unfold um; split <;> simp

theorem page_ne_top (hf : ∀ j h, f j h ≠ ⊤) (p : Fin 128) (q : Fin 1024) : page f p q ≠ ⊤ := by
  unfold page
  split
  · exact hf _ _
  · simp

theorem page_chan (p : Fin 128) (hp : p.val < 32) (h : Fin 8) (d : Fin 128) : page f p (chan h d) = f ⟨p.val * 128 + d.val, by omega⟩ h := by
  unfold page
  rw [dif_pos hp]
  have e : (chan h d).val % 128 = d.val := congrArg Fin.val (within_chan h d)
  simp only [headOf_chan, e]
theorem page_past (p : Fin 128) (hp : ¬p.val < 32) (q : Fin 1024) : page f p q = 0 := dif_neg hp

/-- A sum over channels of one head's terms is a sum over the page's positions. -/
theorem sum_head (g : Fin 1024 → EReal) (P : Fin 128 → Prop) [DecidablePred P] (h : Fin 8) :
    (∑ k, g k * if headOf k = h ∧ P (within k) then (1 : EReal) else 0) = ∑ d : Fin 128, if P d then g (chan h d) else 0 := by
  rw [sum_split 8 128 1024 rfl]
  show (∑ a : Fin 8, ∑ d : Fin 128, g (chan a d) * if headOf (chan a d) = h ∧ P (within (chan a d)) then (1 : EReal) else 0) = _
  simp only [headOf_chan, within_chan]
  rw [Finset.sum_eq_single h]
  · refine Finset.sum_congr rfl fun d _ => ?_
    by_cases hd : P d
    · rw [if_pos ⟨rfl, hd⟩, if_pos hd, mul_one]
    · rw [if_neg (fun e => hd e.2), if_neg hd, mul_zero]
  · intro a _ ha
    refine Finset.sum_eq_zero fun d _ => ?_
    rw [if_neg (fun e => ha e.1), mul_zero]
  · intro hn; exact absurd (Finset.mem_univ h) hn

/-- The sum within the page and the sum over the later pages are the sum over all later positions. -/
theorem pages_eq (p : Fin 128) (q : Fin 1024) :
    ∑ k, page f p k * wm k q + ∑ k, (∑ r, um p r * page f r k) * bm k q = pages f p q := by
  have e1 : ∑ k, page f p k * wm k q = ∑ d : Fin 128, if within q < d then page f p (chan (headOf q) d) else 0 :=
    sum_head (fun k => page f p k) (fun d => within q < d) (headOf q)
  have e2 : ∑ k, (∑ r, um p r * page f r k) * bm k q = ∑ d : Fin 128, ∑ r, um p r * page f r (chan (headOf q) d) := by
    have := sum_head (fun k => ∑ r, um p r * page f r k) (fun _ => True) (headOf q)
    simp only [and_true, if_true] at this
    exact this
  have e3 : ∀ d : Fin 128, ∑ r, um p r * page f r (chan (headOf q) d)
      = ∑ r : Fin 32, if p.val < r.val then f ⟨r.val * 128 + d.val, by omega⟩ (headOf q) else 0 := fun d => by
    have := Fin.sum_univ_add (a := 32) (b := 96) (fun r : Fin 128 => um p r * page f r (chan (headOf q) d))
    refine this.trans ?_
    have z : ∑ i : Fin 96, um p (Fin.natAdd 32 i : Fin (32 + 96)) * page f (Fin.natAdd 32 i : Fin (32 + 96)) (chan (headOf q) d) = 0 := by
      refine Finset.sum_eq_zero fun i _ => ?_
      rw [page_past f _ (by show ¬(32 + i.val < 32); omega), mul_zero]
    rw [z, add_zero]
    refine Finset.sum_congr rfl fun r _ => ?_
    rw [page_chan f _ (by exact r.isLt)]
    unfold um
    rw [ite_mul, one_mul, zero_mul]
    rfl
  rw [e1, e2, Finset.sum_congr rfl fun d _ => e3 d]
  unfold pages
  by_cases hp : p.val < 32
  · rw [dif_pos hp]
    unfold suf
    rw [sum_split 32 128 4096 rfl]
    conv_rhs => rw [Finset.sum_comm]
    rw [← Finset.sum_add_distrib]
    refine Finset.sum_congr rfl fun d _ => ?_
    dsimp only
    have w : (if within q < d then page f p (chan (headOf q) d) else 0)
        = ∑ r : Fin 32, if r = (⟨p.val, hp⟩ : Fin 32) ∧ within q < d then f ⟨r.val * 128 + d.val, by omega⟩ (headOf q) else 0 := by
      rw [Finset.sum_eq_single (⟨p.val, hp⟩ : Fin 32)]
      · rw [page_chan f p hp]; simp only [true_and]
      · intro r _ hr; exact if_neg fun e => hr e.1
      · intro hn; exact absurd (Finset.mem_univ _) hn
    rw [w, ← Finset.sum_add_distrib]
    refine Finset.sum_congr rfl fun r _ => ?_
    have hd := d.isLt
    have hq : (within q).val < 128 := (within q).isLt
    have hw : (within q).val = q.val % 128 := rfl
    rcases lt_trichotomy p.val r.val with h | h | h
    · rw [if_neg (fun e => by have := congrArg Fin.val e.1; dsimp only at this; omega), if_pos h, if_pos (by omega), zero_add]
    · have er : r = (⟨p.val, hp⟩ : Fin 32) := Fin.ext h.symm
      rw [if_neg (by omega : ¬p.val < r.val), add_zero]
      by_cases hlt : within q < d
      · have : (within q).val < d.val := hlt
        rw [if_pos ⟨er, hlt⟩, if_pos (by omega)]
      · have : ¬(within q).val < d.val := hlt
        rw [if_neg (fun e => hlt e.2), if_neg (by omega)]
    · rw [if_neg (fun e => by have := congrArg Fin.val e.1; dsimp only at this; omega), if_neg (by omega), if_neg (by omega), zero_add]
  · rw [dif_neg hp]
    have z1 : ∑ d : Fin 128, (if within q < d then page f p (chan (headOf q) d) else 0) = 0 :=
      Finset.sum_eq_zero fun d _ => by rw [page_past f p hp]; split <;> rfl
    have z2 : ∑ d : Fin 128, ∑ r : Fin 32, (if p.val < r.val then f ⟨r.val * 128 + d.val, by omega⟩ (headOf q) else 0) = 0 :=
      Finset.sum_eq_zero fun d _ => Finset.sum_eq_zero fun r _ => if_neg (by omega)
    rw [z1, z2, add_zero]

end Spec

end Cert.Suffix
-- ==== Proof.SufArg.lean ====
/-
  The suffix sum call: what its body computes from its blocks, and what it finds in the arrays its host code prepared: the
  pages of log forget values and the three tables of zeros and ones.
-/
module

public import proofs.«01_k».proof.Proof.SufSpec
public import proofs.«01_k».proof.Proof.Gen.Kernel5Ideal.Value
public import Idealize.ShloMosaic.Lib.Pointwise
public import Idealize.ShloMosaic.Lib.Pipeline.ValueKit

@[expose] public section

set_option maxRecDepth 16384

noncomputable section

namespace Cert.Suffix

open Idealize.ShloMosaic Idealize.ShloMosaic.TcCoe Idealize.SL.Sem
open Cert.Kernel5Ideal Cert.Kernel5Ideal.Gen

/-! ## The body -/

theorem pay3_apply (v0 : Vec Ideal S1x128x1024 .f32) (v2 : Vec Ideal S1024x1024 .bf16) (p : Fin 128) (q : Fin 1024) :
    k0_pay3 v0 v2 (ix2 p q) = ∑ k : Fin 1024, v0 (ix3 0 p k) * v2 (ix2 k q) + ∑ k : Fin 1024, (v0 (ix3 0 p k) - v0 (ix3 0 p k)) * v2 (ix2 k q)
      + ∑ k : Fin 1024, (v0 (ix3 0 p k) - v0 (ix3 0 p k) - (v0 (ix3 0 p k) - v0 (ix3 0 p k))) * v2 (ix2 k q) := by
  unfold k0_pay3 k0_pay2
  pointwise [dot_S128x1024_S1024x1024_S128x1024_1_0_0_1_n_n]

theorem pay4_apply (v0 : Vec Ideal S1x128x1024 .f32) (v18 : Vec Ideal S128x128 .bf16) (p : Fin 128) (q : Fin 1024) :
    k0_pay4 v0 v18 (ix2 p q) = ∑ k : Fin 128, v18 (ix2 p k) * v0 (ix3 0 k q) + ∑ k : Fin 128, v18 (ix2 p k) * (v0 (ix3 0 k q) - v0 (ix3 0 k q))
      + ∑ k : Fin 128, v18 (ix2 p k) * (v0 (ix3 0 k q) - v0 (ix3 0 k q) - (v0 (ix3 0 k q) - v0 (ix3 0 k q))) := by
  unfold k0_pay4 k0_pay2
  pointwise [dot_S128x128_S128x1024_S128x1024_1_0_0_1_n_n]

theorem pay1_apply (v17 : FVec Ideal S128x1024 .f32) (v35 : FVec Ideal S1024x1024 .bf16) (v36 v39 : FVec Ideal S128x1024 .bf16) (v41 : FVec Ideal S128x1024 .f32)
    (p : Fin 128) (q : Fin 1024) :
    k0_pay1 v17 v35 v36 v39 v41 (ix3 0 p q) = v17 (ix2 p q) + (∑ k : Fin 1024, v36 (ix2 p k) * v35 (ix2 k q) + ∑ k : Fin 1024, v39 (ix2 p k) * v35 (ix2 k q)
      + ∑ k : Fin 1024, v41 (ix2 p k) * v35 (ix2 k q)) := by
  unfold k0_pay1
  pointwise [dot_S128x1024_S1024x1024_S128x1024_1_0_0_1_n_n]

theorem pay5_apply (v34 : Vec Ideal S1024x1024 .bf16) (k q : Fin 1024) : k0_pay5 v34 (ix2 k q) = v34 (ix2 k q) := by
  unfold k0_pay5
  pointwise

/-! ## The host code's arrays, read at an index -/

theorem pad_apply (x : FVec Ideal S8448x128 .f32) (z : FVec Ideal S_ .f32) (b : Fin 2) (p : Fin 128) (q : Fin 1024) :
    pad S2x128x1024 ![0, 0, 0] ![0, 96, 0] ![0, 0, 0]
      (shapeCast S2x32x1024 (transpose S2x32x8x128 [0, 1, 3, 2] (shapeCast S2x32x128x8
        (extractStridedSlice S8192x8 ![0, 0] (extractStridedSlice S8448x8 ![0, 0] x slices_S8448x128_S8448x8_0_0) slices_S8448x8_S8192x8_0_0)
        shapeCasts_S8192x8_S2x32x128x8) transposes_S2x32x128x8_S2x32x8x128_0_1_3_2) shapeCasts_S2x32x8x128_S2x32x1024)
      z pads_S2x32x1024_S2x128x1024_000_0960_000 h_S_ (ix3 b p q)
    = if hp : p.val < 32 then x (ix2 ⟨b.val * 4096 + (p.val * 128 + q.val % 128), by omega⟩ ⟨q.val / 128, by omega⟩) else z (Shape.Idx.first h_S_) := by
  pointwise
  simp only [Nat.add_assoc]

theorem same_apply (a : IVec S1024 32) (k q : Fin 1024) :
    cmpi .eq (broadcastInDim S1024x1024 ![0, 1] bcast_S1024x1_S1024x1024_0_1 (broadcastInDim S1024x1 ![0] bcast_S1024_S1024x1_0 a))
      (broadcastInDim S1024x1024 ![0, 1] bcast_S1x1024_S1024x1024_0_1 (broadcastInDim S1x1024 ![1] bcast_S1024_S1x1024_1 a)) (ix2 k q)
    = IntOp.cmpi .eq (a (ix1 k)) (a (ix1 q)) := by
  pointwise

theorem after_apply (a : IVec S1024 32) (k q : Fin 1024) :
    cmpi .sgt (broadcastInDim S1024x1024 ![0, 1] bcast_S1024x1_S1024x1024_0_1 (broadcastInDim S1024x1 ![0] bcast_S1024_S1024x1_0 a))
      (broadcastInDim S1024x1024 ![0, 1] bcast_S1x1024_S1024x1024_0_1 (broadcastInDim S1x1024 ![1] bcast_S1024_S1x1024_1 a)) (ix2 k q)
    = IntOp.cmpi .sgt (a (ix1 k)) (a (ix1 q)) := by
  pointwise

theorem later_apply (a : IVec S128 32) (p k : Fin 128) :
    cmpi .sgt (broadcastInDim S128x128 ![0, 1] bcast_S1x128_S128x128_0_1 (broadcastInDim S1x128 ![1] bcast_S128_S1x128_1 a))
      (broadcastInDim S128x128 ![0, 1] bcast_S128x1_S128x128_0_1 (broadcastInDim S128x1 ![0] bcast_S128_S128x1_0 a)) (ix2 p k)
    = IntOp.cmpi .sgt (a (ix1 k)) (a (ix1 p)) := by
  pointwise

/-- A channel's head, as a word. -/
def heads : IVec S1024 32 := Host.divsi (iotaInDim S1024 32 0) (broadcastInDim S1024 ![] bcast_S_S1024 (constantI S_ 32 128#32))
/-- A channel's position within its page, as a word. -/
def spots : IVec S1024 32 := Host.remsi (iotaInDim S1024 32 0) (broadcastInDim S1024 ![] bcast_S_S1024 (constantI S_ 32 128#32))

theorem heads_word : ∀ k : Fin 1024, IntOp.divsi .host (BitVec.ofNat 32 k.val) 128#32 = BitVec.ofNat 32 (headOf k).val := by decide +kernel
theorem spots_word : ∀ k : Fin 1024, IntOp.remsi .host (BitVec.ofNat 32 k.val) 128#32 = BitVec.ofNat 32 (within k).val := by decide +kernel
theorem heads_apply (k : Fin 1024) : heads (ix1 k) = BitVec.ofNat 32 (headOf k).val := heads_word k
theorem spots_apply (k : Fin 1024) : spots (ix1 k) = BitVec.ofNat 32 (within k).val := spots_word k

theorem eq_word : ∀ a b : Fin 8, IntOp.cmpi .eq (BitVec.ofNat 32 a.val) (BitVec.ofNat 32 b.val) = if a = b then 1#1 else 0#1 := by decide +kernel
theorem gt_word : ∀ a b : Fin 128, IntOp.cmpi .sgt (BitVec.ofNat 32 a.val) (BitVec.ofNat 32 b.val) = if b < a then 1#1 else 0#1 := by decide +kernel

theorem uitofp_bit (P : Prop) [Decidable P] : (FloatOps.uitofp .bf16 (if P then 1#1 else 0#1) : Ideal .bf16) = if P then (1 : EReal) else 0 := by
  split
  · show ((((1#1 : BitVec 1).toNat : ℝ)) : EReal) = 1
    simp
  · show ((((0#1 : BitVec 1).toNat : ℝ)) : EReal) = 0
    simp

end Cert.Suffix
-- ==== Proof.SufValue.lean ====
/-
  The suffix sum call's result: for each head, the sum of the log forget values after each position of a sequence, a page's
  rows side by side.
-/
module

public import proofs.«01_k».proof.Proof.SufArg
public import proofs.«01_k».proof.Proof.Gen.Reference5Ideal.Run
public import proofs.«01_k».proof.Proof.Gen.Reference5Ideal.Read
public import Idealize.ShloMosaic.Lib.Pointwise
public import Idealize.ShloMosaic.Lib.Pipeline.ValueKit

@[expose] public section

set_option maxRecDepth 16384

noncomputable section

namespace Cert.Suffix

open Idealize.ShloMosaic Idealize.ShloMosaic.TcCoe Idealize.SL.Sem

section Kernel
open Cert.Kernel5Ideal Cert.Kernel5Ideal.Gen

variable (m : (ℓ : Loc nD τ sig) → Buf (Elt Ideal) ℓ) (c : Dev nD)

/-- The log forget values of sequence `b`, by position and head. -/
abbrev aF (b : Fin 2) : Fin 4096 → Fin 8 → EReal := fun s h =>
  m ((c : Thread nD τ).loc main_arg0) (ix2 ⟨b.val * 4096 + s.val, by omega⟩ ⟨h.val, by omega⟩)

/-! ## The arrays as the call finds them -/

theorem V_pages (b : Fin 2) (p : Fin 128) (q : Fin 1024) : V m c main_v5 (ix3 b p q) = page (aF m c b) p q := by
  have e : V m c main_v5 = pad S2x128x1024 ![0, 0, 0] ![0, 96, 0] ![0, 0, 0]
      (shapeCast S2x32x1024 (transpose S2x32x8x128 [0, 1, 3, 2] (shapeCast S2x32x128x8
        (extractStridedSlice S8192x8 ![0, 0] (extractStridedSlice S8448x8 ![0, 0] (m ((c : Thread nD τ).loc main_arg0)) slices_S8448x128_S8448x8_0_0) slices_S8448x8_S8192x8_0_0)
        shapeCasts_S8192x8_S2x32x128x8) transposes_S2x32x128x8_S2x32x8x128_0_1_3_2) shapeCasts_S2x32x8x128_S2x32x1024)
      (sitofp (F := Ideal) .f32 (constantI S_ 32 0#32)) pads_S2x32x1024_S2x128x1024_000_0960_000 h_S_ := by
    simp only [V, hostOps0, hostOps0_1, hostOps0_2, List.flatten_cons, List.flatten_nil, List.append_nil, List.cons_append, List.nil_append]
    after_results_simp <;> rfl
  rw [e]
  refine (pad_apply _ _ b p q).trans ?_
  unfold page
  by_cases hp : p.val < 32
  · rw [dif_pos hp, dif_pos hp]; rfl
  · rw [dif_neg hp, dif_neg hp]
    show ((((0#32 : BitVec 32).toInt : ℝ)) : EReal) = 0
    simp

theorem V_same (k q : Fin 1024) : V m c main_v29 (ix2 k q) = bm k q := by
  have e : V m c main_v29 = uitofp (F := Ideal) .bf16 (cmpi .eq
      (broadcastInDim S1024x1024 ![0, 1] bcast_S1024x1_S1024x1024_0_1 (broadcastInDim S1024x1 ![0] bcast_S1024_S1024x1_0 heads))
      (broadcastInDim S1024x1024 ![0, 1] bcast_S1x1024_S1024x1024_0_1 (broadcastInDim S1x1024 ![1] bcast_S1024_S1x1024_1 heads))) := by
    simp only [V, hostOps0, hostOps0_1, hostOps0_2, List.flatten_cons, List.flatten_nil, List.append_nil, List.cons_append, List.nil_append]
    after_results_simp <;> rfl
  rw [e]
  refine (congrArg (FloatOps.uitofp (F := Ideal) .bf16) ?_).trans (uitofp_bit (headOf k = headOf q))
  refine (same_apply heads k q).trans ?_
  rw [heads_apply, heads_apply]
  exact eq_word _ _

theorem V_within (k q : Fin 1024) : V m c main_v28 (ix2 k q) = wm k q := by
  have e : V m c main_v28 = uitofp (F := Ideal) .bf16 (andi
      (cmpi .eq
        (broadcastInDim S1024x1024 ![0, 1] bcast_S1024x1_S1024x1024_0_1 (broadcastInDim S1024x1 ![0] bcast_S1024_S1024x1_0 heads))
        (broadcastInDim S1024x1024 ![0, 1] bcast_S1x1024_S1024x1024_0_1 (broadcastInDim S1x1024 ![1] bcast_S1024_S1x1024_1 heads)))
      (cmpi .sgt
        (broadcastInDim S1024x1024 ![0, 1] bcast_S1024x1_S1024x1024_0_1 (broadcastInDim S1024x1 ![0] bcast_S1024_S1024x1_0 spots))
        (broadcastInDim S1024x1024 ![0, 1] bcast_S1x1024_S1024x1024_0_1 (broadcastInDim S1x1024 ![1] bcast_S1024_S1x1024_1 spots)))) := by
    simp only [V, hostOps0, hostOps0_1, hostOps0_2, List.flatten_cons, List.flatten_nil, List.append_nil, List.cons_append, List.nil_append]
    after_results_simp <;> rfl
  rw [e]
  refine (congrArg (FloatOps.uitofp (F := Ideal) .bf16) ?_).trans (uitofp_bit (headOf k = headOf q ∧ within q < within k))
  refine (congrArg₂ (· &&& ·) (same_apply heads k q) (after_apply spots k q)).trans ?_
  rw [heads_apply, heads_apply, spots_apply, spots_apply, eq_word, gt_word]
  by_cases h1 : headOf k = headOf q <;> by_cases h2 : within q < within k <;> simp only [h1, h2, if_true, if_false, and_true, and_false, true_and, false_and] <;> rfl

theorem V_later (p k : Fin 128) : V m c main_v30 (ix2 p k) = um p k := by
  have e : V m c main_v30 = uitofp (F := Ideal) .bf16 (cmpi .sgt
      (broadcastInDim S128x128 ![0, 1] bcast_S1x128_S128x128_0_1 (broadcastInDim S1x128 ![1] bcast_S128_S1x128_1 (iotaInDim S128 32 0)))
      (broadcastInDim S128x128 ![0, 1] bcast_S128x1_S128x128_0_1 (broadcastInDim S128x1 ![0] bcast_S128_S128x1_0 (iotaInDim S128 32 0)))) := by
    simp only [V, hostOps0, hostOps0_1, hostOps0_2, List.flatten_cons, List.flatten_nil, List.append_nil, List.cons_append, List.nil_append]
    after_results_simp <;> rfl
  rw [e]
  refine (congrArg (FloatOps.uitofp (F := Ideal) .bf16) ?_).trans (uitofp_bit (p < k))
  refine (later_apply _ p k).trans ?_
  exact gt_word k p

/-! ## The blocks -/

/-- The index maps over the grid. -/
theorem idx_facts : ∀ t : Fin cfg0.N,
    win0_0.index t = ![t.val, 0, 0] ∧ win0_1.index t = ![0, 0] ∧ win0_2.index t = ![0, 0] ∧ win0_3.index t = ![0, 0]
    ∧ win0_4.index t = ![t.val, 0, 0] :=
  (by decide +kernel : ∀ t : Fin grid0.N, _)

theorem tlt (t : Fin cfg0.N) : t.val < 2 := lt_of_lt_of_eq t.isLt N_0

/-- The sequence a point works on. -/
def seq (t : Fin cfg0.N) : Fin 2 := ⟨t.val, tlt t⟩

theorem blk_pages (t : Fin cfg0.N) (p : Fin 128) (q : Fin 1024) : iblk m c 0 t (ix3 0 p q) = page (aF m c (seq t)) p q := by
  obtain ⟨e, -⟩ := idx_facts t
  rw [← V_pages m c]
  blk_simp [iblk]
  congr 1
  blk_ext [e, seq]

theorem blk_within (t : Fin cfg0.N) (k q : Fin 1024) : iblk m c 1 t (ix2 k q) = wm k q := by
  obtain ⟨-, e, -⟩ := idx_facts t
  rw [← V_within m c]
  blk_simp [iblk]
  congr 1
  blk_ext [e]

theorem blk_same (t : Fin cfg0.N) (k q : Fin 1024) : iblk m c 2 t (ix2 k q) = bm k q := by
  obtain ⟨-, -, e, -⟩ := idx_facts t
  rw [← V_same m c]
  blk_simp [iblk]
  congr 1
  blk_ext [e]

theorem blk_later (t : Fin cfg0.N) (p k : Fin 128) : iblk m c 3 t (ix2 p k) = um p k := by
  obtain ⟨-, -, -, e, -⟩ := idx_facts t
  rw [← V_later m c]
  blk_simp [iblk]
  congr 1
  blk_ext [e]

/-! ## What a point stores -/

section Point
variable (f : Fin 4096 → Fin 8 → EReal) (hf : ∀ j h, f j h ≠ ⊤)
  (x0 : Vec Ideal S1x128x1024 .f32) (x1 x2 : Vec Ideal S1024x1024 .bf16) (x3 : Vec Ideal S128x128 .bf16)
  (h0 : ∀ p q, x0 (ix3 0 p q) = page f p q) (h1 : ∀ k q, x1 (ix2 k q) = wm k q) (h2 : ∀ k q, x2 (ix2 k q) = bm k q)
  (h3 : ∀ p k, x3 (ix2 p k) = um p k)

include hf h0 h3 in
theorem later_eq (p : Fin 128) (q : Fin 1024) : k0_pay4 x0 x3 (ix2 p q) = ∑ r, um p r * page f r q := by
  refine (pay4_apply x0 x3 p q).trans ?_
  simp only [h0, h3]
  have := parts_sum (fun r => page f r q) (fun r => um p r) (fun r => page_ne_top f hf r q) (fun r => um_or p r)
  simp only [mul_comm _ (um p _)] at this
  exact this

include hf in
theorem later_ne_top (p : Fin 128) (q : Fin 1024) : ∑ r, um p r * page f r q ≠ ⊤ := by
  refine sum_ne_top _ (fun r => ?_) _
  rcases um_or p r with h | h
  · rw [h, zero_mul]; simp
  · rw [h, one_mul]; exact page_ne_top f hf r q

include hf h0 h1 h2 h3 in
theorem point_eq (p : Fin 128) (q : Fin 1024) :
    k0_pay1 (k0_pay3 x0 x1) (k0_pay5 x2) (k0_pay6 x0 x3) (k0_pay8 x0 x3) (k0_pay9 x0 x3) (ix3 0 p q) = pages f p q := by
  have hL := later_eq f hf x0 x3 h0 h3
  refine (pay1_apply _ _ _ _ _ p q).trans ?_
  rw [← pages_eq f p q]
  refine congrArg₂ (· + ·) ?_ ?_
  · refine (pay3_apply x0 x1 p q).trans ?_
    simp only [h0, h1]
    exact parts_sum (fun k => page f p k) (fun k => wm k q) (fun k => page_ne_top f hf p k) (fun k => wm_or k q)
  · rw [← parts_sum (fun k => ∑ r, um p r * page f r k) (fun k => bm k q) (fun k => later_ne_top f hf p k) (fun k => bm_or k q)]
    have e6 : ∀ k, k0_pay6 x0 x3 (ix2 p k) = ∑ r, um p r * page f r k := fun k => hL p k
    have e8 : ∀ k, k0_pay8 x0 x3 (ix2 p k) = (∑ r, um p r * page f r k) - ∑ r, um p r * page f r k := fun k => by
      rw [← hL p k]; rfl
    have e9 : ∀ k, k0_pay9 x0 x3 (ix2 p k) = (∑ r, um p r * page f r k) - (∑ r, um p r * page f r k)
        - ((∑ r, um p r * page f r k) - ∑ r, um p r * page f r k) := fun k => by
      rw [← hL p k]; rfl
    simp only [pay5_apply, h2, e6, e8, e9]

end Point

variable (hf : ∀ b j h, aF m c b j h ≠ ⊤)

include hf in
theorem out_at (t : Fin cfg0.N) (p : Fin 128) (q : Fin 1024) :
    (dats m 0 c).after 4 t (ix3 0 p q) = pages (aF m c (seq t)) p q := by
  rw [after0_4]
  frame_out
  exact point_eq (aF m c (seq t)) (hf (seq t)) _ _ _ _ (blk_pages m c t) (blk_within m c t) (blk_same m c t) (blk_later m c t) p q

/-- The kernel's result array. -/
def G : Buf (Elt Ideal) ((c : Thread nD τ).loc main_v31) := fun i => pages (aF m c (i 0)) (i 1) (i 2)

include hf in
theorem result : (dats m 0 c).arrAt 4 cfg0.N = G m c := by
  refine (dats m 0 c).arrAt_eq_of_covers 4 _ (by decide +kernel) fun t _ y => ?_
  obtain ⟨-, -, -, -, e⟩ := idx_facts t
  blk_simp
  obtain ⟨p, q, rfl⟩ : ∃ (p : Fin 128) (q : Fin 1024), y = ix3 0 p q := ⟨y 1, y 2, by rw [eq_ix3 y]; congr 1; exact Subsingleton.elim (α := Fin 1) _ _⟩
  have hemb : (win0_4.blk t).view.emb (ix3 0 p q) = ix3 (seq t) p q := by blk_ext [e, seq]
  rw [hemb]
  exact out_at m c hf t p q

end Kernel

section Ref
open Cert.Reference5Ideal Cert.Reference5Ideal.Read

/-- The mask: position `j` comes after position `s`. -/
theorem after_word (j s : Fin 4096) : IntOp.cmpi .sgt (BitVec.ofNat 32 j.val) (BitVec.ofNat 32 s.val) = BitVec.ofBool (decide (s.val < j.val)) := by
  have hp : ∀ n : Fin 4096, (BitVec.ofNat 32 n.val).toInt = n.val := fun n => by
    rw [BitVec.toInt_eq_toNat_of_lt (by rw [BitVec.toNat_ofNat]; omega), BitVec.toNat_ofNat, Nat.mod_eq_of_lt (by omega)]
  show BitVec.ofBool ((BitVec.ofNat 32 s.val).slt (BitVec.ofNat 32 j.val)) = _
  refine congrArg BitVec.ofBool ?_
  unfold BitVec.slt
  rw [hp, hp]
  exact decide_eq_decide.2 Int.ofNat_lt

theorem sum_apply (x0 : (⟨S8448x128, .f32⟩ : BufTy).Contents (Elt Ideal)) (b : Fin 2) (p : Fin 32) (d : Fin 128) (h : Fin 8) :
    val_main_v12 (F := Ideal) x0 (ix4 b p d h)
      = suf (fun s h => x0 (ix2 ⟨b.val * 4096 + s.val, by omega⟩ ⟨h.val, by omega⟩)) ⟨p.val * 128 + d.val, by omega⟩ h := by
  unfold val_main_v12 val_main_v11 val_main_v10 val_main_call0_v1 val_main_call0_v2 val_main_call0_v3 val_main_call0_v0 val_main_cst val_main_cst_0
    val_main_v9 val_main_v8 val_main_v7 val_main_v6 val_main_v5 val_main_v4 val_main_v3 val_main_v2 val_main_v1 val_main_v0
  pointwise
  unfold suf
  refine Finset.sum_congr rfl fun j _ => ?_
  have hw := after_word j ⟨p.val * 128 + d.val, by omega⟩
  dsimp only at hw ⊢
  rw [hw]
  by_cases hj : p.val * 128 + d.val < j.val
  · rw [decide_eq_true hj, if_pos hj]; rfl
  · rw [decide_eq_false hj, if_neg hj]
    show Ideal.ofBits .f32 0#32 = 0
    unfold Ideal.ofBits
    simp [Ideal.ieee]

theorem padded_apply (y : FVec Ideal S2x32x128x8 .f32) (z : FVec Ideal S_ .f32) (b : Fin 2) (p : Fin 128) (q : Fin 1024) :
    shapeCast S2x128x1024 (transpose S2x128x8x128 [0, 1, 3, 2]
      (pad S2x128x128x8 ![0, 0, 0, 0] ![0, 96, 0, 0] ![0, 0, 0, 0] y z Gen.pads_S2x32x128x8_S2x128x128x8_000_0960_000_000 Gen.h_S_)
      Gen.transposes_S2x128x128x8_S2x128x8x128_0_1_3_2) Gen.shapeCasts_S2x128x8x128_S2x128x1024 (ix3 b p q)
    = if hp : p.val < 32 then y (ix4 b ⟨p.val, hp⟩ (within q) (headOf q)) else z (Shape.Idx.first Gen.h_S_) := by
  pointwise
  split
  · next h =>
    split
    · rfl
    · next hp => exact absurd h.1 hp
  · next h =>
    split
    · next hp => exact absurd ⟨hp, by omega, by omega⟩ h
    · rfl

theorem pad_value : val_main_call1_v0 (F := Ideal) (Shape.Idx.first Gen.h_S_) = (0 : EReal) := by
  show ((((0#32 : BitVec 32).toInt : ℝ)) : EReal) = 0
  simp

theorem ref_apply (x0 : (⟨S8448x128, .f32⟩ : BufTy).Contents (Elt Ideal)) (b : Fin 2) (p : Fin 128) (q : Fin 1024) :
    val_main_v15 (F := Ideal) x0 (ix3 b p q)
      = pages (fun s h => x0 (ix2 ⟨b.val * 4096 + s.val, by omega⟩ ⟨h.val, by omega⟩)) p q := by
  have hs := fun (p : Fin 32) => sum_apply x0 b p (within q) (headOf q)
  unfold val_main_v15 val_main_v14 val_main_v13
  refine (padded_apply _ _ b p q).trans ?_
  rw [pad_value]
  unfold pages
  generalize val_main_v12 (F := Ideal) x0 = y at hs ⊢
  by_cases hp : p.val < 32
  · rw [dif_pos hp, dif_pos hp]
    exact hs ⟨p.val, hp⟩
  · rw [dif_neg hp, dif_neg hp]

end Ref

end Cert.Suffix
-- ==== Proof.SufClaim.lean ====
/-
  The suffix sums' claims: the frames of the two readings and of the reference, and equality of the two results when no log
  forget value of the prompt rows is plus infinity.
-/
module

public import proofs.«01_k».proof.Defs
public import proofs.«01_k».proof.Proof.SufValue
public import proofs.«01_k».proof.Proof.Gen.Kernel5.Frame
public import proofs.«01_k».proof.Proof.Gen.Pre_forget_below_inf
public import Idealize.ShloMosaic.Lib.Quiescent
public import Idealize.ShloMosaic.Lib.ReduceAll

@[expose] public section

set_option maxRecDepth 16384

noncomputable section

namespace Cert.Suffix

open Idealize.ShloMosaic Idealize.ShloMosaic.TcCoe Idealize.SL.Sem

theorem frame_kernel : Cert.quiescent_Kernel5 := fun m ρ _ => Cert.Kernel5.Gen.frame m ρ

theorem frame_kernel_ideal : Cert.quiescent_Kernel5Ideal := fun m ρ _ => Cert.Kernel5Ideal.Gen.frame m ρ

theorem frame_kernel_pre : Cert.quiescent_Kernel5Ideal_pre_forget_below_inf := fun m ρ _ => Cert.Kernel5Ideal.Gen.frame m ρ

theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run m ρ)

theorem frame_reference_pre : Cert.quiescent_Reference5Ideal_pre_forget_below_inf := fun m ρ _ => frame_reference m ρ trivial

/-- A number below infinity is not infinity. -/
theorem ne_top_of_lt (x : EReal) (h : Ideal.cmp .olt x (Ideal.ofBits .f32 0x7F800000#32) = 1#1) : x ≠ ⊤ := by
  have hi : Ideal.ofBits .f32 0x7F800000#32 = (⊤ : EReal) := by
    unfold Ideal.ofBits
    simp [Ideal.ieee]
  rw [hi] at h
  rintro rfl
  unfold Ideal.cmp at h
  dsimp only at h
  rw [decide_eq_false (lt_irrefl _)] at h
  revert h; decide

/-- The precondition: no log forget value of a prompt row is plus infinity. -/
theorem ne_top_of_fn (x0 : Vec Ideal Cert.Pre_forget_below_inf.S8448x128 .f32)
    (h : Cert.Pre_forget_below_inf.fn (F := Ideal) x0 = fun _ => 1#1) (r : Fin 8192) (k : Fin 8) :
    x0 (ix2 (⟨r.val, by omega⟩ : Fin 8448) (⟨k.val, by omega⟩ : Fin 128)) ≠ ⊤ := by
  have h := congrFun h (Shape.Idx.first Cert.Pre_forget_below_inf.Facts.h_S_)
  unfold Cert.Pre_forget_below_inf.fn at h
  dsimp only at h
  have : Subsingleton Cert.Pre_forget_below_inf.S_.Idx := ⟨fun a b => funext fun i => i.elim0⟩
  have := Host.reduce_andi_all _ _ _ _ _ h (ix2 r k)
  refine ne_top_of_lt _ ?_
  rw [← this]
  clear this h
  pointwise

/-- Kernel and reference end with the same array. -/
theorem algebraic : Cert.algebraic_Kernel5Ideal_Reference5Ideal_pre_forget_below_inf := by
  intro m ρ m' ρ' hpre hagree
  have H : ∀ c, ∀ b j h, aF m c b j h ≠ ⊤ := fun c b j h => ne_top_of_fn _ (hpre c) ⟨b.val * 4096 + j.val, by omega⟩ h
  refine ⟨fun c => G m c, (θ_run Cert.Kernel5Ideal.defs _ _).mono
    (fun r h c => ⟨(h c).1.trans (result m c (H c)), (h c).2⟩) (Cert.Kernel5Ideal.Value.run_blocks m ρ), ?_⟩
  refine (θ_run Cert.Reference5Ideal.defs _ _).mono (fun r h c => ⟨?_, (h c).2⟩) (Cert.Reference5Ideal.Value.run m' ρ')
  have e0 := hagree c
  rw [(h c).1]
  refine (Cert.Reference5Ideal.Read.val_main_v15_eq _).symm.trans ?_
  funext i
  rw [eq_ix3 i, e0]
  exact ref_apply _ (i 0) (i 1) (i 2)

end Cert.Suffix
-- ==== Proof.lean ====
module

public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Pre_logits_finite
public import proofs.«01_k».proof.Proof.Gen.On_head_lanes
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_forget_below_inf
public import Idealize.ShloMosaic.Adequacy
public import Idealize.ShloMosaic.Init
public import proofs.«01_k».proof.Proof.FfnClaim
public import proofs.«01_k».proof.Proof.OutClaim
public import proofs.«01_k».proof.Proof.FoxClaim
public import proofs.«01_k».proof.Proof.ProjClaim
public import proofs.«01_k».proof.Proof.SufClaim

@[expose] public section

set_option maxRecDepth 16384

noncomputable section

namespace Cert.Proof

open Idealize.ShloMosaic Idealize.SL.Sem

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Pre_logits_finite.Gen.facts, Cert.Pre_forget_below_inf.Gen.facts, Cert.On_head_lanes.Gen.facts,
  Cert.Fox.frame_kernel, Cert.Fox.frame_kernel_ideal, Cert.Fox.frame_kernel_pre, Cert.Fox.frame_reference, Cert.Fox.frame_reference_pre,
  Cert.Ffn.frame_kernel, Cert.Ffn.frame_kernel_ideal, Cert.Ffn.frame_reference,
  Cert.Proj.frame_kernel, Cert.Proj.frame_kernel_ideal, Cert.Proj.frame_reference,
  Cert.OutProj.frame_kernel, Cert.OutProj.frame_kernel_ideal, Cert.OutProj.frame_reference,
  Cert.Suffix.frame_kernel, Cert.Suffix.frame_kernel_ideal, Cert.Suffix.frame_kernel_pre, Cert.Suffix.frame_reference, Cert.Suffix.frame_reference_pre,
  trivial, Cert.Fox.algebraic, trivial, Cert.Ffn.algebraic, trivial, Cert.Proj.algebraic, trivial, Cert.OutProj.algebraic, trivial, Cert.Suffix.algebraic⟩

end Cert.Proof

end
